-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v49)) (v5 : (c : Dev Cert.KernelIdeal.nD) → Buf (Elt Ideal) ((c.tc : Thread Cert.KernelIdeal.nD Cert.KernelIdeal.τ).loc Cert.KernelIdeal.main_v47)) (v6 : (c : Dev Cert.KernelIdeal.nD) → Buf (Elt Ideal) ((c.tc : Thread Cert.KernelIdeal.nD Cert.KernelIdeal.τ).loc Cert.KernelIdeal.main_v57)) (v7 : (c : Dev Cert.KernelIdeal.nD) → Buf (Elt Ideal) ((c.tc : Thread Cert.KernelIdeal.nD Cert.KernelIdeal.τ).loc Cert.KernelIdeal.main_v58)) (v8 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v49) = v4 c
          ∧ r.2.mem ((c.tc : Thread Cert.KernelIdeal.nD Cert.KernelIdeal.τ).loc Cert.KernelIdeal.main_v47) = v5 c
          ∧ r.2.mem ((c.tc : Thread Cert.KernelIdeal.nD Cert.KernelIdeal.τ).loc Cert.KernelIdeal.main_v57) = v6 c
          ∧ r.2.mem ((c.tc : Thread Cert.KernelIdeal.nD Cert.KernelIdeal.τ).loc Cert.KernelIdeal.main_v58) = v7 c
          ∧ r.2.mem ((c.tc : Thread Cert.KernelIdeal.nD Cert.KernelIdeal.τ).loc Cert.KernelIdeal.main_v60) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v46) = v5 c
          ∧ r.2.mem ((c.tc : Thread Cert.ReferenceIdeal.nD Cert.ReferenceIdeal.τ).loc Cert.ReferenceIdeal.main_v73) = v6 c
          ∧ r.2.mem ((c.tc : Thread Cert.ReferenceIdeal.nD Cert.ReferenceIdeal.τ).loc Cert.ReferenceIdeal.main_v90) = v7 c
          ∧ r.2.mem ((c.tc : Thread Cert.ReferenceIdeal.nD Cert.ReferenceIdeal.τ).loc Cert.ReferenceIdeal.main_v139) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x20000x3 : Shape := ⟨3, ![4, 20000, 3]⟩
abbrev S4x256x20000 : Shape := ⟨3, ![4, 256, 20000]⟩
abbrev S256x256 : Shape := ⟨2, ![256, 256]⟩
abbrev S256 : Shape := ⟨1, ![256]⟩
abbrev S3x256 : Shape := ⟨2, ![3, 256]⟩
abbrev S3 : Shape := ⟨1, ![3]⟩
abbrev S300x3 : Shape := ⟨2, ![300, 3]⟩
abbrev S256x1 : Shape := ⟨2, ![256, 1]⟩
abbrev S3x1 : Shape := ⟨2, ![3, 1]⟩
abbrev S4x3x20000 : Shape := ⟨3, ![4, 3, 20000]⟩
abbrev S4x8x1x2500 : Shape := ⟨4, ![4, 8, 1, 2500]⟩
abbrev S1x256x20000 : Shape := ⟨3, ![1, 256, 20000]⟩
abbrev S1x3x20000 : Shape := ⟨3, ![1, 3, 20000]⟩
abbrev S1x8x1x2500 : Shape := ⟨4, ![1, 8, 1, 2500]⟩
abbrev S1x256x2500 : Shape := ⟨3, ![1, 256, 2500]⟩
abbrev S256x2500 : Shape := ⟨2, ![256, 2500]⟩
abbrev S3x2500 : Shape := ⟨2, ![3, 2500]⟩
abbrev S1x3x2500 : Shape := ⟨3, ![1, 3, 2500]⟩
abbrev S1x2500 : Shape := ⟨2, ![1, 2500]⟩
abbrev S1x1x1x2500 : Shape := ⟨4, ![1, 1, 1, 2500]⟩
abbrev S4x2x20000 : Shape := ⟨3, ![4, 2, 20000]⟩
abbrev S4x1x20000 : Shape := ⟨3, ![4, 1, 20000]⟩
abbrev S4x20000 : Shape := ⟨2, ![4, 20000]⟩
abbrev S4x20000x1 : Shape := ⟨3, ![4, 20000, 1]⟩
abbrev S_ : Shape := ⟨0, ![]⟩
abbrev S4x20480 : Shape := ⟨2, ![4, 20480]⟩
abbrev S4x20x8x128 : Shape := ⟨4, ![4, 20, 8, 128]⟩
abbrev S20x4x8x128 : Shape := ⟨4, ![20, 4, 8, 128]⟩
abbrev S20x32x128 : Shape := ⟨3, ![20, 32, 128]⟩
abbrev S4x8x128 : Shape := ⟨3, ![4, 8, 128]⟩
abbrev S32x128 : Shape := ⟨2, ![32, 128]⟩
abbrev S1x32x128 : Shape := ⟨3, ![1, 32, 128]⟩
abbrev S4x128 : Shape := ⟨2, ![4, 128]⟩
abbrev S4x1x128 : Shape := ⟨3, ![4, 1, 128]⟩
abbrev S4x1 : Shape := ⟨2, ![4, 1]⟩
abbrev S4x1x1 : Shape := ⟨3, ![4, 1, 1]⟩
abbrev S4x1024 : Shape := ⟨2, ![4, 1024]⟩
abbrev S4x1024x1 : Shape := ⟨3, ![4, 1024, 1]⟩
abbrev S4x1024x3 : Shape := ⟨3, ![4, 1024, 3]⟩
abbrev S4x1x1024 : Shape := ⟨3, ![4, 1, 1024]⟩
abbrev S4x256x1024 : Shape := ⟨3, ![4, 256, 1024]⟩
abbrev S1x1x1024 : Shape := ⟨3, ![1, 1, 1024]⟩
abbrev S1x256x1024 : Shape := ⟨3, ![1, 256, 1024]⟩
abbrev S1x1024 : Shape := ⟨2, ![1, 1024]⟩
abbrev S2500x1024 : Shape := ⟨2, ![2500, 1024]⟩
abbrev S256x1024 : Shape := ⟨2, ![256, 1024]⟩
abbrev S4x3x1024 : Shape := ⟨3, ![4, 3, 1024]⟩
abbrev S4x9x1024 : Shape := ⟨3, ![4, 9, 1024]⟩
abbrev S1x3x1024 : Shape := ⟨3, ![1, 3, 1024]⟩
abbrev S1x9x1024 : Shape := ⟨3, ![1, 9, 1024]⟩
abbrev S3x1024 : Shape := ⟨2, ![3, 1024]⟩
abbrev S300x1 : Shape := ⟨2, ![300, 1]⟩
abbrev S300x1024 : Shape := ⟨2, ![300, 1024]⟩
abbrev S1024 : Shape := ⟨1, ![1024]⟩
abbrev S9x1024 : Shape := ⟨2, ![9, 1024]⟩
abbrev S4x1024x9 : Shape := ⟨3, ![4, 1024, 9]⟩
abbrev S4x1024x3x3 : Shape := ⟨4, ![4, 1024, 3, 3]⟩

abbrev nBuf : Space → Nat
  | .hbm => 98
  | .vmem => 50
  | .smem => 0
  | _ => 0

abbrev bufTy : (tb : Table) → Fin (tcTables nBuf tb) → BufTy
  | .hbm, ⟨0, _⟩ => ⟨S4x20000x3, .f32⟩
  | .hbm, ⟨1, _⟩ => ⟨S4x256x20000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S3x256, .f32⟩
  | .hbm, ⟨9, _⟩ => ⟨S3, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S3x256, .f32⟩
  | .hbm, ⟨17, _⟩ => ⟨S3, .f32⟩
  | .hbm, ⟨18, _⟩ => ⟨S300x3, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S3x1, .f32⟩
  | .hbm, ⟨25, _⟩ => ⟨S4x3x20000, .f32⟩
  | .hbm, ⟨26, _⟩ => ⟨S4x8x1x2500, .f32⟩
  | .hbm, ⟨27, _⟩ => ⟨S4x8x1x2500, .f32⟩
  | .hbm, ⟨28, _⟩ => ⟨S4x2x20000, .f32⟩
  | .hbm, ⟨29, _⟩ => ⟨S4x1x20000, .f32⟩
  | .hbm, ⟨30, _⟩ => ⟨S4x20000, .f32⟩
  | .hbm, ⟨31, _⟩ => ⟨S4x20000x1, .f32⟩
  | .hbm, ⟨32, _⟩ => ⟨S4x20000, .f32⟩
  | .hbm, ⟨33, _⟩ => ⟨S_, .i32⟩
  | .hbm, ⟨34, _⟩ => ⟨S_, .f32⟩
  | .hbm, ⟨35, _⟩ => ⟨S4x20480, .f32⟩
  | .hbm, ⟨36, _⟩ => ⟨S4x20x8x128, .f32⟩
  | .hbm, ⟨37, _⟩ => ⟨S20x4x8x128, .f32⟩
  | .hbm, ⟨38, _⟩ => ⟨S20x32x128, .f32⟩
  | .hbm, ⟨39, _⟩ => ⟨S4x20000x1, .f32⟩
  | .hbm, ⟨40, _⟩ => ⟨S4x20000, .f32⟩
  | .hbm, ⟨41, _⟩ => ⟨S_, .i32⟩
  | .hbm, ⟨42, _⟩ => ⟨S_, .f32⟩
  | .hbm, ⟨43, _⟩ => ⟨S4x20480, .f32⟩
  | .hbm, ⟨44, _⟩ => ⟨S4x20x8x128, .f32⟩
  | .hbm, ⟨45, _⟩ => ⟨S20x4x8x128, .f32⟩
  | .hbm, ⟨46, _⟩ => ⟨S20x32x128, .f32⟩
  | .hbm, ⟨47, _⟩ => ⟨S4x20000x1, .f32⟩
  | .hbm, ⟨48, _⟩ => ⟨S4x20000, .f32⟩
  | .hbm, ⟨49, _⟩ => ⟨S_, .i32⟩
  | .hbm, ⟨50, _⟩ => ⟨S_, .f32⟩
  | .hbm, ⟨51, _⟩ => ⟨S4x20480, .f32⟩
  | .hbm, ⟨52, _⟩ => ⟨S4x20x8x128, .f32⟩
  | .hbm, ⟨53, _⟩ => ⟨S20x4x8x128, .f32⟩
  | .hbm, ⟨54, _⟩ => ⟨S20x32x128, .f32⟩
  | .hbm, ⟨55, _⟩ => ⟨S4x20000, .f32⟩
  | .hbm, ⟨56, _⟩ => ⟨S_, .i32⟩
  | .hbm, ⟨57, _⟩ => ⟨S_, .f32⟩
  | .hbm, ⟨58, _⟩ => ⟨S4x20480, .f32⟩
  | .hbm, ⟨59, _⟩ => ⟨S4x20x8x128, .f32⟩
  | .hbm, ⟨60, _⟩ => ⟨S20x4x8x128, .f32⟩
  | .hbm, ⟨61, _⟩ => ⟨S20x32x128, .f32⟩
  | .hbm, ⟨62, _⟩ => ⟨S4x20000, .f32⟩
  | .hbm, ⟨63, _⟩ => ⟨S_, .i32⟩
  | .hbm, ⟨64, _⟩ => ⟨S_, .f32⟩
  | .hbm, ⟨65, _⟩ => ⟨S4x20480, .f32⟩
  | .hbm, ⟨66, _⟩ => ⟨S4x20x8x128, .f32⟩
  | .hbm, ⟨67, _⟩ => ⟨S20x4x8x128, .f32⟩
  | .hbm, ⟨68, _⟩ => ⟨S20x32x128, .f32⟩
  | .hbm, ⟨69, _⟩ => ⟨S4x8x128, .i32⟩
  | .hbm, ⟨70, _⟩ => ⟨S4x8x128, .f32⟩
  | .hbm, ⟨71, _⟩ => ⟨S4x8x128, .f32⟩
  | .hbm, ⟨72, _⟩ => ⟨S4x8x128, .f32⟩
  | .hbm, ⟨73, _⟩ => ⟨S4x8x128, .f32⟩
  | .hbm, ⟨74, _⟩ => ⟨S4x1024, .i32⟩
  | .hbm, ⟨75, _⟩ => ⟨S4x1024, .f32⟩
  | .hbm, ⟨76, _⟩ => ⟨S4x1024, .f32⟩
  | .hbm, ⟨77, _⟩ => ⟨S4x1024, .f32⟩
  | .hbm, ⟨78, _⟩ => ⟨S4x1024x1, .f32⟩
  | .hbm, ⟨79, _⟩ => ⟨S4x1024x1, .f32⟩
  | .hbm, ⟨80, _⟩ => ⟨S4x1024x1, .f32⟩
  | .hbm, ⟨81, _⟩ => ⟨S4x1024x3, .f32⟩
  | .hbm, ⟨82, _⟩ => ⟨S4x1024, .f32⟩
  | .hbm, ⟨83, _⟩ => ⟨S4x1x1024, .i32⟩
  | .hbm, ⟨84, _⟩ => ⟨S4x256x1024, .f32⟩
  | .hbm, ⟨85, _⟩ => ⟨S256x1, .f32⟩
  | .hbm, ⟨86, _⟩ => ⟨S256x1, .f32⟩
  | .hbm, ⟨87, _⟩ => ⟨S256x1, .f32⟩
  | .hbm, ⟨88, _⟩ => ⟨S256x1, .f32⟩
  | .hbm, ⟨89, _⟩ => ⟨S256x1, .f32⟩
  | .hbm, ⟨90, _⟩ => ⟨S3x1, .f32⟩
  | .hbm, ⟨91, _⟩ => ⟨S4x3x1024, .f32⟩
  | .hbm, ⟨92, _⟩ => ⟨S4x1x1024, .i32⟩
  | .hbm, ⟨93, _⟩ => ⟨S4x9x1024, .f32⟩
  | .hbm, ⟨94, _⟩ => ⟨S4x1024x3, .f32⟩
  | .hbm, ⟨95, _⟩ => ⟨S4x1024, .i32⟩
  | .hbm, ⟨96, _⟩ => ⟨S4x1024x9, .f32⟩
  | .hbm, ⟨97, _⟩ => ⟨S4x1024x3x3, .f32⟩
  | .local _ .vmem, ⟨0, _⟩ => ⟨S1x256x20000, .f32⟩
  | .local _ .vmem, ⟨1, _⟩ => ⟨S1x256x20000, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S3x256, .f32⟩
  | .local _ .vmem, ⟨9, _⟩ => ⟨S3x1, .f32⟩
  | .local _ .vmem, ⟨10, _⟩ => ⟨S1x3x20000, .f32⟩
  | .local _ .vmem, ⟨11, _⟩ => ⟨S1x3x20000, .f32⟩
  | .local _ .vmem, ⟨12, _⟩ => ⟨S1x8x1x2500, .f32⟩
  | .local _ .vmem, ⟨13, _⟩ => ⟨S1x8x1x2500, .f32⟩
  | .local _ .vmem, ⟨14, _⟩ => ⟨S1x8x1x2500, .f32⟩
  | .local _ .vmem, ⟨15, _⟩ => ⟨S1x8x1x2500, .f32⟩
  | .local _ .vmem, ⟨16, _⟩ => ⟨S20x32x128, .f32⟩
  | .local _ .vmem, ⟨17, _⟩ => ⟨S20x32x128, .f32⟩
  | .local _ .vmem, ⟨18, _⟩ => ⟨S20x32x128, .f32⟩
  | .local _ .vmem, ⟨19, _⟩ => ⟨S20x32x128, .f32⟩
  | .local _ .vmem, ⟨20, _⟩ => ⟨S20x32x128, .f32⟩
  | .local _ .vmem, ⟨21, _⟩ => ⟨S4x8x128, .i32⟩
  | .local _ .vmem, ⟨22, _⟩ => ⟨S4x8x128, .f32⟩
  | .local _ .vmem, ⟨23, _⟩ => ⟨S4x8x128, .f32⟩
  | .local _ .vmem, ⟨24, _⟩ => ⟨S4x8x128, .f32⟩
  | .local _ .vmem, ⟨25, _⟩ => ⟨S4x8x128, .f32⟩
  | .local _ .vmem, ⟨26, _⟩ => ⟨S20x32x128, .f32⟩
  | .local _ .vmem, ⟨27, _⟩ => ⟨S1x1x1024, .i32⟩
  | .local _ .vmem, ⟨28, _⟩ => ⟨S1x1x1024, .i32⟩
  | .local _ .vmem, ⟨29, _⟩ => ⟨S1x256x20000, .f32⟩
  | .local _ .vmem, ⟨30, _⟩ => ⟨S1x256x20000, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S256x256, .f32⟩
  | .local _ .vmem, ⟨36, _⟩ => ⟨S256x1, .f32⟩
  | .local _ .vmem, ⟨37, _⟩ => ⟨S256x1, .f32⟩
  | .local _ .vmem, ⟨38, _⟩ => ⟨S256x1, .f32⟩
  | .local _ .vmem, ⟨39, _⟩ => ⟨S256x1, .f32⟩
  | .local _ .vmem, ⟨40, _⟩ => ⟨S256x1, .f32⟩
  | .local _ .vmem, ⟨41, _⟩ => ⟨S3x256, .f32⟩
  | .local _ .vmem, ⟨42, _⟩ => ⟨S3x1, .f32⟩
  | .local _ .vmem, ⟨43, _⟩ => ⟨S300x3, .f32⟩
  | .local _ .vmem, ⟨44, _⟩ => ⟨S1x3x1024, .f32⟩
  | .local _ .vmem, ⟨45, _⟩ => ⟨S1x3x1024, .f32⟩
  | .local _ .vmem, ⟨46, _⟩ => ⟨S1x1x1024, .i32⟩
  | .local _ .vmem, ⟨47, _⟩ => ⟨S1x1x1024, .i32⟩
  | .local _ .vmem, ⟨48, _⟩ => ⟨S1x9x1024, .f32⟩
  | .local _ .vmem, ⟨49, _⟩ => ⟨S1x9x1024, .f32⟩
  | _, _ => ⟨S4x20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_call0_v0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_0 : Ref sig .tc := ⟨.hbm, 41, rfl⟩
abbrev main_call1_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_1 : Ref sig .tc := ⟨.hbm, 49, rfl⟩
abbrev main_call2_v0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_2 : Ref sig .tc := ⟨.hbm, 56, rfl⟩
abbrev main_call3_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_3 : Ref sig .tc := ⟨.hbm, 63, rfl⟩
abbrev main_call4_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_v38_3 : Ref sig .tc := ⟨.hbm, 72, rfl⟩
abbrev main_v38_4 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56_0 : Ref sig .tc := ⟨.hbm, 91, rfl⟩
abbrev main_v56_1 : Ref sig .tc := ⟨.hbm, 92, rfl⟩
abbrev main_v56_2 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg10_0 : Ref sig .tc := ⟨.vmem, 44, rfl⟩
abbrev cc3_stg10_1 : Ref sig .tc := ⟨.vmem, 45, rfl⟩
abbrev cc3_stg11_0 : Ref sig .tc := ⟨.vmem, 46, rfl⟩
abbrev cc3_stg11_1 : Ref sig .tc := ⟨.vmem, 47, rfl⟩
abbrev cc3_stg12_0 : Ref sig .tc := ⟨.vmem, 48, rfl⟩
abbrev cc3_stg12_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem10_0 : DmaSem sig := 43
abbrev cc3_sem10_1 : DmaSem sig := 44
abbrev cc3_sem11_0 : DmaSem sig := 45
abbrev cc3_sem11_1 : DmaSem sig := 46
abbrev cc3_sem12_0 : DmaSem sig := 47
abbrev cc3_sem12_1 : DmaSem sig := 48

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x3x20000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1x2500 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1x2500 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := .none

@[reducible] def k1_t1_loop : Scf.Loop 32 :=
  let c0_i32_186 : BitVec 32 := 0#32
  let c1024_i32_187 : BitVec 32 := 1024#32
  let v321 : BitVec 32 := Scalar.addi c0_i32_186 c1024_i32_187
  let c1_i32 : BitVec 32 := 1#32
  ⟨c0_i32_186, v321, c1_i32⟩
abbrev stage1_0 : Fin 1 → Memref sig .tc .vmem S20x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S20x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S20x32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S20x32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S20x32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4x8x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S4x8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4x8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x20000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S3x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S3x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S300x3 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1x3x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x1x1024 .i32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S1x9x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]
-- ==== ReferenceIdeal.lean ====
abbrev S4x20000x3 : Shape := ⟨3, ![4, 20000, 3]⟩
abbrev S4x256x20000 : Shape := ⟨3, ![4, 256, 20000]⟩
abbrev S256x256 : Shape := ⟨2, ![256, 256]⟩
abbrev S256 : Shape := ⟨1, ![256]⟩
abbrev S3x256 : Shape := ⟨2, ![3, 256]⟩
abbrev S3 : Shape := ⟨1, ![3]⟩
abbrev S300x3 : Shape := ⟨2, ![300, 3]⟩
abbrev S4x20000x256 : Shape := ⟨3, ![4, 20000, 256]⟩
abbrev S1x256x1 : Shape := ⟨3, ![1, 256, 1]⟩
abbrev S_ : Shape := ⟨0, ![]⟩
abbrev S4x3x20000 : Shape := ⟨3, ![4, 3, 20000]⟩
abbrev S1x3x1 : Shape := ⟨3, ![1, 3, 1]⟩
abbrev S4x2x20000 : Shape := ⟨3, ![4, 2, 20000]⟩
abbrev S4x1x20000 : Shape := ⟨3, ![4, 1, 20000]⟩
abbrev S4x20000 : Shape := ⟨2, ![4, 20000]⟩
abbrev S4 : Shape := ⟨1, ![4]⟩
abbrev S1024x4 : Shape := ⟨2, ![1024, 4]⟩
abbrev S4x1x1 : Shape := ⟨3, ![4, 1, 1]⟩
abbrev S4x1x3 : Shape := ⟨3, ![4, 1, 3]⟩
abbrev S4x1 : Shape := ⟨2, ![4, 1]⟩
abbrev S1x4 : Shape := ⟨2, ![1, 4]⟩
abbrev S4x1024 : Shape := ⟨2, ![4, 1024]⟩
abbrev S4x1024x1 : Shape := ⟨3, ![4, 1024, 1]⟩
abbrev S4x1024x3 : Shape := ⟨3, ![4, 1024, 3]⟩
abbrev S4x1024x256 : Shape := ⟨3, ![4, 1024, 256]⟩
abbrev S4x256x1024 : Shape := ⟨3, ![4, 256, 1024]⟩
abbrev S4x3x1024 : Shape := ⟨3, ![4, 3, 1024]⟩
abbrev S1x1x300x3 : Shape := ⟨4, ![1, 1, 300, 3]⟩
abbrev S4x1024x1x3 : Shape := ⟨4, ![4, 1024, 1, 3]⟩
abbrev S1x1x300 : Shape := ⟨3, ![1, 1, 300]⟩
abbrev S4x1024x300x3 : Shape := ⟨4, ![4, 1024, 300, 3]⟩
abbrev S4x1024x300 : Shape := ⟨3, ![4, 1024, 300]⟩
abbrev S4096x3 : Shape := ⟨2, ![4096, 3]⟩
abbrev S4096 : Shape := ⟨1, ![4096]⟩
abbrev S4096x1 : Shape := ⟨2, ![4096, 1]⟩
abbrev S1x4096 : Shape := ⟨2, ![1, 4096]⟩
abbrev S3x4096 : Shape := ⟨2, ![3, 4096]⟩
abbrev S4096x9 : Shape := ⟨2, ![4096, 9]⟩
abbrev S4096x3x3 : Shape := ⟨3, ![4096, 3, 3]⟩
abbrev S4096x3x1 : Shape := ⟨3, ![4096, 3, 1]⟩
abbrev S4x1024x3x3 : Shape := ⟨4, ![4, 1024, 3, 3]⟩

abbrev nBuf : Space → Nat
  | .hbm => 291
  | .vmem => 0
  | .smem => 0
  | _ => 0

abbrev hbmTy0_0 (i : Nat) : BufTy := match i % 128 with
  | 0 => ⟨S4x20000x3, .f32⟩
  | 1 => ⟨S4x256x20000, .f32⟩
  | 2 => ⟨S256x256, .f32⟩
  | 3 => ⟨S256, .f32⟩
  | 4 => ⟨S256, .f32⟩
  | 5 => ⟨S256, .f32⟩
  | 6 => ⟨S256, .f32⟩
  | 7 => ⟨S256, .f32⟩
  | 8 => ⟨S3x256, .f32⟩
  | 9 => ⟨S3, .f32⟩
  | 10 => ⟨S256x256, .f32⟩
  | 11 => ⟨S256, .f32⟩
  | 12 => ⟨S256, .f32⟩
  | 13 => ⟨S256, .f32⟩
  | 14 => ⟨S256, .f32⟩
  | 15 => ⟨S256, .f32⟩
  | 16 => ⟨S3x256, .f32⟩
  | 17 => ⟨S3, .f32⟩
  | 18 => ⟨S300x3, .f32⟩
  | 19 => ⟨S3, .f32⟩
  | 20 => ⟨S4x20000x256, .f32⟩
  | 21 => ⟨S4x256x20000, .f32⟩
  | 22 => ⟨S1x256x1, .f32⟩
  | 23 => ⟨S4x256x20000, .f32⟩
  | 24 => ⟨S4x256x20000, .f32⟩
  | 25 => ⟨S1x256x1, .f32⟩
  | 26 => ⟨S4x256x20000, .f32⟩
  | 27 => ⟨S4x256x20000, .f32⟩
  | 28 => ⟨S1x256x1, .f32⟩
  | 29 => ⟨S_, .f32⟩
  | 30 => ⟨S1x256x1, .f32⟩
  | 31 => ⟨S1x256x1, .f32⟩
  | 32 => ⟨S1x256x1, .f32⟩
  | 33 => ⟨S4x256x20000, .f32⟩
  | 34 => ⟨S4x256x20000, .f32⟩
  | 35 => ⟨S1x256x1, .f32⟩
  | 36 => ⟨S4x256x20000, .f32⟩
  | 37 => ⟨S4x256x20000, .f32⟩
  | 38 => ⟨S1x256x1, .f32⟩
  | 39 => ⟨S4x256x20000, .f32⟩
  | 40 => ⟨S4x256x20000, .f32⟩
  | 41 => ⟨S_, .f32⟩
  | 42 => ⟨S4x256x20000, .f32⟩
  | 43 => ⟨S4x256x20000, .f32⟩
  | 44 => ⟨S4x20000x3, .f32⟩
  | 45 => ⟨S4x3x20000, .f32⟩
  | 46 => ⟨S1x3x1, .f32⟩
  | 47 => ⟨S4x3x20000, .f32⟩
  | 48 => ⟨S4x3x20000, .f32⟩
  | 49 => ⟨S4x2x20000, .f32⟩
  | 50 => ⟨S4x1x20000, .f32⟩
  | 51 => ⟨S4x20000, .f32⟩
  | 52 => ⟨S4x2x20000, .i32⟩
  | 53 => ⟨S_, .f32⟩
  | 54 => ⟨S_, .i32⟩
  | 55 => ⟨S4x20000, .f32⟩
  | 56 => ⟨S4x20000, .i32⟩
  | 57 => ⟨S_, .i32⟩
  | 58 => ⟨S4x20000, .i32⟩
  | 59 => ⟨S4x20000, .i1⟩
  | 60 => ⟨S_, .f32⟩
  | 61 => ⟨S4x20000, .f32⟩
  | 62 => ⟨S4x20000, .i1⟩
  | 63 => ⟨S4x20000, .i1⟩
  | 64 => ⟨S_, .f32⟩
  | 65 => ⟨S4x20000, .f32⟩
  | 66 => ⟨S4x20000, .i32⟩
  | 67 => ⟨S_, .i1⟩
  | 68 => ⟨S_, .i32⟩
  | 69 => ⟨S4, .i1⟩
  | 70 => ⟨S4, .i32⟩
  | 71 => ⟨S_, .i32⟩
  | 72 => ⟨S1024x4, .i32⟩
  | 73 => ⟨S_, .i32⟩
  | 74 => ⟨S4x20000x3, .f32⟩
  | 75 => ⟨S4x20000, .i1⟩
  | 76 => ⟨S_, .i32⟩
  | 77 => ⟨S4x20000, .f32⟩
  | 78 => ⟨S4, .i32⟩
  | 79 => ⟨S1024x4, .i32⟩
  | 80 => ⟨S_, .i32⟩
  | 81 => ⟨S_, .i1⟩
  | 82 => ⟨S4x1x1, .i32⟩
  | 83 => ⟨S_, .i32⟩
  | 84 => ⟨S4x1x1, .i32⟩
  | 85 => ⟨S4x1x1, .i1⟩
  | 86 => ⟨S_, .i32⟩
  | 87 => ⟨S4x1x1, .i32⟩
  | 88 => ⟨S4x1x1, .i32⟩
  | 89 => ⟨S4x1x1, .i32⟩
  | 90 => ⟨S4x1x3, .f32⟩
  | 91 => ⟨S4x20000x3, .f32⟩
  | 92 => ⟨S4x20000x3, .f32⟩
  | 93 => ⟨S4x20000x3, .f32⟩
  | 94 => ⟨S_, .f32⟩
  | 95 => ⟨S4x20000, .f32⟩
  | 96 => ⟨S4x20000, .f32⟩
  | 97 => ⟨S_, .f32⟩
  | 98 => ⟨S_, .f32⟩
  | 99 => ⟨S4x20000, .f32⟩
  | 100 => ⟨S4x20000, .f32⟩
  | 101 => ⟨S4x1, .f32⟩
  | 102 => ⟨S4x1, .i32⟩
  | 103 => ⟨S4, .i32⟩
  | 104 => ⟨S1x4, .i32⟩
  | 105 => ⟨S_, .i32⟩
  | 106 => ⟨S1024x4, .i32⟩
  | 107 => ⟨S_, .i32⟩
  | 108 => ⟨S_, .i32⟩
  | 109 => ⟨S4x1024, .i32⟩
  | 110 => ⟨S4x1024x1, .i32⟩
  | 111 => ⟨S_, .i32⟩
  | 112 => ⟨S4x1024x1, .i32⟩
  | 113 => ⟨S4x1024x1, .i1⟩
  | 114 => ⟨S_, .i32⟩
  | 115 => ⟨S4x1024x1, .i32⟩
  | 116 => ⟨S4x1024x1, .i32⟩
  | 117 => ⟨S4x1024x1, .i32⟩
  | 118 => ⟨S4x1024x3, .f32⟩
  | 119 => ⟨S4x20000x256, .f32⟩
  | 120 => ⟨S4x1024x1, .i32⟩
  | 121 => ⟨S_, .i32⟩
  | 122 => ⟨S4x1024x1, .i32⟩
  | 123 => ⟨S4x1024x1, .i1⟩
  | 124 => ⟨S_, .i32⟩
  | 125 => ⟨S4x1024x1, .i32⟩
  | 126 => ⟨S4x1024x1, .i32⟩
  | 127 => ⟨S4x1024x1, .i32⟩
  | _ => ⟨S4x20000x3, .f32⟩

abbrev hbmTy0_1 (i : Nat) : BufTy := match i % 128 with
  | 0 => ⟨S4x1024x256, .f32⟩
  | 1 => ⟨S4x256x1024, .f32⟩
  | 2 => ⟨S_, .i32⟩
  | 3 => ⟨S4x1024, .i32⟩
  | 4 => ⟨S4x1024, .i1⟩
  | 5 => ⟨S_, .i32⟩
  | 6 => ⟨S4x1024, .i32⟩
  | 7 => ⟨S4x1024, .i32⟩
  | 8 => ⟨S4x1024, .i32⟩
  | 9 => ⟨S4x1024x1, .i32⟩
  | 10 => ⟨S4x1024, .f32⟩
  | 11 => ⟨S4x1024x256, .f32⟩
  | 12 => ⟨S4x256x1024, .f32⟩
  | 13 => ⟨S1x256x1, .f32⟩
  | 14 => ⟨S4x256x1024, .f32⟩
  | 15 => ⟨S4x256x1024, .f32⟩
  | 16 => ⟨S1x256x1, .f32⟩
  | 17 => ⟨S4x256x1024, .f32⟩
  | 18 => ⟨S4x256x1024, .f32⟩
  | 19 => ⟨S1x256x1, .f32⟩
  | 20 => ⟨S_, .f32⟩
  | 21 => ⟨S1x256x1, .f32⟩
  | 22 => ⟨S1x256x1, .f32⟩
  | 23 => ⟨S1x256x1, .f32⟩
  | 24 => ⟨S4x256x1024, .f32⟩
  | 25 => ⟨S4x256x1024, .f32⟩
  | 26 => ⟨S1x256x1, .f32⟩
  | 27 => ⟨S4x256x1024, .f32⟩
  | 28 => ⟨S4x256x1024, .f32⟩
  | 29 => ⟨S1x256x1, .f32⟩
  | 30 => ⟨S4x256x1024, .f32⟩
  | 31 => ⟨S4x256x1024, .f32⟩
  | 32 => ⟨S_, .f32⟩
  | 33 => ⟨S4x256x1024, .f32⟩
  | 34 => ⟨S4x256x1024, .f32⟩
  | 35 => ⟨S4x1024x3, .f32⟩
  | 36 => ⟨S4x3x1024, .f32⟩
  | 37 => ⟨S1x3x1, .f32⟩
  | 38 => ⟨S4x3x1024, .f32⟩
  | 39 => ⟨S4x3x1024, .f32⟩
  | 40 => ⟨S4x1024x3, .f32⟩
  | 41 => ⟨S1x1x300x3, .f32⟩
  | 42 => ⟨S4x1024x1x3, .f32⟩
  | 43 => ⟨S1x1x300x3, .f32⟩
  | 44 => ⟨S_, .f32⟩
  | 45 => ⟨S1x1x300, .f32⟩
  | 46 => ⟨S1x1x300, .f32⟩
  | 47 => ⟨S_, .f32⟩
  | 48 => ⟨S1x1x300, .f32⟩
  | 49 => ⟨S1x1x300, .f32⟩
  | 50 => ⟨S4x1024x1x3, .f32⟩
  | 51 => ⟨S_, .f32⟩
  | 52 => ⟨S4x1024x1, .f32⟩
  | 53 => ⟨S4x1024x1, .f32⟩
  | 54 => ⟨S_, .f32⟩
  | 55 => ⟨S4x1024x1, .f32⟩
  | 56 => ⟨S4x1024x1, .f32⟩
  | 57 => ⟨S4x1024x300x3, .f32⟩
  | 58 => ⟨S4x1024x300x3, .f32⟩
  | 59 => ⟨S4x1024x300x3, .f32⟩
  | 60 => ⟨S_, .f32⟩
  | 61 => ⟨S4x1024x300, .f32⟩
  | 62 => ⟨S4x1024x300, .f32⟩
  | 63 => ⟨S4x1024x300, .f32⟩
  | 64 => ⟨S4x1024x300, .f32⟩
  | 65 => ⟨S4x1024x300, .f32⟩
  | 66 => ⟨S4x1024x300, .i32⟩
  | 67 => ⟨S_, .f32⟩
  | 68 => ⟨S_, .i32⟩
  | 69 => ⟨S4x1024, .f32⟩
  | 70 => ⟨S4x1024, .i32⟩
  | 71 => ⟨S4096x3, .f32⟩
  | 72 => ⟨S_, .f32⟩
  | 73 => ⟨S4096, .f32⟩
  | 74 => ⟨S4096x3, .f32⟩
  | 75 => ⟨S4096x1, .f32⟩
  | 76 => ⟨S4096, .f32⟩
  | 77 => ⟨S_, .f32⟩
  | 78 => ⟨S4096, .f32⟩
  | 79 => ⟨S_, .f32⟩
  | 80 => ⟨S4096, .f32⟩
  | 81 => ⟨S4096x1, .f32⟩
  | 82 => ⟨S4096, .f32⟩
  | 83 => ⟨S4096, .f32⟩
  | 84 => ⟨S4096x1, .f32⟩
  | 85 => ⟨S4096, .f32⟩
  | 86 => ⟨S4096x1, .f32⟩
  | 87 => ⟨S4096x1, .f32⟩
  | 88 => ⟨S4096x1, .f32⟩
  | 89 => ⟨S4096x3, .f32⟩
  | 90 => ⟨S4096x3, .f32⟩
  | 91 => ⟨S_, .f32⟩
  | 92 => ⟨S4096, .f32⟩
  | 93 => ⟨S4096, .f32⟩
  | 94 => ⟨S_, .f32⟩
  | 95 => ⟨S4096, .f32⟩
  | 96 => ⟨S4096, .i1⟩
  | 97 => ⟨S4096x1, .i1⟩
  | 98 => ⟨S4096x3, .i1⟩
  | 99 => ⟨S4096x3, .f32⟩
  | 100 => ⟨S4096x3, .f32⟩
  | 101 => ⟨S4096x3, .f32⟩
  | 102 => ⟨S_, .f32⟩
  | 103 => ⟨S4096, .f32⟩
  | 104 => ⟨S4096x1, .f32⟩
  | 105 => ⟨S4096x1, .f32⟩
  | 106 => ⟨S4096x3, .f32⟩
  | 107 => ⟨S4096x3, .f32⟩
  | 108 => ⟨S4096x3, .f32⟩
  | 109 => ⟨S_, .f32⟩
  | 110 => ⟨S4096, .f32⟩
  | 111 => ⟨S4096x1, .f32⟩
  | 112 => ⟨S4096x1, .f32⟩
  | 113 => ⟨S4096x3, .f32⟩
  | 114 => ⟨S4096x3, .f32⟩
  | 115 => ⟨S4096x1, .f32⟩
  | 116 => ⟨S4096, .f32⟩
  | 117 => ⟨S4096x1, .f32⟩
  | 118 => ⟨S4096, .f32⟩
  | 119 => ⟨S4096x1, .f32⟩
  | 120 => ⟨S4096, .f32⟩
  | 121 => ⟨S4096x1, .f32⟩
  | 122 => ⟨S4096, .f32⟩
  | 123 => ⟨S4096x1, .f32⟩
  | 124 => ⟨S4096, .f32⟩
  | 125 => ⟨S4096x1, .f32⟩
  | 126 => ⟨S4096, .f32⟩
  | 127 => ⟨S4096, .f32⟩
  | _ => ⟨S4x20000x3, .f32⟩

abbrev hbmTy0_2 (i : Nat) : BufTy := match i % 128 with
  | 0 => ⟨S4096, .f32⟩
  | 1 => ⟨S4096, .f32⟩
  | 2 => ⟨S4096, .f32⟩
  | 3 => ⟨S4096, .f32⟩
  | 4 => ⟨S4096, .f32⟩
  | 5 => ⟨S4096, .f32⟩
  | 6 => ⟨S4096, .f32⟩
  | 7 => ⟨S4096, .f32⟩
  | 8 => ⟨S1x4096, .f32⟩
  | 9 => ⟨S1x4096, .f32⟩
  | 10 => ⟨S1x4096, .f32⟩
  | 11 => ⟨S3x4096, .f32⟩
  | 12 => ⟨S4096x3, .f32⟩
  | 13 => ⟨S4096, .f32⟩
  | 14 => ⟨S4096, .f32⟩
  | 15 => ⟨S_, .f32⟩
  | 16 => ⟨S4096, .f32⟩
  | 17 => ⟨S4096, .f32⟩
  | 18 => ⟨S4096x1, .f32⟩
  | 19 => ⟨S4096x1, .f32⟩
  | 20 => ⟨S4096x1, .f32⟩
  | 21 => ⟨S4096x1, .f32⟩
  | 22 => ⟨S4096x1, .f32⟩
  | 23 => ⟨S4096x1, .f32⟩
  | 24 => ⟨S4096x1, .f32⟩
  | 25 => ⟨S4096x1, .f32⟩
  | 26 => ⟨S4096x1, .f32⟩
  | 27 => ⟨S4096x9, .f32⟩
  | 28 => ⟨S4096x3x3, .f32⟩
  | 29 => ⟨S4096x3x1, .f32⟩
  | 30 => ⟨S4096x3x1, .f32⟩
  | 31 => ⟨S4096x3x1, .f32⟩
  | 32 => ⟨S4096x3x3, .f32⟩
  | 33 => ⟨S4096x3x3, .f32⟩
  | 34 => ⟨S4x1024x3x3, .f32⟩
  | _ => ⟨S4x20000x3, .f32⟩

abbrev hbmTy (i : Nat) : BufTy := match i / 128 with
  | 0 => hbmTy0_0 i
  | 1 => hbmTy0_1 i
  | 2 => hbmTy0_2 i
  | _ => ⟨S4x20000x3, .f32⟩

abbrev bufTy : (tb : Table) → Fin (tcTables nBuf tb) → BufTy
  | .hbm, ⟨i, _⟩ => hbmTy i
  | _, _ => ⟨S4x20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call0_cst : Ref sig .tc := ⟨.hbm, 41, rfl⟩
abbrev main_call0_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_cst : Ref sig .tc := ⟨.hbm, 53, rfl⟩
abbrev main_call1_c : Ref sig .tc := ⟨.hbm, 54, rfl⟩
abbrev main_call1_v1_0 : Ref sig .tc := ⟨.hbm, 55, rfl⟩
abbrev main_v29 : Ref sig .tc := ⟨.hbm, 56, rfl⟩
abbrev main_c : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_call2_v0 : Ref sig .tc := ⟨.hbm, 66, rfl⟩
abbrev main_call2_c : Ref sig .tc := ⟨.hbm, 67, rfl⟩
abbrev main_call2_c_0 : Ref sig .tc := ⟨.hbm, 68, rfl⟩
abbrev main_call2_v1_0 : Ref sig .tc := ⟨.hbm, 69, rfl⟩
abbrev main_v36 : Ref sig .tc := ⟨.hbm, 70, rfl⟩
abbrev main_c_4 : Ref sig .tc := ⟨.hbm, 71, rfl⟩
abbrev main_v37 : Ref sig .tc := ⟨.hbm, 72, rfl⟩
abbrev main_c_5 : Ref sig .tc := ⟨.hbm, 73, rfl⟩
abbrev main_v38_0 : Ref sig .tc := ⟨.hbm, 74, rfl⟩
abbrev main_v38_1 : Ref sig .tc := ⟨.hbm, 75, rfl⟩
abbrev main_v38_2 : Ref sig .tc := ⟨.hbm, 76, rfl⟩
abbrev main_v38_3 : Ref sig .tc := ⟨.hbm, 77, rfl⟩
abbrev main_v38_4 : Ref sig .tc := ⟨.hbm, 78, rfl⟩
abbrev main_v38_5 : Ref sig .tc := ⟨.hbm, 79, rfl⟩
abbrev main_while0c_c_20 : Ref sig .tc := ⟨.hbm, 80, rfl⟩
abbrev main_while0c_v140 : Ref sig .tc := ⟨.hbm, 81, rfl⟩
abbrev main_while0b_v140 : Ref sig .tc := ⟨.hbm, 82, rfl⟩
abbrev main_while0b_call3_c : Ref sig .tc := ⟨.hbm, 83, rfl⟩
abbrev main_while0b_call3_v0 : Ref sig .tc := ⟨.hbm, 84, rfl⟩
abbrev main_while0b_call3_v1 : Ref sig .tc := ⟨.hbm, 85, rfl⟩
abbrev main_while0b_call3_c_0 : Ref sig .tc := ⟨.hbm, 86, rfl⟩
abbrev main_while0b_call3_v2 : Ref sig .tc := ⟨.hbm, 87, rfl⟩
abbrev main_while0b_call3_v3 : Ref sig .tc := ⟨.hbm, 88, rfl⟩
abbrev main_while0b_call3_v4 : Ref sig .tc := ⟨.hbm, 89, rfl⟩
abbrev main_while0b_v141 : Ref sig .tc := ⟨.hbm, 90, rfl⟩
abbrev main_while0b_v142 : Ref sig .tc := ⟨.hbm, 91, rfl⟩
abbrev main_while0b_v143 : Ref sig .tc := ⟨.hbm, 92, rfl⟩
abbrev main_while0b_v144 : Ref sig .tc := ⟨.hbm, 93, rfl⟩
abbrev main_while0b_cst_20 : Ref sig .tc := ⟨.hbm, 94, rfl⟩
abbrev main_while0b_v145 : Ref sig .tc := ⟨.hbm, 95, rfl⟩
abbrev main_while0b_v146 : Ref sig .tc := ⟨.hbm, 96, rfl⟩
abbrev main_while0b_cst_21 : Ref sig .tc := ⟨.hbm, 97, rfl⟩
abbrev main_while0b_call4_v0 : Ref sig .tc := ⟨.hbm, 98, rfl⟩
abbrev main_while0b_call4_v1 : Ref sig .tc := ⟨.hbm, 99, rfl⟩
abbrev main_while0b_v147 : Ref sig .tc := ⟨.hbm, 100, rfl⟩
abbrev main_while0b_values : Ref sig .tc := ⟨.hbm, 101, rfl⟩
abbrev main_while0b_indices : Ref sig .tc := ⟨.hbm, 102, rfl⟩
abbrev main_while0b_v148 : Ref sig .tc := ⟨.hbm, 103, rfl⟩
abbrev main_while0b_call5_v0 : Ref sig .tc := ⟨.hbm, 104, rfl⟩
abbrev main_while0b_call5_c : Ref sig .tc := ⟨.hbm, 105, rfl⟩
abbrev main_while0b_v149 : Ref sig .tc := ⟨.hbm, 106, rfl⟩
abbrev main_while0b_c_22 : Ref sig .tc := ⟨.hbm, 107, rfl⟩
abbrev main_while0b_v150 : Ref sig .tc := ⟨.hbm, 108, rfl⟩
abbrev main_v39 : Ref sig .tc := ⟨.hbm, 109, rfl⟩
abbrev main_v40 : Ref sig .tc := ⟨.hbm, 110, rfl⟩
abbrev main_call6_c : Ref sig .tc := ⟨.hbm, 111, rfl⟩
abbrev main_call6_v0 : Ref sig .tc := ⟨.hbm, 112, rfl⟩
abbrev main_call6_v1 : Ref sig .tc := ⟨.hbm, 113, rfl⟩
abbrev main_call6_c_0 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_call7_c : Ref sig .tc := ⟨.hbm, 121, rfl⟩
abbrev main_call7_v0 : Ref sig .tc := ⟨.hbm, 122, rfl⟩
abbrev main_call7_v1 : Ref sig .tc := ⟨.hbm, 123, rfl⟩
abbrev main_call7_c_0 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_v44 : Ref sig .tc := ⟨.hbm, 128, rfl⟩
abbrev main_v45 : Ref sig .tc := ⟨.hbm, 129, rfl⟩
abbrev main_call8_c : Ref sig .tc := ⟨.hbm, 130, rfl⟩
abbrev main_call8_v0 : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_v5 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_cst_6 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_call9_cst : Ref sig .tc := ⟨.hbm, 160, rfl⟩
abbrev main_call9_v0 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_call10_v0 : Ref sig .tc := ⟨.hbm, 171, rfl⟩
abbrev main_call10_cst : Ref sig .tc := ⟨.hbm, 172, rfl⟩
abbrev main_call10_v1 : Ref sig .tc := ⟨.hbm, 173, rfl⟩
abbrev main_v76 : Ref sig .tc := ⟨.hbm, 174, rfl⟩
abbrev main_cst_7 : Ref sig .tc := ⟨.hbm, 175, rfl⟩
abbrev main_v77 : Ref sig .tc := ⟨.hbm, 176, rfl⟩
abbrev main_v78 : Ref sig .tc := ⟨.hbm, 177, rfl⟩
abbrev main_call11_v0 : Ref sig .tc := ⟨.hbm, 178, rfl⟩
abbrev main_call11_cst : Ref sig .tc := ⟨.hbm, 179, rfl⟩
abbrev main_call11_v1 : Ref sig .tc := ⟨.hbm, 180, rfl⟩
abbrev main_v79 : Ref sig .tc := ⟨.hbm, 181, rfl⟩
abbrev main_cst_8 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_cst_9 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_call12_v0 : Ref sig .tc := ⟨.hbm, 194, rfl⟩
abbrev main_call12_cst : Ref sig .tc := ⟨.hbm, 195, rfl⟩
abbrev main_call12_c : Ref sig .tc := ⟨.hbm, 196, rfl⟩
abbrev main_call12_v1_0 : Ref sig .tc := ⟨.hbm, 197, rfl⟩
abbrev main_v90 : Ref sig .tc := ⟨.hbm, 198, rfl⟩
abbrev main_v91 : Ref sig .tc := ⟨.hbm, 199, rfl⟩
abbrev main_cst_10 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_cst_11 : Ref sig .tc := ⟨.hbm, 205, rfl⟩
abbrev main_v96 : Ref sig .tc := ⟨.hbm, 206, rfl⟩
abbrev main_cst_12 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_call13_v0 : Ref sig .tc := ⟨.hbm, 218, rfl⟩
abbrev main_call13_cst : Ref sig .tc := ⟨.hbm, 219, rfl⟩
abbrev main_call13_v1 : Ref sig .tc := ⟨.hbm, 220, rfl⟩
abbrev main_v107 : Ref sig .tc := ⟨.hbm, 221, rfl⟩
abbrev main_cst_13 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_call14_v0 : Ref sig .tc := ⟨.hbm, 226, rfl⟩
abbrev main_call14_v1 : Ref sig .tc := ⟨.hbm, 227, rfl⟩
abbrev main_v111 : Ref sig .tc := ⟨.hbm, 228, rfl⟩
abbrev main_call15_v0 : Ref sig .tc := ⟨.hbm, 229, rfl⟩
abbrev main_call15_cst : Ref sig .tc := ⟨.hbm, 230, rfl⟩
abbrev main_call15_v1 : Ref sig .tc := ⟨.hbm, 231, rfl⟩
abbrev main_call15_v2 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_call16_v0 : Ref sig .tc := ⟨.hbm, 236, rfl⟩
abbrev main_call16_cst : Ref sig .tc := ⟨.hbm, 237, rfl⟩
abbrev main_call16_v1 : Ref sig .tc := ⟨.hbm, 238, rfl⟩
abbrev main_call16_v2 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_call17_v0 : Ref sig .tc := ⟨.hbm, 243, rfl⟩
abbrev main_call17_v1 : Ref sig .tc := ⟨.hbm, 244, rfl⟩
abbrev main_call17_v2 : Ref sig .tc := ⟨.hbm, 245, rfl⟩
abbrev main_call17_v3 : Ref sig .tc := ⟨.hbm, 246, rfl⟩
abbrev main_call17_v4 : Ref sig .tc := ⟨.hbm, 247, rfl⟩
abbrev main_call17_v5 : Ref sig .tc := ⟨.hbm, 248, rfl⟩
abbrev main_call17_v6 : Ref sig .tc := ⟨.hbm, 249, rfl⟩
abbrev main_call17_v7 : Ref sig .tc := ⟨.hbm, 250, rfl⟩
abbrev main_call17_v8 : Ref sig .tc := ⟨.hbm, 251, rfl⟩
abbrev main_call17_v9 : Ref sig .tc := ⟨.hbm, 252, rfl⟩
abbrev main_call17_v10 : Ref sig .tc := ⟨.hbm, 253, rfl⟩
abbrev main_call17_v11 : Ref sig .tc := ⟨.hbm, 254, rfl⟩
abbrev main_call17_v12 : Ref sig .tc := ⟨.hbm, 255, rfl⟩
abbrev main_call17_v13 : Ref sig .tc := ⟨.hbm, 256, rfl⟩
abbrev main_call17_v14 : Ref sig .tc := ⟨.hbm, 257, rfl⟩
abbrev main_call17_v15 : Ref sig .tc := ⟨.hbm, 258, rfl⟩
abbrev main_call17_v16 : Ref sig .tc := ⟨.hbm, 259, rfl⟩
abbrev main_call17_v17 : Ref sig .tc := ⟨.hbm, 260, rfl⟩
abbrev main_call17_v18 : Ref sig .tc := ⟨.hbm, 261, rfl⟩
abbrev main_call17_v19 : Ref sig .tc := ⟨.hbm, 262, rfl⟩
abbrev main_call17_v20 : Ref sig .tc := ⟨.hbm, 263, rfl⟩
abbrev main_call17_v21 : Ref sig .tc := ⟨.hbm, 264, rfl⟩
abbrev main_call17_v22 : Ref sig .tc := ⟨.hbm, 265, rfl⟩
abbrev main_call17_v23 : Ref sig .tc := ⟨.hbm, 266, rfl⟩
abbrev main_call17_v24 : Ref sig .tc := ⟨.hbm, 267, rfl⟩
abbrev main_v118 : Ref sig .tc := ⟨.hbm, 268, rfl⟩
abbrev main_v119 : Ref sig .tc := ⟨.hbm, 269, rfl⟩
abbrev main_v120 : Ref sig .tc := ⟨.hbm, 270, rfl⟩
abbrev main_cst_14 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩
abbrev main_v124 : Ref sig .tc := ⟨.hbm, 275, rfl⟩
abbrev main_v125 : Ref sig .tc := ⟨.hbm, 276, rfl⟩
abbrev main_v126 : Ref sig .tc := ⟨.hbm, 277, rfl⟩
abbrev main_v127 : Ref sig .tc := ⟨.hbm, 278, rfl⟩
abbrev main_v128 : Ref sig .tc := ⟨.hbm, 279, rfl⟩
abbrev main_v129 : Ref sig .tc := ⟨.hbm, 280, rfl⟩
abbrev main_v130 : Ref sig .tc := ⟨.hbm, 281, rfl⟩
abbrev main_v131 : Ref sig .tc := ⟨.hbm, 282, rfl⟩
abbrev main_v132 : Ref sig .tc := ⟨.hbm, 283, rfl⟩
abbrev main_v133 : Ref sig .tc := ⟨.hbm, 284, rfl⟩
abbrev main_v134 : Ref sig .tc := ⟨.hbm, 285, rfl⟩
abbrev main_v135 : Ref sig .tc := ⟨.hbm, 286, rfl⟩
abbrev main_v136 : Ref sig .tc := ⟨.hbm, 287, rfl⟩
abbrev main_v137 : Ref sig .tc := ⟨.hbm, 288, rfl⟩
abbrev main_v138 : Ref sig .tc := ⟨.hbm, 289, rfl⟩
abbrev main_v139 : Ref sig .tc := ⟨.hbm, 290, rfl⟩

abbrev nD : Nat := 1
abbrev τ : Topo := Topo.v7x

variable {F : FTy → Type} [FloatOps F]

abbrev main_while0_count : Scf.Loop 32 := ⟨0#32, 1024#32, 1#32⟩
-- ==== Proof.KRun.lean ====
/-
  The kernel program's run with its final contents: every unscoped buffer of every core ends at the fold of the
  program's host stretches and regions over the launch memory (`Gen.W19`).
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every unscoped buffer ends at the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => h)

end Cert.KernelIdeal.Gen

end
-- ==== Proof.Spec.lean ====
/-
  What the two programs compute, stated on plain functions of indices with no program in sight:
  a two-layer perceptron with batch normalisation (`Net`), the choice of the first greatest entry of a finite family
  (`firstMax`), masked farthest-point sampling (`fps`), and the view selection and rotation of the head.
-/
module

public import Idealize.ShloMosaic.PureOps.Ideal.Laws
public import Idealize.ShloMosaic.Lib.IdealHost

@[expose] public section

noncomputable section

namespace Cert.Proof.Spec

open Idealize.ShloMosaic

/-! ## The perceptron -/

/-- The parameters of one perceptron: first layer, batch normalisation, second layer. -/
structure Net where
  w1 : Fin 256 → Fin 256 → EReal
  b1 : Fin 256 → EReal
  ga : Fin 256 → EReal
  be : Fin 256 → EReal
  mu : Fin 256 → EReal
  va : Fin 256 → EReal
  w2 : Fin 3 → Fin 256 → EReal
  b2 : Fin 3 → EReal

/-- Channel `i` of the first layer at the input column `x`, normalised. -/
def Net.norm (N : Net) (x : Fin 256 → EReal) (i : Fin 256) : EReal :=
  Ideal.div ((∑ k, x k * N.w1 i k) + N.b1 i - N.mu i) (Ideal.sqrt (N.va i + Ideal.ofBits .f32 925353388#32)) * N.ga i
    + N.be i

/-- Output channel `o` of the perceptron at the input column `x`. -/
def Net.out (N : Net) (x : Fin 256 → EReal) (o : Fin 3) : EReal :=
  (∑ i, max (N.norm x i) 0 * N.w2 o i) + N.b2 o

/-! ## The first greatest entry -/

/-- `i` is the first index at which `f` is greatest. -/
def IsFirstMax {n : ℕ} (f : Fin n → EReal) (i : Fin n) : Prop := (∀ j, f j ≤ f i) ∧ ∀ j, j < i → f j < f i

theorem IsFirstMax.unique {n : ℕ} {f : Fin n → EReal} {i j : Fin n} (hi : IsFirstMax f i) (hj : IsFirstMax f j) : i = j := by
  rcases lt_trichotomy i j with h | h | h
  · exact absurd (hi.1 j) (not_le.mpr (hj.2 i h))
  · exact h
  · exact absurd (hj.1 i) (not_le.mpr (hi.2 j h))

theorem exists_isFirstMax {n : ℕ} [NeZero n] (f : Fin n → EReal) : ∃ i, IsFirstMax f i := by
  classical
  obtain ⟨m, -, hm⟩ := Finset.exists_max_image Finset.univ f ⟨0, Finset.mem_univ _⟩
  obtain ⟨i, hi, hl⟩ := Finset.exists_min_image (Finset.univ.filter fun i => f i = f m) id ⟨m, by simp⟩
  have hi' : f i = f m := by simpa using hi
  refine ⟨i, fun j => hi' ▸ hm j (Finset.mem_univ _), fun j hj => lt_of_le_of_ne (hi' ▸ hm j (Finset.mem_univ _)) fun e => ?_⟩
  exact absurd (hl j (by simp [e, hi'])) (not_le.mpr hj)

/-- The first index at which `f` is greatest. -/
def firstMax {n : ℕ} [NeZero n] (f : Fin n → EReal) : Fin n := (exists_isFirstMax f).choose

theorem firstMax_spec {n : ℕ} [NeZero n] (f : Fin n → EReal) : IsFirstMax f (firstMax f) := (exists_isFirstMax f).choose_spec

theorem IsFirstMax.eq {n : ℕ} [NeZero n] {f : Fin n → EReal} {i : Fin n} (h : IsFirstMax f i) : firstMax f = i :=
  (firstMax_spec f).unique h

/-! ## Masked farthest-point sampling -/

/-- The squared distance of two points. -/
def dist (p q : Fin 3 → EReal) : EReal :=
  ((p 0 - q 0) * (p 0 - q 0) + (p 1 - q 1) * (p 1 - q 1)) + (p 2 - q 2) * (p 2 - q 2)

/-- A point is graspable when its graspness exceeds the threshold and its second objectness score exceeds the first. -/
def graspable (g : Fin 3 → EReal) : Prop := Ideal.ofBits .f32 1036831949#32 < g 2 ∧ g 0 < g 1

open Classical in
/-- The value a sampling step maximises: the distance at graspable points, `-1` elsewhere. -/
def masked (mask : Fin 20000 → Prop) (d : Fin 20000 → EReal) (n : Fin 20000) : EReal :=
  if mask n then d n else Ideal.ofBits .f32 3212836864#32

/-- One sampling step's distances: the smaller of the distance so far and the distance to the last point. -/
def nearer (xyz : Fin 20000 → Fin 3 → EReal) (d : Fin 20000 → EReal) (last : Fin 20000) (n : Fin 20000) : EReal :=
  min (d n) (dist (xyz n) (xyz last))

open Classical in
/-- The first graspable point, or point 0 when there is none. -/
def firstPoint (mask : Fin 20000 → Prop) : Fin 20000 := firstMax fun n => if mask n then (1 : EReal) else 0

/-- The distances and the last chosen point after `k` steps of farthest-point sampling. -/
def fps (xyz : Fin 20000 → Fin 3 → EReal) (mask : Fin 20000 → Prop) : ℕ → (Fin 20000 → EReal) × Fin 20000
  | 0 => (fun _ => Ideal.ofBits .f32 1343554297#32, firstPoint mask)
  | k + 1 =>
    (nearer xyz (fps xyz mask k).1 (fps xyz mask k).2,
      firstMax (masked mask (nearer xyz (fps xyz mask k).1 (fps xyz mask k).2)))

/-! ## The head -/

/-- The Euclidean norm as both programs form it. -/
def norm3 (a b c : EReal) : EReal := Ideal.sqrt ((a * a + b * b) + c * c)

/-- The cosine similarity of a template direction and a predicted direction, norms kept above `1e-8`. -/
def cosine (t v : Fin 3 → EReal) : EReal :=
  Ideal.div ((t 0 * v 0 + t 1 * v 1) + t 2 * v 2)
    (max (norm3 (t 0) (t 1) (t 2)) (Ideal.ofBits .f32 841731191#32)
      * max (norm3 (v 0) (v 1) (v 2)) (Ideal.ofBits .f32 841731191#32))

/-- The normalised viewing axis. -/
def axisX (v : Fin 3 → EReal) (j : Fin 3) : EReal := Ideal.div (-(v j)) (norm3 (-(v 0)) (-(v 1)) (-(v 2)))

open Classical in
/-- The second axis before normalisation: perpendicular to the viewing axis in the plane, or `(0, 1, 0)` when that vanishes. -/
def axisY₀ (v : Fin 3 → EReal) : Fin 3 → EReal :=
  if norm3 (-(-(v 1))) (-(v 0)) 0 = 0 then ![0, 1, 0] else ![-(-(v 1)), -(v 0), 0]

/-- The second axis, normalised. -/
def axisY (v : Fin 3 → EReal) (j : Fin 3) : EReal :=
  Ideal.div (axisY₀ v j) (norm3 (axisY₀ v 0) (axisY₀ v 1) (axisY₀ v 2))

/-- The third axis: the cross product of the other two. -/
def axisZ (v : Fin 3 → EReal) : Fin 3 → EReal :=
  ![axisX v 1 * axisY v 2 - axisX v 2 * axisY v 1, axisX v 2 * axisY v 0 - axisX v 0 * axisY v 2,
    axisX v 0 * axisY v 1 - axisX v 1 * axisY v 0]

/-- The rotation whose columns are the three axes. -/
def rot (v : Fin 3 → EReal) (r : Fin 3) : Fin 3 → EReal := ![axisX v r, axisY v r, axisZ v r]

/-! ## The programs' inputs, and what they compute from them -/

/-- The arrays the programs read, as functions of their indices. -/
structure Input where
  xyz : Fin 4 → Fin 20000 → Fin 3 → EReal
  feat : Fin 4 → Fin 256 → Fin 20000 → EReal
  scores : Net
  head : Net

/-- The three scores of point `n` of batch `b`. -/
def Input.g (I : Input) (b : Fin 4) (n : Fin 20000) (o : Fin 3) : EReal := I.scores.out (fun c => I.feat b c n) o

/-- Whether point `n` of batch `b` is graspable. -/
def Input.mask (I : Input) (b : Fin 4) (n : Fin 20000) : Prop := graspable (I.g b n)

/-- The `k`-th sampled point of batch `b`. -/
def Input.ind (I : Input) (b : Fin 4) (k : ℕ) : Fin 20000 := (fps (I.xyz b) (I.mask b) k).2

/-- The direction the head predicts at the `k`-th sampled point. -/
def Input.dir (I : Input) (b : Fin 4) (k : ℕ) (j : Fin 3) : EReal := I.head.out (fun c => I.feat b c (I.ind b k)) j

/-- The template direction most similar to the predicted one. -/
def Input.view (I : Input) (tmpl : Fin 300 → Fin 3 → EReal) (b : Fin 4) (k : ℕ) : Fin 300 :=
  firstMax fun t => cosine (tmpl t) (I.dir b k)

end Cert.Proof.Spec

end
-- ==== Proof.KScores.lean ====
/-
  The kernel's first call: the scores of every point, its mask, and its graspness, block by block and then as whole arrays.
-/
module

public import proofs.«01_k».proof.Proof.KRun
public import proofs.«01_k».proof.Proof.Spec
public import Idealize.ShloMosaic.Lib.Pipeline.Value
public import Idealize.ShloMosaic.Lib.Pipeline.ValueKit.Tiles
public import Idealize.ShloMosaic.Lib.Pointwise
public import Idealize.ShloMosaic.Lib.KernelVsHost
public import Idealize.ShloMosaic.Lib.StableHlo.RunRead
public import Idealize.ShloMosaic.Lib.ValueLayout

@[expose] public section

set_option maxRecDepth 16384

noncomputable section

namespace Cert.Proof.Kern

open Cert.KernelIdeal Cert.KernelIdeal.Gen
open Idealize.ShloMosaic Idealize.ShloMosaic.TcCoe Idealize.SL.Sem
open Idealize.ShloMosaic.Pipeline (Dat)
open Cert.Proof.Spec

/-- The perceptron of the blocks of the parameters. -/
def netOf (x1 : Vec Ideal S256x256 .f32) (x2 x3 x4 x5 x6 : Vec Ideal S256x1 .f32) (x7 : Vec Ideal S3x256 .f32)
    (x8 : Vec Ideal S3x1 .f32) : Net where
  w1 i c := x1 (ix2 i c)
  b1 i := x2 (ix2 i 0)
  ga i := x3 (ix2 i 0)
  be i := x4 (ix2 i 0)
  mu i := x5 (ix2 i 0)
  va i := x6 (ix2 i 0)
  w2 o i := x7 (ix2 o i)
  b2 o := x8 (ix2 o 0)

/-- One block's scores at an index. -/
theorem pay2_apply (f : Vec Ideal S1x256x2500 .f32) (x1 : Vec Ideal S256x256 .f32) (x2 x3 x4 x5 x6 : Vec Ideal S256x1 .f32)
    (x7 : Vec Ideal S3x256 .f32) (x8 : Vec Ideal S3x1 .f32) (o : Fin 3) (j : Fin 2500) :
    k0_pay2 f x1 x2 x5 x6 x3 x4 x7 x8 (ix2 o j)
      = (netOf x1 x2 x3 x4 x5 x6 x7 x8).out (fun c => f (ix3 0 c j)) o := by
  unfold k0_pay2
  pointwise
  simp only [Net.out, Net.norm, netOf]
  congr 1
  refine Finset.sum_congr rfl fun i _ => ?_
  rw [mul_comm, Finset.sum_congr rfl fun k _ => mul_comm (x1 (ix2 i k)) (f (ix3 0 k j))]

open Classical in
/-- One where the statement holds, zero where it does not. -/
def bit (p : Prop) : EReal := if p then 1 else 0

/-- A set bit as a real is one, -/
theorem sitofp_one : (FloatOps.sitofp .f32 (1#32) : Ideal .f32) = 1 := by
  refine (Ideal.scalar_sitofp_def (φ := .f32) _).trans ?_
  simp

/-- a clear one zero. -/
theorem sitofp_zero : (FloatOps.sitofp .f32 (0#32) : Ideal .f32) = 0 := by
  refine (Ideal.scalar_sitofp_def (φ := .f32) _).trans ?_
  simp

/-- One block's mask at an index. -/
theorem pay5_apply (g : FVec Ideal S3x2500 .f32) (j : Fin 2500) :
    k0_pay5 g (ix4 0 0 0 j) = bit (graspable fun o => g (ix2 o j)) := by
  unfold k0_pay5 k0_pay4
  pointwise
  by_cases h1 : Ideal.ofBits .f32 1036831949#32 < g (ix2 2 j) <;> by_cases h2 : g (ix2 0 j) < g (ix2 1 j) <;>
    simp [h1, h2, IntOp.andi, sitofp_one, sitofp_zero, bit, graspable]

/-- One block's graspness at an index. -/
theorem pay6_apply (g : FVec Ideal S3x2500 .f32) (j : Fin 2500) :
    k0_pay6 g (ix4 0 0 0 j) = g (ix2 2 j) := by
  unfold k0_pay6 k0_pay4
  pointwise

/-- The column `j` of block `k`. -/
def col (k : Fin 8) (j : Fin 2500) : Fin 20000 := ⟨2500 * k.val + j.val, by omega⟩

/-- The scores of the 2500 columns from `q` on. -/
abbrev scoresAt (x0 : Vec Ideal S1x256x20000 .f32) (x1 : Vec Ideal S256x256 .f32) (x2 x3 x4 x5 x6 : Vec Ideal S256x1 .f32)
    (x7 : Vec Ideal S3x256 .f32) (x8 : Vec Ideal S3x1 .f32)
    (q : ℕ) (h : ∀ a, (![0, 0, q] : Fin 3 → ℕ) a + S1x256x2500.size a ≤ S1x256x20000.size a) : FVec Ideal S3x2500 .f32 :=
  k0_pay2 (View.ld x0 (Rect.unit (s := S1x256x20000) ![0, 0, q] S1x256x2500.size h)) (View.ld x1 r0_1) (View.ld x2 r0_2) (View.ld x5 r0_2) (View.ld x6 r0_2) (View.ld x3 r0_2) (View.ld x4 r0_2) (View.ld x7 r0_3) (View.ld x8 r0_4)

/-- They are the perceptron's outputs at those columns. -/
theorem scoresAt_apply (x0 : Vec Ideal S1x256x20000 .f32) (x1 : Vec Ideal S256x256 .f32) (x2 x3 x4 x5 x6 : Vec Ideal S256x1 .f32)
    (x7 : Vec Ideal S3x256 .f32) (x8 : Vec Ideal S3x1 .f32)
    (q : ℕ) (h : ∀ a, (![0, 0, q] : Fin 3 → ℕ) a + S1x256x2500.size a ≤ S1x256x20000.size a) (o : Fin 3) (j : Fin 2500)
    (n : Fin 20000) (hn : n.val = q + j.val) :
    scoresAt x0 x1 x2 x3 x4 x5 x6 x7 x8 q h (ix2 o j)
      = (netOf x1 x2 x3 x4 x5 x6 x7 x8).out (fun c => x0 (ix3 0 c n)) o := by
  unfold scoresAt
  rw [pay2_apply, View.ld_unit_zero (by decide), View.ld_unit_zero (by decide), View.ld_unit_zero (by decide),
    View.ld_unit_zero (by decide), View.ld_unit_zero (by decide), View.ld_unit_zero (by decide),
    View.ld_unit_zero (by decide), View.ld_unit_zero (by decide)]
  congr 1
  funext c
  refine congrArg x0 (funext fun a => Fin.ext ?_)
  fin_cases a
  · rfl
  · show 0 + 1 * c.val = c.val
    omega
  · show q + 1 * j.val = n.val
    omega

/-- The block's scores, its eight stores alike. -/
theorem out9_eq (x0 : Vec Ideal S1x256x20000 .f32) (x1 : Vec Ideal S256x256 .f32) (x2 x3 x4 x5 x6 : Vec Ideal S256x1 .f32)
    (x7 : Vec Ideal S3x256 .f32) (x8 : Vec Ideal S3x1 .f32) :
    out0_9 x0 x1 x2 x3 x4 x5 x6 x7 x8
      = View.canon [⟨r0_26, k0_pay3 (scoresAt x0 x1 x2 x3 x4 x5 x6 x7 x8 17500 (by decide))⟩,
        ⟨r0_23, k0_pay3 (scoresAt x0 x1 x2 x3 x4 x5 x6 x7 x8 15000 (by decide))⟩,
        ⟨r0_20, k0_pay3 (scoresAt x0 x1 x2 x3 x4 x5 x6 x7 x8 12500 (by decide))⟩,
        ⟨r0_17, k0_pay3 (scoresAt x0 x1 x2 x3 x4 x5 x6 x7 x8 10000 (by decide))⟩,
        ⟨r0_14, k0_pay3 (scoresAt x0 x1 x2 x3 x4 x5 x6 x7 x8 7500 (by decide))⟩,
        ⟨r0_11, k0_pay3 (scoresAt x0 x1 x2 x3 x4 x5 x6 x7 x8 5000 (by decide))⟩,
        ⟨r0_8, k0_pay3 (scoresAt x0 x1 x2 x3 x4 x5 x6 x7 x8 2500 (by decide))⟩,
        ⟨r0_5, k0_pay3 (scoresAt x0 x1 x2 x3 x4 x5 x6 x7 x8 0 (by decide))⟩] := by
  rfl

/-- The block's masks, its eight stores alike. -/
theorem out10_eq (x0 : Vec Ideal S1x256x20000 .f32) (x1 : Vec Ideal S256x256 .f32) (x2 x3 x4 x5 x6 : Vec Ideal S256x1 .f32)
    (x7 : Vec Ideal S3x256 .f32) (x8 : Vec Ideal S3x1 .f32) :
    out0_10 x0 x1 x2 x3 x4 x5 x6 x7 x8
      = View.canon [⟨r0_27, k0_pay5 (scoresAt x0 x1 x2 x3 x4 x5 x6 x7 x8 17500 (by decide))⟩,
        ⟨r0_24, k0_pay5 (scoresAt x0 x1 x2 x3 x4 x5 x6 x7 x8 15000 (by decide))⟩,
        ⟨r0_21, k0_pay5 (scoresAt x0 x1 x2 x3 x4 x5 x6 x7 x8 12500 (by decide))⟩,
        ⟨r0_18, k0_pay5 (scoresAt x0 x1 x2 x3 x4 x5 x6 x7 x8 10000 (by decide))⟩,
        ⟨r0_15, k0_pay5 (scoresAt x0 x1 x2 x3 x4 x5 x6 x7 x8 7500 (by decide))⟩,
        ⟨r0_12, k0_pay5 (scoresAt x0 x1 x2 x3 x4 x5 x6 x7 x8 5000 (by decide))⟩,
        ⟨r0_9, k0_pay5 (scoresAt x0 x1 x2 x3 x4 x5 x6 x7 x8 2500 (by decide))⟩,
        ⟨r0_6, k0_pay5 (scoresAt x0 x1 x2 x3 x4 x5 x6 x7 x8 0 (by decide))⟩] := by
  rfl

/-- The block's graspness, its eight stores alike. -/
theorem out11_eq (x0 : Vec Ideal S1x256x20000 .f32) (x1 : Vec Ideal S256x256 .f32) (x2 x3 x4 x5 x6 : Vec Ideal S256x1 .f32)
    (x7 : Vec Ideal S3x256 .f32) (x8 : Vec Ideal S3x1 .f32) :
    out0_11 x0 x1 x2 x3 x4 x5 x6 x7 x8
      = View.canon [⟨r0_27, k0_pay6 (scoresAt x0 x1 x2 x3 x4 x5 x6 x7 x8 17500 (by decide))⟩,
        ⟨r0_24, k0_pay6 (scoresAt x0 x1 x2 x3 x4 x5 x6 x7 x8 15000 (by decide))⟩,
        ⟨r0_21, k0_pay6 (scoresAt x0 x1 x2 x3 x4 x5 x6 x7 x8 12500 (by decide))⟩,
        ⟨r0_18, k0_pay6 (scoresAt x0 x1 x2 x3 x4 x5 x6 x7 x8 10000 (by decide))⟩,
        ⟨r0_15, k0_pay6 (scoresAt x0 x1 x2 x3 x4 x5 x6 x7 x8 7500 (by decide))⟩,
        ⟨r0_12, k0_pay6 (scoresAt x0 x1 x2 x3 x4 x5 x6 x7 x8 5000 (by decide))⟩,
        ⟨r0_9, k0_pay6 (scoresAt x0 x1 x2 x3 x4 x5 x6 x7 x8 2500 (by decide))⟩,
        ⟨r0_6, k0_pay6 (scoresAt x0 x1 x2 x3 x4 x5 x6 x7 x8 0 (by decide))⟩] := by
  rfl

/-- A block's scores at an index. -/
theorem out9_apply (x0 : Vec Ideal S1x256x20000 .f32) (x1 : Vec Ideal S256x256 .f32) (x2 x3 x4 x5 x6 : Vec Ideal S256x1 .f32)
    (x7 : Vec Ideal S3x256 .f32) (x8 : Vec Ideal S3x1 .f32) (o : Fin 3) (n : Fin 20000) :
    out0_9 x0 x1 x2 x3 x4 x5 x6 x7 x8 (ix3 0 o n) = (netOf x1 x2 x3 x4 x5 x6 x7 x8).out (fun c => x0 (ix3 0 c n)) o := by
  have piece (q : ℕ) (h : ∀ a, (![0, 0, q] : Fin 3 → ℕ) a + S1x256x2500.size a ≤ S1x256x20000.size a)
      (h' : ∀ a, (![0, 0, q] : Fin 3 → ℕ) a + S1x3x2500.size a ≤ S1x3x20000.size a) (x : S1x3x2500.Idx) :
      k0_pay3 (scoresAt x0 x1 x2 x3 x4 x5 x6 x7 x8 q h) x
        = (fun i : S1x3x20000.Idx => (netOf x1 x2 x3 x4 x5 x6 x7 x8).out (fun c => x0 (ix3 0 c (i 2))) (i 1))
          ((Rect.unit (s := S1x3x20000) ![0, 0, q] S1x3x2500.size h').emb x) := by
    obtain ⟨z, o, j, rfl⟩ : ∃ z o j, x = ix3 z o j := ⟨_, _, _, eq_ix3 x⟩
    have e : k0_pay3 (scoresAt x0 x1 x2 x3 x4 x5 x6 x7 x8 q h) (ix3 z o j) = scoresAt x0 x1 x2 x3 x4 x5 x6 x7 x8 q h (ix2 o j) := by
      unfold k0_pay3
      generalize scoresAt x0 x1 x2 x3 x4 x5 x6 x7 x8 q h = T
      pointwise
    rw [e, scoresAt_apply x0 x1 x2 x3 x4 x5 x6 x7 x8 q h o j ((Rect.unit (s := S1x3x20000) ![0, 0, q] S1x3x2500.size h').emb (ix3 z o j) 2)
      (by show q + 1 * j.val = q + j.val; omega)]
    congr 1
    exact Fin.ext (by show o.val = 0 + 1 * o.val; omega)
  rw [out9_eq]
  refine (View.canon_apply_of_pieces (fun i : S1x3x20000.Idx => (netOf x1 x2 x3 x4 x5 x6 x7 x8).out (fun c => x0 (ix3 0 c (i 2))) (i 1))
    _ ?_ _ (View.cover_of_tiled_head _ _ _ rfl _)).trans rfl
  simp only [List.forall_mem_cons]
  exact ⟨piece _ _ _, piece _ _ _, piece _ _ _, piece _ _ _, piece _ _ _, piece _ _ _, piece _ _ _, piece _ _ _, fun _ h => absurd h List.not_mem_nil⟩

/-- A block's mask at an index. -/
theorem out10_apply (x0 : Vec Ideal S1x256x20000 .f32) (x1 : Vec Ideal S256x256 .f32) (x2 x3 x4 x5 x6 : Vec Ideal S256x1 .f32)
    (x7 : Vec Ideal S3x256 .f32) (x8 : Vec Ideal S3x1 .f32) (k : Fin 8) (j : Fin 2500) :
    out0_10 x0 x1 x2 x3 x4 x5 x6 x7 x8 (ix4 0 k 0 j) = (bit (graspable ((netOf x1 x2 x3 x4 x5 x6 x7 x8).out (fun c => x0 (ix3 0 c (col k j)))))) := by
  have piece (q : ℕ) (k : ℕ) (hk : k < 8) (hq : q = 2500 * k)
      (h : ∀ a, (![0, 0, q] : Fin 3 → ℕ) a + S1x256x2500.size a ≤ S1x256x20000.size a)
      (h' : ∀ a, (![0, k, 0, 0] : Fin 4 → ℕ) a + S1x1x1x2500.size a ≤ S1x8x1x2500.size a) (x : S1x1x1x2500.Idx) :
      k0_pay5 (scoresAt x0 x1 x2 x3 x4 x5 x6 x7 x8 q h) x
        = (fun i : S1x8x1x2500.Idx => (bit (graspable ((netOf x1 x2 x3 x4 x5 x6 x7 x8).out (fun c => x0 (ix3 0 c (col (i 1) (i 3))))))))
          ((Rect.unit (s := S1x8x1x2500) ![0, k, 0, 0] S1x1x1x2500.size h').emb x) := by
    obtain ⟨z, y, w, j, rfl⟩ : ∃ z y w j, x = ix4 z y w j := ⟨_, _, _, _, eq_ix4 x⟩
    obtain rfl : z = 0 := Subsingleton.elim _ _
    obtain rfl : y = 0 := Subsingleton.elim _ _
    obtain rfl : w = 0 := Subsingleton.elim _ _
    have e (o : Fin 3) := scoresAt_apply x0 x1 x2 x3 x4 x5 x6 x7 x8 q h o j (col ⟨k, hk⟩ j) (by show 2500 * k + j.val = _; omega)
    have ek : (Rect.unit (s := S1x8x1x2500) ![0, k, 0, 0] S1x1x1x2500.size h').emb (ix4 0 0 0 j) 1 = (⟨k, hk⟩ : Fin 8) :=
      Fin.ext (by show k + 1 * 0 = k; omega)
    have ej : (Rect.unit (s := S1x8x1x2500) ![0, k, 0, 0] S1x1x1x2500.size h').emb (ix4 0 0 0 j) 3 = j :=
      Fin.ext (by show 0 + 1 * j.val = j.val; omega)
    rw [pay5_apply]
    simp only [e]
    show _ = (bit (graspable ((netOf x1 x2 x3 x4 x5 x6 x7 x8).out (fun c => x0 (ix3 0 c (col ((Rect.unit (s := S1x8x1x2500) ![0, k, 0, 0] S1x1x1x2500.size h').emb (ix4 0 0 0 j) 1) ((Rect.unit (s := S1x8x1x2500) ![0, k, 0, 0] S1x1x1x2500.size h').emb (ix4 0 0 0 j) 3)))))))
    rw [ek, ej]
  rw [out10_eq]
  refine (View.canon_apply_of_pieces (fun i : S1x8x1x2500.Idx => (bit (graspable ((netOf x1 x2 x3 x4 x5 x6 x7 x8).out (fun c => x0 (ix3 0 c (col (i 1) (i 3))))))))
    _ ?_ _ (View.cover_of_tiled_head _ _ _ rfl _)).trans rfl
  simp only [List.forall_mem_cons]
  exact ⟨piece _ 7 (by decide) rfl _ _, piece _ 6 (by decide) rfl _ _, piece _ 5 (by decide) rfl _ _, piece _ 4 (by decide) rfl _ _, piece _ 3 (by decide) rfl _ _, piece _ 2 (by decide) rfl _ _, piece _ 1 (by decide) rfl _ _, piece _ 0 (by decide) rfl _ _, fun _ h => absurd h List.not_mem_nil⟩

/-- A block's graspness at an index. -/
theorem out11_apply (x0 : Vec Ideal S1x256x20000 .f32) (x1 : Vec Ideal S256x256 .f32) (x2 x3 x4 x5 x6 : Vec Ideal S256x1 .f32)
    (x7 : Vec Ideal S3x256 .f32) (x8 : Vec Ideal S3x1 .f32) (k : Fin 8) (j : Fin 2500) :
    out0_11 x0 x1 x2 x3 x4 x5 x6 x7 x8 (ix4 0 k 0 j) = ((netOf x1 x2 x3 x4 x5 x6 x7 x8).out (fun c => x0 (ix3 0 c (col k j))) 2) := by
  have piece (q : ℕ) (k : ℕ) (hk : k < 8) (hq : q = 2500 * k)
      (h : ∀ a, (![0, 0, q] : Fin 3 → ℕ) a + S1x256x2500.size a ≤ S1x256x20000.size a)
      (h' : ∀ a, (![0, k, 0, 0] : Fin 4 → ℕ) a + S1x1x1x2500.size a ≤ S1x8x1x2500.size a) (x : S1x1x1x2500.Idx) :
      k0_pay6 (scoresAt x0 x1 x2 x3 x4 x5 x6 x7 x8 q h) x
        = (fun i : S1x8x1x2500.Idx => ((netOf x1 x2 x3 x4 x5 x6 x7 x8).out (fun c => x0 (ix3 0 c (col (i 1) (i 3)))) 2))
          ((Rect.unit (s := S1x8x1x2500) ![0, k, 0, 0] S1x1x1x2500.size h').emb x) := by
    obtain ⟨z, y, w, j, rfl⟩ : ∃ z y w j, x = ix4 z y w j := ⟨_, _, _, _, eq_ix4 x⟩
    obtain rfl : z = 0 := Subsingleton.elim _ _
    obtain rfl : y = 0 := Subsingleton.elim _ _
    obtain rfl : w = 0 := Subsingleton.elim _ _
    have e (o : Fin 3) := scoresAt_apply x0 x1 x2 x3 x4 x5 x6 x7 x8 q h o j (col ⟨k, hk⟩ j) (by show 2500 * k + j.val = _; omega)
    have ek : (Rect.unit (s := S1x8x1x2500) ![0, k, 0, 0] S1x1x1x2500.size h').emb (ix4 0 0 0 j) 1 = (⟨k, hk⟩ : Fin 8) :=
      Fin.ext (by show k + 1 * 0 = k; omega)
    have ej : (Rect.unit (s := S1x8x1x2500) ![0, k, 0, 0] S1x1x1x2500.size h').emb (ix4 0 0 0 j) 3 = j :=
      Fin.ext (by show 0 + 1 * j.val = j.val; omega)
    rw [pay6_apply]
    simp only [e]
    show _ = ((netOf x1 x2 x3 x4 x5 x6 x7 x8).out (fun c => x0 (ix3 0 c (col ((Rect.unit (s := S1x8x1x2500) ![0, k, 0, 0] S1x1x1x2500.size h').emb (ix4 0 0 0 j) 1) ((Rect.unit (s := S1x8x1x2500) ![0, k, 0, 0] S1x1x1x2500.size h').emb (ix4 0 0 0 j) 3)))) 2)
    rw [ek, ej]
  rw [out11_eq]
  refine (View.canon_apply_of_pieces (fun i : S1x8x1x2500.Idx => ((netOf x1 x2 x3 x4 x5 x6 x7 x8).out (fun c => x0 (ix3 0 c (col (i 1) (i 3)))) 2))
    _ ?_ _ (View.cover_of_tiled_head _ _ _ rfl _)).trans rfl
  simp only [List.forall_mem_cons]
  exact ⟨piece _ 7 (by decide) rfl _ _, piece _ 6 (by decide) rfl _ _, piece _ 5 (by decide) rfl _ _, piece _ 4 (by decide) rfl _ _, piece _ 3 (by decide) rfl _ _, piece _ 2 (by decide) rfl _ _, piece _ 1 (by decide) rfl _ _, piece _ 0 (by decide) rfl _ _, fun _ h => absurd h List.not_mem_nil⟩

/-- The kernel's inputs, as functions of their indices. -/
def input (V : Valuation τ sig (Elt Ideal)) : Input where
  xyz b n j := V (Proc.devRef .tc main_arg0) (ix3 b n j)
  feat b c n := V (Proc.devRef .tc main_arg1) (ix3 b c n)
  scores :=
    { w1 := fun i k => V (Proc.devRef .tc main_arg2) (ix2 i k)
      b1 := fun i => V (Proc.devRef .tc main_arg3) (ix1 i)
      ga := fun i => V (Proc.devRef .tc main_arg4) (ix1 i)
      be := fun i => V (Proc.devRef .tc main_arg5) (ix1 i)
      mu := fun i => V (Proc.devRef .tc main_arg6) (ix1 i)
      va := fun i => V (Proc.devRef .tc main_arg7) (ix1 i)
      w2 := fun i k => V (Proc.devRef .tc main_arg8) (ix2 i k)
      b2 := fun i => V (Proc.devRef .tc main_arg9) (ix1 i) }
  head :=
    { w1 := fun i k => V (Proc.devRef .tc main_arg10) (ix2 i k)
      b1 := fun i => V (Proc.devRef .tc main_arg11) (ix1 i)
      ga := fun i => V (Proc.devRef .tc main_arg12) (ix1 i)
      be := fun i => V (Proc.devRef .tc main_arg13) (ix1 i)
      mu := fun i => V (Proc.devRef .tc main_arg14) (ix1 i)
      va := fun i => V (Proc.devRef .tc main_arg15) (ix1 i)
      w2 := fun i k => V (Proc.devRef .tc main_arg16) (ix2 i k)
      b2 := fun i => V (Proc.devRef .tc main_arg17) (ix1 i) }

variable (V : (c : Dev nD) → (b : Ref sig .tc) → Buf (Elt Ideal) ((c.tc : Thread nD τ).loc b))

/-- The perceptron of the whole parameter arrays. -/
abbrev netAt (c : Dev nD) : Net :=
  netOf (V c main_arg2) (V c main_v0) (V c main_v1) (V c main_v2) (V c main_v3) (V c main_v4) (V c main_arg8) (V c main_v5)

/-- The block of a window that takes an array whole is the array. -/
theorem index_zero (t : Fin cfg0.N) : (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) := by
  refine ⟨?_, ?_, ?_, ?_, ?_, ?_, ?_, ?_⟩ <;> intro a <;> fin_cases a <;> rfl

/-- A grid point's number is its batch. -/
theorem point_val (t : Fin cfg0.N) : t.val < 4 ∧ win0_0.index t 0 = t.val ∧ win0_9.index t 0 = t.val ∧ win0_10.index t 0 = t.val
    ∧ win0_11.index t 0 = t.val := by
  rcases fin_N0 t with rfl | rfl | rfl | rfl <;> decide +kernel

/-- The features' block at a point is the features of its batch. -/
theorem iblk0_0_apply (c : Dev nD) (t : Fin cfg0.N) (b : Fin 4) (ht : t.val = b.val) (k : Fin 256) (n : Fin 20000) :
    iblk0 V c 0 t (ix3 0 k n) = V c main_arg1 (ix3 b k n) := by
  show V c main_arg1 ((win0_0.rect t).emb (ix3 0 k n)) = _
  refine congrArg (V c main_arg1) (funext fun a => Fin.ext ?_)
  fin_cases a
  · show win0_0.index t 0 * 1 + 1 * 0 = b.val
    rw [(point_val t).2.1]
    omega
  · show 0 * 256 + 1 * k.val = k.val
    omega
  · show 0 * 20000 + 1 * n.val = n.val
    omega

theorem iblk0_1_eq (c : Dev nD) (t : Fin cfg0.N) : iblk0 V c 1 t = V c main_arg2 := by
  funext x
  show V c main_arg2 ((win0_1.rect t).emb x) = _
  refine congrArg (V c main_arg2) (funext fun a => Fin.ext ?_)
  show win0_1.index t a * win0_1.size a + 1 * (x a).val = (x a).val
  rw [(index_zero t).1 a]
  omega

theorem iblk0_2_eq (c : Dev nD) (t : Fin cfg0.N) : iblk0 V c 2 t = V c main_v0 := by
  funext x
  show V c main_v0 ((win0_2.rect t).emb x) = _
  refine congrArg (V c main_v0) (funext fun a => Fin.ext ?_)
  show win0_2.index t a * win0_2.size a + 1 * (x a).val = (x a).val
  rw [(index_zero t).2.1 a]
  omega

theorem iblk0_3_eq (c : Dev nD) (t : Fin cfg0.N) : iblk0 V c 3 t = V c main_v1 := by
  funext x
  show V c main_v1 ((win0_3.rect t).emb x) = _
  refine congrArg (V c main_v1) (funext fun a => Fin.ext ?_)
  show win0_3.index t a * win0_3.size a + 1 * (x a).val = (x a).val
  rw [(index_zero t).2.2.1 a]
  omega

theorem iblk0_4_eq (c : Dev nD) (t : Fin cfg0.N) : iblk0 V c 4 t = V c main_v2 := by
  funext x
  show V c main_v2 ((win0_4.rect t).emb x) = _
  refine congrArg (V c main_v2) (funext fun a => Fin.ext ?_)
  show win0_4.index t a * win0_4.size a + 1 * (x a).val = (x a).val
  rw [(index_zero t).2.2.2.1 a]
  omega

theorem iblk0_5_eq (c : Dev nD) (t : Fin cfg0.N) : iblk0 V c 5 t = V c main_v3 := by
  funext x
  show V c main_v3 ((win0_5.rect t).emb x) = _
  refine congrArg (V c main_v3) (funext fun a => Fin.ext ?_)
  show win0_5.index t a * win0_5.size a + 1 * (x a).val = (x a).val
  rw [(index_zero t).2.2.2.2.1 a]
  omega

theorem iblk0_6_eq (c : Dev nD) (t : Fin cfg0.N) : iblk0 V c 6 t = V c main_v4 := by
  funext x
  show V c main_v4 ((win0_6.rect t).emb x) = _
  refine congrArg (V c main_v4) (funext fun a => Fin.ext ?_)
  show win0_6.index t a * win0_6.size a + 1 * (x a).val = (x a).val
  rw [(index_zero t).2.2.2.2.2.1 a]
  omega

theorem iblk0_7_eq (c : Dev nD) (t : Fin cfg0.N) : iblk0 V c 7 t = V c main_arg8 := by
  funext x
  show V c main_arg8 ((win0_7.rect t).emb x) = _
  refine congrArg (V c main_arg8) (funext fun a => Fin.ext ?_)
  show win0_7.index t a * win0_7.size a + 1 * (x a).val = (x a).val
  rw [(index_zero t).2.2.2.2.2.2.1 a]
  omega

theorem iblk0_8_eq (c : Dev nD) (t : Fin cfg0.N) : iblk0 V c 8 t = V c main_v5 := by
  funext x
  show V c main_v5 ((win0_8.rect t).emb x) = _
  refine congrArg (V c main_v5) (funext fun a => Fin.ext ?_)
  show win0_8.index t a * win0_8.size a + 1 * (x a).val = (x a).val
  rw [(index_zero t).2.2.2.2.2.2.2 a]
  omega

/-- A batch's block of window 9 holds the indices of that batch. -/
theorem mem_blk9 (t : Fin cfg0.N) (i : S4x3x20000.Idx) (h : (i 0).val = t.val) : i ∈ ((cfg0.win 9).blk t).view.set := by
  show i ∈ ((View.whole main_v6_0).slice (win0_9.rect t)).set
  rw [View.set_slice_whole, Rect.mem_set_unit]
  intro a
  fin_cases a
  · show win0_9.index _ 0 * 1 ≤ (i 0).val ∧ (i 0).val < win0_9.index _ 0 * 1 + 1
    rw [(point_val _).2.2.1]
    dsimp only
    omega
  · show 0 * 3 ≤ (i 1).val ∧ (i 1).val < 0 * 3 + 3
    have : (i 1).val < 3 := (i 1).isLt
    omega
  · show 0 * 20000 ≤ (i 2).val ∧ (i 2).val < 0 * 20000 + 20000
    have : (i 2).val < 20000 := (i 2).isLt
    omega

/-- The scores the call leaves. -/
theorem final9 (c : Dev nD) (b : Fin 4) (o : Fin 3) (n : Fin 20000) :
    (dat0 V c).arrAt 9 cfg0.N (ix3 b o n) = (netAt V c).out (fun q => V c main_arg1 (ix3 b q n)) o := by
  refine (congrFun ((dat0 V c).arrAt_eq_of_cover 9
    (fun i : S4x3x20000.Idx => (netAt V c).out (fun q => V c main_arg1 (ix3 (i 0) q (i 2))) (i 1))
    (fun t _ => ?_) (fun i => ?_)) (ix3 b o n)).trans rfl
  · show (cfg0.win 9).cut (grid0.coords t) ((dat0 V c).after 9 t) = _
    rw [after0_9, iblk0_1_eq, iblk0_2_eq, iblk0_3_eq, iblk0_4_eq, iblk0_5_eq, iblk0_6_eq, iblk0_7_eq, iblk0_8_eq]
    funext x
    obtain ⟨z, o, n, rfl⟩ : ∃ (z : Fin 1) (o : Fin 3) (n : Fin 20000), x = ix3 z o n := ⟨_, _, _, eq_ix3 x⟩
    obtain rfl : z = 0 := Subsingleton.elim _ _
    refine (out9_apply _ _ _ _ _ _ _ _ _ o n).trans ?_
    simp only [iblk0_0_apply V c t ⟨t.val, (point_val t).1⟩ rfl]
    show _ = (netAt V c).out (fun q => V c main_arg1 (ix3 ((win0_9.rect t).emb (ix3 0 o n) 0) q ((win0_9.rect t).emb (ix3 0 o n) 2))) ((win0_9.rect t).emb (ix3 0 o n) 1)
    have e0 : (win0_9.rect t).emb (ix3 0 o n) 0 = (⟨t.val, (point_val t).1⟩ : Fin 4) := Fin.ext (by
      show win0_9.index t 0 * 1 + 1 * 0 = t.val
      rw [(point_val t).2.2.1]; omega)
    have e1 : (win0_9.rect t).emb (ix3 0 o n) 1 = o := Fin.ext (by show 0 * 3 + 1 * o.val = o.val; omega)
    have e2 : (win0_9.rect t).emb (ix3 0 o n) 2 = n := Fin.ext (by show 0 * 20000 + 1 * n.val = n.val; omega)
    rw [e0, e1, e2]
  · have hN : cfg0.N = 4 := N_0
    have hb : (i 0).val < 4 := (i 0).isLt
    exact ⟨⟨(i 0).val, by omega⟩, flush0_9 _, mem_blk9 _ i rfl⟩

/-- A batch's block of window 10 holds the indices of that batch. -/
theorem mem_blk10 (t : Fin cfg0.N) (i : S4x8x1x2500.Idx) (h : (i 0).val = t.val) : i ∈ ((cfg0.win 10).blk t).view.set := by
  show i ∈ ((View.whole main_v6_1).slice (win0_10.rect t)).set
  rw [View.set_slice_whole, Rect.mem_set_unit]
  intro a
  fin_cases a
  · show win0_10.index _ 0 * 1 ≤ (i 0).val ∧ (i 0).val < win0_10.index _ 0 * 1 + 1
    rw [(point_val _).2.2.2.1]
    dsimp only
    omega
  · show 0 * 8 ≤ (i 1).val ∧ (i 1).val < 0 * 8 + 8
    have : (i 1).val < 8 := (i 1).isLt
    omega
  · show 0 * 1 ≤ (i 2).val ∧ (i 2).val < 0 * 1 + 1
    have : (i 2).val < 1 := (i 2).isLt
    omega
  · show 0 * 2500 ≤ (i 3).val ∧ (i 3).val < 0 * 2500 + 2500
    have : (i 3).val < 2500 := (i 3).isLt
    omega

/-- The mask the call leaves. -/
theorem final10 (c : Dev nD) (b : Fin 4) (k : Fin 8) (j : Fin 2500) :
    (dat0 V c).arrAt 10 cfg0.N (ix4 b k 0 j) = bit (graspable ((netAt V c).out fun q => V c main_arg1 (ix3 b q (col k j)))) := by
  refine (congrFun ((dat0 V c).arrAt_eq_of_cover 10
    (fun i : S4x8x1x2500.Idx => bit (graspable ((netAt V c).out fun q => V c main_arg1 (ix3 (i 0) q (col (i 1) (i 3))))))
    (fun t _ => ?_) (fun i => ?_)) (ix4 b k 0 j)).trans rfl
  · show (cfg0.win 10).cut (grid0.coords t) ((dat0 V c).after 10 t) = _
    rw [after0_10, iblk0_1_eq, iblk0_2_eq, iblk0_3_eq, iblk0_4_eq, iblk0_5_eq, iblk0_6_eq, iblk0_7_eq, iblk0_8_eq]
    funext x
    obtain ⟨z, k, y, j, rfl⟩ : ∃ (z : Fin 1) (k : Fin 8) (y : Fin 1) (j : Fin 2500), x = ix4 z k y j := ⟨_, _, _, _, eq_ix4 x⟩
    obtain rfl : z = 0 := Subsingleton.elim _ _
    obtain rfl : y = 0 := Subsingleton.elim _ _
    refine (out10_apply _ _ _ _ _ _ _ _ _ k j).trans ?_
    simp only [iblk0_0_apply V c t ⟨t.val, (point_val t).1⟩ rfl]
    show _ = bit (graspable ((netAt V c).out fun q => V c main_arg1 (ix3 ((win0_10.rect t).emb (ix4 0 k 0 j) 0) q (col ((win0_10.rect t).emb (ix4 0 k 0 j) 1) ((win0_10.rect t).emb (ix4 0 k 0 j) 3)))))
    have e0 : (win0_10.rect t).emb (ix4 0 k 0 j) 0 = (⟨t.val, (point_val t).1⟩ : Fin 4) := Fin.ext (by
      show win0_10.index t 0 * 1 + 1 * 0 = t.val
      rw [(point_val t).2.2.2.1]; omega)
    have e1 : (win0_10.rect t).emb (ix4 0 k 0 j) 1 = k := Fin.ext (by show 0 * 8 + 1 * k.val = k.val; omega)
    have e3 : (win0_10.rect t).emb (ix4 0 k 0 j) 3 = j := Fin.ext (by show 0 * 2500 + 1 * j.val = j.val; omega)
    rw [e0, e1, e3]
  · have hN : cfg0.N = 4 := N_0
    have hb : (i 0).val < 4 := (i 0).isLt
    exact ⟨⟨(i 0).val, by omega⟩, flush0_10 _, mem_blk10 _ i rfl⟩

/-- A batch's block of window 11 holds the indices of that batch. -/
theorem mem_blk11 (t : Fin cfg0.N) (i : S4x8x1x2500.Idx) (h : (i 0).val = t.val) : i ∈ ((cfg0.win 11).blk t).view.set := by
  show i ∈ ((View.whole main_v6_2).slice (win0_11.rect t)).set
  rw [View.set_slice_whole, Rect.mem_set_unit]
  intro a
  fin_cases a
  · show win0_11.index _ 0 * 1 ≤ (i 0).val ∧ (i 0).val < win0_11.index _ 0 * 1 + 1
    rw [(point_val _).2.2.2.2]
    dsimp only
    omega
  · show 0 * 8 ≤ (i 1).val ∧ (i 1).val < 0 * 8 + 8
    have : (i 1).val < 8 := (i 1).isLt
    omega
  · show 0 * 1 ≤ (i 2).val ∧ (i 2).val < 0 * 1 + 1
    have : (i 2).val < 1 := (i 2).isLt
    omega
  · show 0 * 2500 ≤ (i 3).val ∧ (i 3).val < 0 * 2500 + 2500
    have : (i 3).val < 2500 := (i 3).isLt
    omega

/-- The graspness the call leaves. -/
theorem final11 (c : Dev nD) (b : Fin 4) (k : Fin 8) (j : Fin 2500) :
    (dat0 V c).arrAt 11 cfg0.N (ix4 b k 0 j) = (netAt V c).out (fun q => V c main_arg1 (ix3 b q (col k j))) 2 := by
  refine (congrFun ((dat0 V c).arrAt_eq_of_cover 11
    (fun i : S4x8x1x2500.Idx => (netAt V c).out (fun q => V c main_arg1 (ix3 (i 0) q (col (i 1) (i 3)))) 2)
    (fun t _ => ?_) (fun i => ?_)) (ix4 b k 0 j)).trans rfl
  · show (cfg0.win 11).cut (grid0.coords t) ((dat0 V c).after 11 t) = _
    rw [after0_11, iblk0_1_eq, iblk0_2_eq, iblk0_3_eq, iblk0_4_eq, iblk0_5_eq, iblk0_6_eq, iblk0_7_eq, iblk0_8_eq]
    funext x
    obtain ⟨z, k, y, j, rfl⟩ : ∃ (z : Fin 1) (k : Fin 8) (y : Fin 1) (j : Fin 2500), x = ix4 z k y j := ⟨_, _, _, _, eq_ix4 x⟩
    obtain rfl : z = 0 := Subsingleton.elim _ _
    obtain rfl : y = 0 := Subsingleton.elim _ _
    refine (out11_apply _ _ _ _ _ _ _ _ _ k j).trans ?_
    simp only [iblk0_0_apply V c t ⟨t.val, (point_val t).1⟩ rfl]
    show _ = (netAt V c).out (fun q => V c main_arg1 (ix3 ((win0_11.rect t).emb (ix4 0 k 0 j) 0) q (col ((win0_11.rect t).emb (ix4 0 k 0 j) 1) ((win0_11.rect t).emb (ix4 0 k 0 j) 3)))) 2
    have e0 : (win0_11.rect t).emb (ix4 0 k 0 j) 0 = (⟨t.val, (point_val t).1⟩ : Fin 4) := Fin.ext (by
      show win0_11.index t 0 * 1 + 1 * 0 = t.val
      rw [(point_val t).2.2.2.2]; omega)
    have e1 : (win0_11.rect t).emb (ix4 0 k 0 j) 1 = k := Fin.ext (by show 0 * 8 + 1 * k.val = k.val; omega)
    have e3 : (win0_11.rect t).emb (ix4 0 k 0 j) 3 = j := Fin.ext (by show 0 * 2500 + 1 * j.val = j.val; omega)
    rw [e0, e1, e3]
  · have hN : cfg0.N = 4 := N_0
    have hb : (i 0).val < 4 := (i 0).isLt
    exact ⟨⟨(i 0).val, by omega⟩, flush0_11 _, mem_blk11 _ i rfl⟩

variable (m : (ℓ : Loc nD τ sig) → Buf (Elt Ideal) ℓ) (ρ : Dev nD → PrngReg)

/-- The call's perceptron is the scores' perceptron of the inputs. -/
theorem netAt_eq (c : Dev nD) : netAt (V1 m ρ) c = (input (W0 m ρ c)).scores := by
  unfold netAt netOf input V1 W1
  generalize W0 m ρ c = W
  rw [Net.mk.injEq]
  refine ⟨?_, ?_, ?_, ?_, ?_, ?_, ?_, ?_⟩
  all_goals first | funext i k | funext i
  all_goals after_reads_simp
  all_goals pointwise

/-- The features are untouched before the call. -/
theorem V1_feat (c : Dev nD) (b : Fin 4) (k : Fin 256) (n : Fin 20000) :
    V1 m ρ c main_arg1 (ix3 b k n) = (input (W0 m ρ c)).feat b k n :=
  congrFun (W1_of m ρ c main_arg1 (by decide)) (ix3 b k n)

/-- After the call: the scores, -/
theorem scores_eq (c : Dev nD) (b : Fin 4) (o : Fin 3) (n : Fin 20000) :
    W2 m ρ c (Proc.devRef .tc main_v6_0) (ix3 b o n) = (input (W0 m ρ c)).g b n o := by
  refine (congrFun (W2_arr m ρ c 9) (ix3 b o n)).trans ((final9 (V1 m ρ) c b o n).trans ?_)
  rw [netAt_eq]
  exact congrArg (fun f => Net.out (input (W0 m ρ c)).scores f o) (funext fun k => V1_feat m ρ c b k n)

/-- the mask, -/
theorem mask_eq (c : Dev nD) (b : Fin 4) (k : Fin 8) (j : Fin 2500) :
    W2 m ρ c (Proc.devRef .tc main_v6_1) (ix4 b k 0 j) = bit ((input (W0 m ρ c)).mask b (col k j)) := by
  refine (congrFun (W2_arr m ρ c 10) (ix4 b k 0 j)).trans ((final10 (V1 m ρ) c b k j).trans ?_)
  rw [netAt_eq]
  exact congrArg (fun f => bit (graspable (Net.out (input (W0 m ρ c)).scores f))) (funext fun q => V1_feat m ρ c b q (col k j))

/-- and the graspness. -/
theorem graspness_eq (c : Dev nD) (b : Fin 4) (k : Fin 8) (j : Fin 2500) :
    W2 m ρ c (Proc.devRef .tc main_v6_2) (ix4 b k 0 j) = (input (W0 m ρ c)).g b (col k j) 2 := by
  refine (congrFun (W2_arr m ρ c 11) (ix4 b k 0 j)).trans ((final11 (V1 m ρ) c b k j).trans ?_)
  rw [netAt_eq]
  exact congrArg (fun f => Net.out (input (W0 m ρ c)).scores f 2) (funext fun q => V1_feat m ρ c b q (col k j))

end Cert.Proof.Kern

end
-- ==== Proof.FpsTrip.lean ====
/-
  One step of the kernel's sampling loop, as equations between whole vectors: the coordinates of the last point, the
  distances kept in scratch, and the next point.
-/
module

public import proofs.«01_k».proof.Proof.KRun
public import proofs.«01_k».proof.Proof.Spec

@[expose] public section

set_option maxRecDepth 16384

noncomputable section

namespace Cert.Proof.Fps

open Cert.KernelIdeal Cert.KernelIdeal.Gen
open Idealize.ShloMosaic Idealize.ShloMosaic.TcCoe Idealize.SL.Sem

/-- Reals and words laid out as the kernel's 32 rows of 128. -/
abbrev FV := FVec Ideal S32x128 .f32
abbrev IV := IVec S32x128 32

/-- A chunk lies inside its array. -/
theorem inb (c : Fin 20) : ∀ a, (![c.val, 0, 0] : Fin 3 → ℕ) a + S1x32x128.size a ≤ S20x32x128.size a := by
  revert c
  decide +kernel

/-- The place of chunk `c` in an array of twenty. -/
abbrev place (c : Fin 20) : Rect S20x32x128 := Rect.unit (s := S20x32x128) ![c.val, 0, 0] S1x32x128.size (inb c)

/-- Chunk `c` of the array a buffer holds. -/
def chunk (r : Memref sig .tc .vmem S20x32x128 .f32) (X : BufTy.Contents (Elt Ideal) r.view.ty) (c : Fin 20) : FV :=
  shapeCast S32x128 (View.readAt (Elt Ideal) r.view (place c).toLoadRect X) shapeCasts_S1x32x128_S32x128

/-- The greatest of a start and the first `n` of twenty vectors, taken in turn. -/
def chainMax (z : FV) (f : Fin 20 → FV) : (n : ℕ) → n ≤ 20 → FV
  | 0, _ => z
  | n + 1, h => maximumf (chainMax z f n (by omega)) (f ⟨n, by omega⟩)

/-- The least of a start and the first `n` of twenty word vectors, taken in turn. -/
def chainMin (z : IV) (f : Fin 20 → IV) : (n : ℕ) → n ≤ 20 → IV
  | 0, _ => z
  | n + 1, h => minsi (chainMin z f n (by omega)) (f ⟨n, by omega⟩)

/-- The point numbers of chunk `c`. -/
def numbers (v5 : IV) (c : Fin 20) : IV := addi v5 (broadcast S32x128 (BitVec.ofNat 32 (1024 * c.val)))

/-- The entries at the last point, `cst` elsewhere, gathered over the chunks. -/
def gathered (cst : Ideal .f32) (v5 last : IV) (f : Fin 20 → FV) : FV :=
  chainMax (broadcast S32x128 cst) (fun c => select (cmpi .eq (numbers v5 c) last) (f c) (broadcast S32x128 cst)) 20 le_rfl

/-- The squared distances of a chunk's points to the last point, or the old distance where that is smaller. -/
def closer (lx ly lz xs ys zs old : FV) : FV :=
  minimumf old (addf (addf (mulf (subf xs lx) (subf xs lx)) (mulf (subf ys ly) (subf ys ly))) (mulf (subf zs lz) (subf zs lz)))

/-- The least of each batch's entries, in every entry of the batch. -/
def segMin (v : IV) : IV :=
  shapeCast S32x128 (broadcastTo S4x8x128 (shapeCast S4x1x1 (shapeCast S4x1x1 (multiReductionI .minsi [2] S4x1
    (shapeCast S4x1x128 (multiReductionI .minsi [1] S4x128 (shapeCast S4x8x128 v shapeCasts_S32x128_S4x8x128)
      2147483647#32 reduces_S4x8x128_S4x128 rfl) shapeCasts_S4x128_S4x1x128)
      2147483647#32 reduces_S4x1x128_S4x1 rfl) shapeCasts_S4x1_S4x1x1) shapeCasts_S4x1x1_S4x1x1) broadcasts_S4x1x1_S4x8x128)
    shapeCasts_S4x8x128_S32x128

/-- A coordinate of the last point, in every entry of its batch. -/
def lastOf (cst : Ideal .f32) (v5 last : IV) (xs : Fin 20 → FV) : FV := k1_pay87 (gathered cst v5 last xs)

/-- The distances after a step. -/
def stepDist (cst : Ideal .f32) (v5 last : IV) (xs ys zs ds : Fin 20 → FV) (c : Fin 20) : FV :=
  closer (lastOf cst v5 last xs) (lastOf cst v5 last ys) (lastOf cst v5 last zs) (xs c) (ys c) (zs c) (ds c)

/-- The number of the first point at the greatest distance, in every entry of its batch. -/
def stepLast (cst : Ideal .f32) (v5 : IV) (ds es : Fin 20 → FV) : IV :=
  segMin (chainMin (broadcast S32x128 1073741824#32)
    (fun c => select (cmpf .oeq (es c) (k1_pay87 (chainMax (broadcast S32x128 cst) ds 20 le_rfl))) (numbers v5 c)
      (broadcast S32x128 1073741824#32)) 20 le_rfl)

/-- The stores of the first `n` of twenty chunks, the latest first. -/
def stores (P : Fin 20 → FV) : (n : ℕ) → n ≤ 20 → List (View.Piece (Elt Ideal) S20x32x128 .f32)
  | 0, _ => []
  | n + 1, h => ⟨place ⟨n, by omega⟩, shapeCast S1x32x128 (P ⟨n, by omega⟩) shapeCasts_S32x128_S1x32x128⟩ :: stores P n (by omega)

/-- What a step stores: the distances after it. -/
theorem trip_stores (𝒱 : Variants) (c : Dev nD) (bd : Option 𝒱.V) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (v5 v291 : IVec S32x128 32) (v295 : IVec S32x128 1) (v298 : FVec Ideal S32x128 .f32) (cst : Ideal .f32) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) k acc f :
    tripL_k1_t1 (F := Ideal) 𝒱 c bd arg0 harg0 arg1 harg1 arg2 harg2 arg3 harg3 arg4 harg4 arg5 harg5 arg6 harg6 arg7 harg7 arg8 harg8 arg9 harg9 arg10 harg10 v5 v291 v295 v298 cst X0 X1 X2 X3 k acc f
      = stores (stepDist cst v5 acc.1 (chunk arg0 X0) (chunk arg1 X1) (chunk arg2 X2) (chunk arg10 f)) 20 le_rfl := by
  unfold tripL_k1_t1 trip_k1_t1
  dsimp only
  rfl

/-- What a step yields. -/
theorem trip_yield (𝒱 : Variants) (c : Dev nD) (bd : Option 𝒱.V) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (v5 v291 : IVec S32x128 32) (v295 : IVec S32x128 1) (v298 : FVec Ideal S32x128 .f32) (cst : Ideal .f32) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) k acc f :
    tripR_k1_t1 (F := Ideal) 𝒱 c bd arg0 harg0 arg1 harg1 arg2 harg2 arg3 harg3 arg4 harg4 arg5 harg5 arg6 harg6 arg7 harg7 arg8 harg8 arg9 harg9 arg10 harg10 v5 v291 v295 v298 cst X0 X1 X2 X3 k acc f
      = (stepLast cst v5 (stepDist cst v5 acc.1 (chunk arg0 X0) (chunk arg1 X1) (chunk arg2 X2) (chunk arg10 f))
          (fun c => shapeCast S32x128 (arg10.view.readCov
            (stores (stepDist cst v5 acc.1 (chunk arg0 X0) (chunk arg1 X1) (chunk arg2 X2) (chunk arg10 f)) 20 le_rfl)
            (place c).toLoadRect) shapeCasts_S1x32x128_S32x128),
        select (cmpi .eq v5 (broadcast S32x128 (Scf.iv 0#32 1#32 k))) acc.1 acc.2.1,
        select (cmpi .eq v5 (broadcast S32x128 (Scf.iv 0#32 1#32 k))) (lastOf cst v5 acc.1 (chunk arg0 X0)) acc.2.2.1,
        select (cmpi .eq v5 (broadcast S32x128 (Scf.iv 0#32 1#32 k))) (lastOf cst v5 acc.1 (chunk arg1 X1)) acc.2.2.2.1,
        select (cmpi .eq v5 (broadcast S32x128 (Scf.iv 0#32 1#32 k))) (lastOf cst v5 acc.1 (chunk arg2 X2)) acc.2.2.2.2.1,
        select (cmpi .eq v5 (broadcast S32x128 (Scf.iv 0#32 1#32 k))) (lastOf cst v5 acc.1 (chunk arg3 X3)) acc.2.2.2.2.2) := by
  unfold tripR_k1_t1 trip_k1_t1
  dsimp only
  rfl

end Cert.Proof.Fps

end
-- ==== Proof.FpsCell.lean ====
/-
  The vectors of the kernel's sampling loop read one entry at a time. Point `n` of batch `b` lies in chunk `n / 1024`, at
  row `8 b + n % 1024 / 128` and lane `n % 128`.
-/
module

public import proofs.«01_k».proof.Proof.FpsTrip
public import Idealize.ShloMosaic.Lib.Pointwise
public import Idealize.ShloMosaic.Lib.KernelVsHost
public import Idealize.ShloMosaic.Lib.ValueLayout
public import Idealize.ShloMosaic.Lib.SortNet.Extract

@[expose] public section

set_option maxRecDepth 16384

noncomputable section

namespace Cert.Proof.Fps

open Cert.KernelIdeal Cert.KernelIdeal.Gen
open Idealize.ShloMosaic Idealize.ShloMosaic.TcCoe Idealize.SL.Sem

/-- Row `s` of batch `b`. -/
def row (b : Fin 4) (s : Fin 8) : Fin 32 := ⟨8 * b.val + s.val, by omega⟩

/-- The point at chunk `c`, row `s` and lane `l`. -/
def pt (c : Fin 20) (s : Fin 8) (l : Fin 128) : Fin 20480 := ⟨1024 * c.val + 128 * s.val + l.val, by omega⟩

/-- The entry of point `n` of batch `b`. -/
def val {α : Type} (f : Fin 20 → S32x128.Idx → α) (b : Fin 4) (n : Fin 20480) : α :=
  f ⟨n.val / 1024, by omega⟩ (ix2 (row b ⟨n.val % 1024 / 128, by omega⟩) ⟨n.val % 128, by omega⟩)

theorem val_pt {α : Type} (f : Fin 20 → S32x128.Idx → α) (b : Fin 4) (c : Fin 20) (s : Fin 8) (l : Fin 128) :
    val f b (pt c s l) = f c (ix2 (row b s) l) := by
  have e1 : (⟨(pt c s l).val / 1024, by omega⟩ : Fin 20) = c := Fin.ext (by simp only [pt]; omega)
  have e2 : (⟨(pt c s l).val % 1024 / 128, by omega⟩ : Fin 8) = s := Fin.ext (by simp only [pt]; omega)
  have e3 : (⟨(pt c s l).val % 128, by omega⟩ : Fin 128) = l := Fin.ext (by simp only [pt]; omega)
  unfold val
  rw [e1, e2, e3]

/-- Something holds of every point when it holds at every chunk, row and lane. -/
theorem forall_pt {P : Fin 20480 → Prop} : (∀ n, P n) ↔ ∀ c s l, P (pt c s l) := by
  refine ⟨fun h c s l => h _, fun h n => ?_⟩
  have e : pt ⟨n.val / 1024, by omega⟩ ⟨n.val % 1024 / 128, by omega⟩ ⟨n.val % 128, by omega⟩ = n :=
    Fin.ext (by simp only [pt]; omega)
  rw [← e]
  exact h _ _ _

theorem row_base (b : Fin 4) (s s' : Fin 8) (h : (row b s).val / 8 * 8 + s'.val < 32) :
    (⟨(row b s).val / 8 * 8 + s'.val, h⟩ : Fin 32) = row b s' := Fin.ext (by simp only [row]; omega)

/-- The numbers the kernel lays over a batch's rows. -/
theorem iota_apply (b : Fin 4) (s : Fin 8) (l : Fin 128) :
    k1_pay174 (ix2 (row b s) l) = BitVec.ofNat 32 (128 * s.val + l.val) := by
  unfold k1_pay174
  dsimp only
  pointwise
  have e : (row b s).val % 8 = s.val := by simp only [row]; omega
  rw [e]
  show BitVec.ofNat 32 s.val * BitVec.ofNat 32 128 + BitVec.ofNat 32 l.val = _
  rw [← BitVec.ofNat_mul, ← BitVec.ofNat_add, Nat.mul_comm]

theorem val_numbers (b : Fin 4) (n : Fin 20480) : val (numbers k1_pay174) b n = BitVec.ofNat 32 n.val := by
  revert n
  rw [forall_pt]
  intro c s l
  rw [val_pt]
  show k1_pay174 (ix2 (row b s) l) + BitVec.ofNat 32 (1024 * c.val) = _
  rw [iota_apply, ← BitVec.ofNat_add]
  exact congrArg _ (by simp only [pt]; omega)

/-- The kernel's start of a maximum. -/
theorem ofBits_bot : Ideal.ofBits .f32 4286578688#32 = ⊥ := by
  simp [Ideal.ofBits, Ideal.ieee]

theorem chainMax_le (z : FV) (f : Fin 20 → FV) (i : S32x128.Idx) (a : EReal) : ∀ (n : ℕ) (h : n ≤ 20),
    (chainMax z f n h i : EReal) ≤ a ↔ (z i : EReal) ≤ a ∧ ∀ c : Fin 20, c.val < n → (f c i : EReal) ≤ a
  | 0, _ => by simp [chainMax]
  | n + 1, h => by
    show max (chainMax z f n (by omega) i : EReal) (f ⟨n, by omega⟩ i : EReal) ≤ a ↔ _
    rw [max_le_iff, chainMax_le z f i a n (by omega), and_assoc]
    refine and_congr_right fun _ => ⟨fun ⟨h1, h2⟩ c hc => ?_, fun h1 => ⟨fun c hc => h1 c (by omega), h1 _ (by simp)⟩⟩
    rcases Nat.lt_succ_iff_lt_or_eq.mp hc with h' | h'
    · exact h1 c h'
    · have e' : c = ⟨n, by omega⟩ := Fin.ext h'
      rw [e']
      exact h2

theorem le_chainMin (z : IV) (f : Fin 20 → IV) (i : S32x128.Idx) (a : ℤ) : ∀ (n : ℕ) (h : n ≤ 20),
    a ≤ (chainMin z f n h i).toInt ↔ a ≤ (z i).toInt ∧ ∀ c : Fin 20, c.val < n → a ≤ (f c i).toInt
  | 0, _ => by simp [chainMin]
  | n + 1, h => by
    have e : (chainMin z f (n + 1) h i).toInt
        = min (chainMin z f n (by omega) i).toInt (f ⟨n, by omega⟩ i).toInt := SortNet.toInt_minsi _ _
    rw [e, le_min_iff, le_chainMin z f i a n (by omega), and_assoc]
    refine and_congr_right fun _ => ⟨fun ⟨h1, h2⟩ c hc => ?_, fun h1 => ⟨fun c hc => h1 c (by omega), h1 _ (by simp)⟩⟩
    rcases Nat.lt_succ_iff_lt_or_eq.mp hc with h' | h'
    · exact h1 c h'
    · have e' : c = ⟨n, by omega⟩ := Fin.ext h'
      rw [e']
      exact h2

/-- Two folds of the maximum over a batch are the supremum over its points. -/
theorem fold_batch (M : S32x128.Idx → EReal) (f : Fin 20 → S32x128.Idx → EReal)
    (e : ∀ i (a : EReal), M i ≤ a ↔ ∀ c, f c i ≤ a) (b : Fin 4) :
    (Finset.univ.fold max (⊥ : EReal) fun l : Fin 128 => Finset.univ.fold max (⊥ : EReal) fun s : Fin 8 => M (ix2 (row b s) l))
      = ⨆ n, val f b n := by
  refine eq_of_forall_ge_iff fun a => ?_
  rw [iSup_le_iff, forall_pt, Finset.fold_max_le]
  simp only [Finset.fold_max_le, bot_le, true_and, Finset.mem_univ, forall_true_left, val_pt, e]
  exact ⟨fun h c s l => h l s c, fun h l s c => h c s l⟩

/-- The greatest entry of a batch, as two folds. -/
theorem segMax_fold (M : S32x128.Idx → EReal) (b : Fin 4) (s : Fin 8) (l : Fin 128) :
    k1_pay87 (F := Ideal) M (ix2 (row b s) l)
      = (Finset.univ.fold max (⊥ : EReal) fun l : Fin 128 => Finset.univ.fold max (⊥ : EReal) fun s : Fin 8 => M (ix2 (row b s) l)) := by
  unfold k1_pay87
  dsimp only
  pointwise
  simp only [ofBits_bot, row_base]

/-- The greatest entry of a batch. -/
theorem segMax_chain (f : Fin 20 → FV) (b : Fin 4) (s : Fin 8) (l : Fin 128) :
    (k1_pay87 (chainMax (broadcast S32x128 (⊥ : EReal)) f 20 le_rfl) (ix2 (row b s) l) : EReal) = ⨆ n, (val f b n : EReal) :=
  (segMax_fold _ b s l).trans (fold_batch _ f (fun i a => (chainMax_le _ f i a 20 le_rfl).trans
    ⟨fun h c => h.2 c c.isLt, fun h => ⟨bot_le, fun c _ => h c⟩⟩) b)

/-- The least word of a batch, of a vector that is the least of twenty and a bound. -/
theorem le_segMin_of (M : IV) (g : Fin 20 → IV)
    (e : ∀ i (a : ℤ), a ≤ (M i).toInt ↔ a ≤ 1073741824 ∧ ∀ c, a ≤ (g c i).toInt)
    (b : Fin 4) (s : Fin 8) (l : Fin 128) (a : ℤ) :
    a ≤ (segMin M (ix2 (row b s) l)).toInt ↔ a ≤ 1073741824 ∧ ∀ n, a ≤ (val g b n).toInt := by
  rw [forall_pt]
  unfold segMin
  pointwise
  simp only [row_base]
  have hom : ∀ (m : ℕ) (w : BitVec 32) (u : Fin m → BitVec 32), (Finset.univ.fold IntOp.minsi w u).toInt
      = Finset.univ.fold min w.toInt fun k => (u k).toInt := fun m w u =>
    (Finset.fold_hom (op := IntOp.minsi) (op' := min) (m := BitVec.toInt) (fun x y => SortNet.toInt_minsi x y)).symm
  rw [hom, Finset.le_fold_min]
  simp only [hom, Finset.le_fold_min, Finset.mem_univ, forall_true_left, val_pt, e]
  have e' : (2147483647#32).toInt = 2147483647 := by decide
  rw [e']
  constructor
  · rintro ⟨h1, h2⟩
    exact ⟨((h2 0).2 0).1, fun c s l => ((h2 l).2 s).2 c⟩
  · rintro ⟨h1, h2⟩
    have h3 : a ≤ 2147483647 := by omega
    exact ⟨h3, fun l => ⟨h3, fun s => ⟨h1, fun c => h2 c s l⟩⟩⟩

/-- The least word of a batch, compared as integers. -/
theorem le_segMin_chain (g : Fin 20 → IV) (b : Fin 4) (s : Fin 8) (l : Fin 128) (a : ℤ) :
    a ≤ (segMin (chainMin (broadcast S32x128 1073741824#32) g 20 le_rfl) (ix2 (row b s) l)).toInt
      ↔ a ≤ 1073741824 ∧ ∀ n, a ≤ (val g b n).toInt :=
  le_segMin_of _ g (fun i a => (le_chainMin _ g i a 20 le_rfl).trans
    (and_congr Iff.rfl ⟨fun h c => h c c.isLt, fun h c _ => h c⟩)) b s l a

/-- The first of the points that have a property. -/
theorem segMin_first (g : Fin 20 → IV) (b : Fin 4) (s : Fin 8) (l : Fin 128) (p : Fin 20480 → Prop)
    (hp : ∀ n, p n → val g b n = BitVec.ofNat 32 n.val) (hn : ∀ n, ¬ p n → val g b n = 1073741824#32)
    (i : Fin 20480) (hi : p i) (hlt : ∀ j, j < i → ¬ p j) :
    segMin (chainMin (broadcast S32x128 1073741824#32) g 20 le_rfl) (ix2 (row b s) l) = BitVec.ofNat 32 i.val := by
  have toI : ∀ n : Fin 20480, (BitVec.ofNat 32 n.val).toInt = n.val := fun n => by
    rw [BitVec.toInt_eq_toNat_of_lt (by rw [BitVec.toNat_ofNat]; omega), BitVec.toNat_ofNat]; omega
  refine BitVec.eq_of_toInt_eq (eq_of_forall_le_iff fun a => ?_)
  rw [le_segMin_chain, toI]
  constructor
  · rintro ⟨-, h⟩
    have := h i
    rwa [hp i hi, toI] at this
  · intro h
    refine ⟨by omega, fun n => ?_⟩
    by_cases hpn : p n
    · rw [hp n hpn, toI]
      have : ¬ n < i := fun hlt' => hlt n hlt' hpn
      have : i.val ≤ n.val := by rw [Fin.lt_def] at this; omega
      omega
    · rw [hn n hpn]
      have : (1073741824#32 : BitVec 32).toInt = 1073741824 := by decide
      omega

/-- Where no point has the property. -/
theorem segMin_none (g : Fin 20 → IV) (b : Fin 4) (s : Fin 8) (l : Fin 128) (hn : ∀ n, val g b n = 1073741824#32) :
    segMin (chainMin (broadcast S32x128 1073741824#32) g 20 le_rfl) (ix2 (row b s) l) = 1073741824#32 := by
  have e : (1073741824#32 : BitVec 32).toInt = 1073741824 := by decide
  refine BitVec.eq_of_toInt_eq (eq_of_forall_le_iff fun a => ?_)
  rw [le_segMin_chain, e]
  exact ⟨fun h => h.1, fun h => ⟨h, fun n => by rw [hn n, e]; exact h⟩⟩

/-- The entry at the last point, in every entry of its batch. -/
theorem lastOf_apply (last : IV) (xs : Fin 20 → FV) (b : Fin 4) (s : Fin 8) (l : Fin 128) (i : Fin 20480)
    (hl : ∀ s l, last (ix2 (row b s) l) = BitVec.ofNat 32 i.val) :
    lastOf (⊥ : EReal) k1_pay174 last xs (ix2 (row b s) l) = val xs b i := by
  unfold lastOf gathered
  refine (segMax_chain _ b s l).trans ?_
  have e : ∀ n, (val (fun c => select (cmpi .eq (numbers k1_pay174 c) last) (xs c) (broadcast S32x128 (⊥ : EReal))) b n : EReal)
      = if n = i then (val xs b i : EReal) else ⊥ := fun n => by
    have h1 : (val (fun c => select (cmpi .eq (numbers k1_pay174 c) last) (xs c) (broadcast S32x128 (⊥ : EReal))) b n : EReal)
        = Scalar.select (IntOp.cmpi .eq (val (numbers k1_pay174) b n) (BitVec.ofNat 32 i.val)) (val xs b n) ⊥ := by
      rw [← hl ⟨n.val % 1024 / 128, by omega⟩ ⟨n.val % 128, by omega⟩]
      rfl
    rw [h1, val_numbers]
    by_cases h : n = i
    · subst h
      simp [Scalar.select, IntOp.cmpi]
    · have : (BitVec.ofNat 32 n.val == BitVec.ofNat 32 i.val) = false := beq_eq_false_iff_ne.mpr fun e => h (Fin.ext (by
        have := congrArg BitVec.toNat e
        simp only [BitVec.toNat_ofNat] at this
        omega))
      simp [Scalar.select, IntOp.cmpi, h, this]
  simp only [e]
  refine le_antisymm (iSup_le fun n => ?_) (le_iSup_of_le i (by simp))
  split <;> simp

/-- The next point: the first at the greatest distance. -/
theorem stepLast_apply (ds : Fin 20 → FV) (b : Fin 4) (s : Fin 8) (l : Fin 128) (i : Fin 20480)
    (hi : Spec.IsFirstMax (fun n => (val ds b n : EReal)) i) :
    stepLast (⊥ : EReal) k1_pay174 ds ds (ix2 (row b s) l) = BitVec.ofNat 32 i.val := by
  have top : (⨆ n, (val ds b n : EReal)) = val ds b i := le_antisymm (iSup_le hi.1) (le_iSup (fun n => (val ds b n : EReal)) i)
  have e : ∀ n, val (fun c => select (cmpf .oeq (ds c) (k1_pay87 (chainMax (broadcast S32x128 (⊥ : EReal)) ds 20 le_rfl)))
      (numbers k1_pay174 c) (broadcast S32x128 1073741824#32)) b n
      = Scalar.select (Ideal.cmp .oeq (val ds b n) (val ds b i)) (BitVec.ofNat 32 n.val) 1073741824#32 := fun n => by
    rw [← top, ← segMax_chain ds b ⟨n.val % 1024 / 128, by omega⟩ ⟨n.val % 128, by omega⟩, ← val_numbers b n]
    rfl
  refine segMin_first _ b s l (fun n => (val ds b n : EReal) = val ds b i) (fun n hn => ?_) (fun n hn => ?_) i rfl
    (fun j hj hc => absurd hc (ne_of_lt (hi.2 j hj)))
  · rw [e, hn]
    simp [Scalar.select, Ideal.cmp]
  · rw [e]
    simp [Scalar.select, Ideal.cmp, hn]

end Cert.Proof.Fps

end
-- ==== Proof.FpsRun.lean ====
/-
  The kernel's sampling loop as a recursion between vectors: what its scratch holds and what it carries before each step.
-/
module

public import proofs.«01_k».proof.Proof.FpsTrip
public import Idealize.ShloMosaic.Lib.Pointwise
public import Idealize.ShloMosaic.Lib.KernelVsHost
public import Idealize.ShloMosaic.Lib.ValueLayout

@[expose] public section

set_option maxRecDepth 16384

noncomputable section

namespace Cert.Proof.Fps

open Cert.KernelIdeal Cert.KernelIdeal.Gen
open Idealize.ShloMosaic Idealize.ShloMosaic.TcCoe Idealize.SL.Sem

/-- The array whose chunks are `P`. -/
def whole (P : Fin 20 → FV) : S20x32x128.Idx → Elt Ideal .f32 := fun y => P (y 0) (ix2 (y 1) (y 2))

/-- A place's entries. -/
theorem place_emb (c : Fin 20) (x : (place c).shape.Idx) : (place c).emb x = ix3 c (x 1) (x 2) := by
  refine funext fun a => Fin.ext ?_
  have h0 : (x 0).val = 0 := by
    have := (x 0).isLt
    change (x 0).val < 1 at this
    omega
  fin_cases a
  · show c.val + 1 * (x 0).val = c.val
    omega
  · show 0 + 1 * (x 1).val = (x 1).val
    omega
  · show 0 + 1 * (x 2).val = (x 2).val
    omega

theorem mem_stores (P : Fin 20 → FV) : ∀ (n : ℕ) (h : n ≤ 20) (p), p ∈ stores P n h →
    ∃ c, p = ⟨place c, shapeCast S1x32x128 (P c) shapeCasts_S32x128_S1x32x128⟩
  | 0, _, p, hp => by simp [stores] at hp
  | n + 1, h, p, hp => by
    rcases List.mem_cons.mp hp with rfl | hp
    · exact ⟨_, rfl⟩
    · exact mem_stores P n _ p hp

theorem stores_mem (P : Fin 20 → FV) (c : Fin 20) : ∀ (n : ℕ) (h : n ≤ 20), c.val < n →
    (⟨place c, shapeCast S1x32x128 (P c) shapeCasts_S32x128_S1x32x128⟩ : View.Piece (Elt Ideal) S20x32x128 .f32) ∈ stores P n h
  | 0, _, hc => absurd hc (by omega)
  | n + 1, h, hc => by
    rcases Nat.lt_succ_iff_lt_or_eq.mp hc with h' | h'
    · exact List.mem_cons_of_mem _ (stores_mem P c n _ h')
    · have e : c = ⟨n, by omega⟩ := Fin.ext h'
      rw [e]
      exact List.mem_cons_self

theorem stores_cover (P : Fin 20 → FV) (y : S20x32x128.Idx) : ∃ p ∈ stores P 20 le_rfl, y ∈ p.1.set := by
  refine ⟨_, stores_mem P (y 0) 20 le_rfl (y 0).isLt, ?_⟩
  rw [Rect.mem_set_unit]
  intro a
  fin_cases a
  · exact ⟨le_rfl, Nat.lt_succ_self _⟩
  · exact ⟨Nat.zero_le _, by show (y 1).val < 0 + 32; have := (y 1).isLt; change (y 1).val < 32 at this; omega⟩
  · exact ⟨Nat.zero_le _, by show (y 2).val < 0 + 128; have := (y 2).isLt; change (y 2).val < 128 at this; omega⟩

/-- Twenty stores leave the array of their chunks. -/
theorem canon_stores (P : Fin 20 → FV) : View.canon (stores P 20 le_rfl) = whole P := by
  refine funext fun y => View.canon_apply_of_pieces (whole P) _ (fun p hp x => ?_) y (stores_cover P y)
  obtain ⟨c, rfl⟩ := mem_stores P 20 le_rfl p hp
  change shapeCast S1x32x128 (P c) shapeCasts_S32x128_S1x32x128 x = whole P ((place c).emb x)
  rw [place_emb]
  obtain ⟨z, i, j, rfl⟩ : ∃ z i j, x = ix3 z i j := ⟨_, _, _, eq_ix3 x⟩
  obtain rfl : z = 0 := Subsingleton.elim _ _
  pointwise
  rfl

/-- Dropping the chunk axis of one chunk. -/
theorem drop_axis (w : S1x32x128.Idx → EReal) (i : Fin 32) (j : Fin 128) :
    shapeCast S32x128 w shapeCasts_S1x32x128_S32x128 (ix2 i j) = w (ix3 0 i j) := by
  pointwise

/-- A chunk of the array of chunks `P` is `P` at the chunk. -/
theorem chunk_of_read (r : Memref sig .tc .vmem S20x32x128 .f32) (X : BufTy.Contents (Elt Ideal) r.view.ty) (P : Fin 20 → FV)
    (h : r.view.read (Elt Ideal) X = whole P) : chunk r X = P := by
  funext c i
  obtain ⟨i, j, rfl⟩ : ∃ i' j', i = ix2 i' j' := ⟨_, _, eq_ix2 i⟩
  refine (drop_axis _ i j).trans ?_
  refine (congrFun h ((place c).emb (ix3 0 i j))).trans ?_
  rw [place_emb]
  rfl

/-- The scratch after a step's stores. -/
theorem chunk_stores (r : Memref sig .tc .vmem S20x32x128 .f32) (f : BufTy.Contents (Elt Ideal) r.view.ty) (P : Fin 20 → FV) :
    chunk r (r.view.writes (Elt Ideal) f (stores P 20 le_rfl)) = P :=
  chunk_of_read r _ P ((View.read_writes_eq_canon r.view f _ (stores_cover P)).trans (canon_stores P))

/-- The chunks read back within a step. -/
theorem readCov_stores (r : Memref sig .tc .vmem S20x32x128 .f32) (P : Fin 20 → FV) (c : Fin 20) :
    shapeCast S32x128 (r.view.readCov (stores P 20 le_rfl) (place c).toLoadRect) shapeCasts_S1x32x128_S32x128 = P c := by
  rw [show r.view.readCov (stores P 20 le_rfl) (place c).toLoadRect = _ from
    View.readCov_eq_canon_ld r.view (stores P 20 le_rfl) (place c) (stores_cover P), canon_stores]
  funext i
  obtain ⟨i, j, rfl⟩ : ∃ i' j', i = ix2 i' j' := ⟨_, _, eq_ix2 i⟩
  refine (drop_axis _ i j).trans ?_
  show whole P ((place c).emb (ix3 0 i j)) = _
  rw [place_emb]
  rfl

/-- What the loop carries: the last point's number, and the tables of numbers, coordinates and graspness. -/
abbrev Carry := IV × IV × FV × FV × FV × FV

/-- What a step carries on, from the distances after it. -/
def stepCarry (cst : Ideal .f32) (v5 : IV) (xs ys zs gs : Fin 20 → FV) (k : ℕ) (a : Carry) (ds : Fin 20 → FV) : Carry :=
  (stepLast cst v5 ds ds,
    select (cmpi .eq v5 (broadcast S32x128 (Scf.iv 0#32 1#32 k))) a.1 a.2.1,
    select (cmpi .eq v5 (broadcast S32x128 (Scf.iv 0#32 1#32 k))) (lastOf cst v5 a.1 xs) a.2.2.1,
    select (cmpi .eq v5 (broadcast S32x128 (Scf.iv 0#32 1#32 k))) (lastOf cst v5 a.1 ys) a.2.2.2.1,
    select (cmpi .eq v5 (broadcast S32x128 (Scf.iv 0#32 1#32 k))) (lastOf cst v5 a.1 zs) a.2.2.2.2.1,
    select (cmpi .eq v5 (broadcast S32x128 (Scf.iv 0#32 1#32 k))) (lastOf cst v5 a.1 gs) a.2.2.2.2.2)

/-- What a step yields, with the distances read back. -/
theorem trip_carry (𝒱 : Variants) (c : Dev nD) (bd : Option 𝒱.V) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (v5 v291 : IVec S32x128 32) (v295 : IVec S32x128 1) (v298 : FVec Ideal S32x128 .f32) (cst : Ideal .f32) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (k : Fin k1_t1_loop.trips) (acc : Carry) (f : BufTy.Contents (Elt Ideal) arg10.view.ty) :
    tripR_k1_t1 (F := Ideal) 𝒱 c bd arg0 harg0 arg1 harg1 arg2 harg2 arg3 harg3 arg4 harg4 arg5 harg5 arg6 harg6 arg7 harg7 arg8 harg8 arg9 harg9 arg10 harg10 v5 v291 v295 v298 cst X0 X1 X2 X3 k acc f
      = stepCarry cst v5 (chunk arg0 X0) (chunk arg1 X1) (chunk arg2 X2) (chunk arg3 X3) k acc
        (stepDist cst v5 acc.1 (chunk arg0 X0) (chunk arg1 X1) (chunk arg2 X2) (chunk arg10 f)) := by
  refine (trip_yield 𝒱 c bd arg0 harg0 arg1 harg1 arg2 harg2 arg3 harg3 arg4 harg4 arg5 harg5 arg6 harg6 arg7 harg7 arg8 harg8 arg9 harg9 arg10 harg10 v5 v291 v295 v298 cst X0 X1 X2 X3 k acc f).trans ?_
  unfold stepCarry
  exact Prod.ext (congrArg (stepLast cst v5 _) (funext fun c => readCov_stores _ _ c)) rfl

/-- What is carried, and the distances in scratch, before each step. -/
def states (cst : Ideal .f32) (v5 : IV) (xs ys zs gs : Fin 20 → FV) (a : Carry) (ds : Fin 20 → FV) : ℕ → Carry × (Fin 20 → FV)
  | 0 => (a, ds)
  | k + 1 =>
    (stepCarry cst v5 xs ys zs gs k (states cst v5 xs ys zs gs a ds k).1
        (stepDist cst v5 (states cst v5 xs ys zs gs a ds k).1.1 xs ys zs (states cst v5 xs ys zs gs a ds k).2),
      stepDist cst v5 (states cst v5 xs ys zs gs a ds k).1.1 xs ys zs (states cst v5 xs ys zs gs a ds k).2)

/-- The loop runs through these states. -/
theorem st_eq (𝒱 : Variants) (c : Dev nD) (bd : Option 𝒱.V) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (v5 v291 : IVec S32x128 32) (v295 : IVec S32x128 1) (v298 : FVec Ideal S32x128 .f32) (cst : Ideal .f32) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (G : BufTy.Contents (Elt Ideal) arg10.view.ty) (a : Carry)
    (k : ℕ) (hk : k ≤ k1_t1_loop.trips) :
    (st_k1_t1 (F := Ideal) 𝒱 c bd arg0 harg0 arg1 harg1 arg2 harg2 arg3 harg3 arg4 harg4 arg5 harg5 arg6 harg6 arg7 harg7 arg8 harg8 arg9 harg9 arg10 harg10 v5 v291 v295 v298 cst X0 X1 X2 X3 G a k).1
        = (states cst v5 (chunk arg0 X0) (chunk arg1 X1) (chunk arg2 X2) (chunk arg3 X3) a (chunk arg10 G) k).1
      ∧ chunk arg10 (arg10.view.writes (Elt Ideal) G (st_k1_t1 (F := Ideal) 𝒱 c bd arg0 harg0 arg1 harg1 arg2 harg2 arg3 harg3 arg4 harg4 arg5 harg5 arg6 harg6 arg7 harg7 arg8 harg8 arg9 harg9 arg10 harg10 v5 v291 v295 v298 cst X0 X1 X2 X3 G a k).2)
        = (states cst v5 (chunk arg0 X0) (chunk arg1 X1) (chunk arg2 X2) (chunk arg3 X3) a (chunk arg10 G) k).2 := by
  induction k with
  | zero => exact ⟨rfl, rfl⟩
  | succ k ih =>
    obtain ⟨h1, h2⟩ := ih (by omega)
    have e := st_k1_t1_succ (F := Ideal) 𝒱 c bd arg0 harg0 arg1 harg1 arg2 harg2 arg3 harg3 arg4 harg4 arg5 harg5 arg6 harg6 arg7 harg7 arg8 harg8 arg9 harg9 arg10 harg10 v5 v291 v295 v298 cst X0 X1 X2 X3 G a ⟨k, hk⟩
    constructor
    · refine (congrArg Prod.fst e).trans ?_
      dsimp only
      rw [trip_carry, h1, h2]
      rfl
    · refine (congrArg (fun L => chunk arg10 (arg10.view.writes (Elt Ideal) G L.2)) e).trans ?_
      dsimp only
      rw [View.writes_append, trip_stores, chunk_stores, h1, h2]
      rfl

end Cert.Proof.Fps

end
-- ==== Proof.FpsInv.lean ====
/-
  The kernel's sampling loop is farthest-point sampling: by induction on the steps, its scratch holds the masked distances
  and it carries the last point's number and the tables of what was chosen.
-/
module

public import proofs.«01_k».proof.Proof.FpsCell
public import proofs.«01_k».proof.Proof.FpsRun

@[expose] public section

set_option maxRecDepth 16384

noncomputable section

namespace Cert.Proof.Fps

open Cert.KernelIdeal Cert.KernelIdeal.Gen
open Idealize.ShloMosaic Idealize.ShloMosaic.TcCoe Idealize.SL.Sem

/-- `-1`, the distance of a point that is not graspable. -/
theorem ofBits_neg_one : Ideal.ofBits .f32 3212836864#32 = ((-1 : ℝ) : EReal) := by
  simp [Ideal.ofBits, Ideal.ieee, -EReal.coe_mul, -EReal.coe_neg]; norm_num

theorem neg_one_le_zero : Ideal.ofBits .f32 3212836864#32 ≤ 0 := by
  rw [ofBits_neg_one]; exact EReal.coe_nonpos.mpr (by norm_num)

theorem neg_one_lt_zero : Ideal.ofBits .f32 3212836864#32 < 0 := by
  rw [ofBits_neg_one]; exact EReal.coe_neg'.mpr (by norm_num)

/-- `1e10`, the distance before the first step. -/
theorem big_nonneg : 0 ≤ Ideal.ofBits .f32 1343554297#32 := by
  have e : Ideal.ofBits .f32 1343554297#32 = ((10000000000 : ℝ) : EReal) := by
    simp [Ideal.ofBits, Ideal.ieee, -EReal.coe_mul]; norm_num
  rw [e]; exact EReal.coe_nonneg.mpr (by norm_num)

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- A sum of three squares is not negative. -/
theorem squares_nonneg (a b c : EReal) : 0 ≤ (a * a + b * b) + c * c :=
  add_nonneg (add_nonneg (sq_nonneg' a) (sq_nonneg' b)) (sq_nonneg' c)

theorem dist_nonneg (p q : Fin 3 → EReal) : 0 ≤ Spec.dist p q := squares_nonneg _ _ _

/-- The distances stay at or above zero. -/
theorem fps_nonneg (xyz : Fin 20000 → Fin 3 → EReal) (mask : Fin 20000 → Prop) (n : Fin 20000) : ∀ k, 0 ≤ (Spec.fps xyz mask k).1 n
  | 0 => big_nonneg
  | k + 1 => le_min (fps_nonneg xyz mask n k) (dist_nonneg _ _)

/-- Point `n` among the padded points. -/
def up (n : Fin 20000) : Fin 20480 := ⟨n.val, by omega⟩

/-- The distances with the padding at `-1`. -/
def padded (f : Fin 20000 → EReal) (n : Fin 20480) : EReal :=
  if h : n.val < 20000 then f ⟨n.val, h⟩ else Ideal.ofBits .f32 3212836864#32

theorem padded_up (f : Fin 20000 → EReal) (n : Fin 20000) : padded f (up n) = f n := dif_pos n.isLt

/-- The first greatest entry is the same with the padding. -/
theorem padded_first (f : Fin 20000 → EReal) (h : ∀ n, Ideal.ofBits .f32 3212836864#32 ≤ f n) (i : Fin 20000)
    (hi : Spec.IsFirstMax f i) : Spec.IsFirstMax (padded f) (up i) := by
  refine ⟨fun j => ?_, fun j hj => ?_⟩
  · rw [padded_up]
    by_cases hj : j.val < 20000
    · rw [padded, dif_pos hj]; exact hi.1 _
    · rw [padded, dif_neg hj]; exact h i
  · have hj' : j.val < i.val := hj
    have hj2 : j.val < 20000 := by omega
    rw [padded_up, padded, dif_pos hj2]
    exact hi.2 ⟨j.val, hj2⟩ hj'

theorem le_masked (xyz : Fin 20000 → Fin 3 → EReal) (mask : Fin 20000 → Prop) (k : ℕ) (n : Fin 20000) :
    Ideal.ofBits .f32 3212836864#32 ≤ Spec.masked mask (Spec.fps xyz mask k).1 n := by
  unfold Spec.masked
  split
  · exact le_trans neg_one_le_zero (fps_nonneg xyz mask n k)
  · exact le_rfl

/-- A table after a step: its entry at the step's place is new. -/
theorem table_apply {α : Type} (k : ℕ) (hk : k < 1024) (x y : S32x128.Idx → α) (b : Fin 4) (s : Fin 8) (l : Fin 128) :
    select (cmpi .eq k1_pay174 (broadcast S32x128 (Scf.iv 0#32 1#32 k))) x y (ix2 (row b s) l)
      = if 128 * s.val + l.val = k then x (ix2 (row b s) l) else y (ix2 (row b s) l) := by
  show Scalar.select (IntOp.cmpi .eq (k1_pay174 (ix2 (row b s) l)) (Scf.iv 0#32 1#32 k)) _ _ = _
  have e : Scf.iv 0#32 1#32 k = BitVec.ofNat 32 k := by simp [Scf.iv]
  rw [iota_apply, e]
  by_cases h : 128 * s.val + l.val = k
  · rw [if_pos h, h]
    simp [Scalar.select, IntOp.cmpi]
  · have : (BitVec.ofNat 32 (128 * s.val + l.val) == BitVec.ofNat 32 k) = false := beq_eq_false_iff_ne.mpr fun e => h (by
      have := congrArg BitVec.toNat e
      simp only [BitVec.toNat_ofNat] at this
      omega)
    rw [if_neg h]
    simp [Scalar.select, IntOp.cmpi, this]

section
variable (xs ys zs gs : Fin 20 → FV) (a : Carry) (ds : Fin 20 → FV) (b : Fin 4)
  (xyz : Fin 20000 → Fin 3 → EReal) (gr : Fin 20000 → EReal) (mask : Fin 20000 → Prop)

/-- What holds of batch `b` before step `k`. -/
structure Holds (k : ℕ) (st : Carry × (Fin 20 → FV)) : Prop where
  last : ∀ s l, st.1.1 (ix2 (row b s) l) = BitVec.ofNat 32 (Spec.fps xyz mask k).2.val
  dists : ∀ n, val st.2 b n = padded (Spec.masked mask (Spec.fps xyz mask k).1) n
  inds : ∀ s l, st.1.2.1 (ix2 (row b s) l)
    = if 128 * s.val + l.val < k then BitVec.ofNat 32 (Spec.fps xyz mask (128 * s.val + l.val)).2.val else 0#32
  xs : ∀ s l, st.1.2.2.1 (ix2 (row b s) l)
    = if 128 * s.val + l.val < k then xyz (Spec.fps xyz mask (128 * s.val + l.val)).2 0 else (0 : EReal)
  ys : ∀ s l, st.1.2.2.2.1 (ix2 (row b s) l)
    = if 128 * s.val + l.val < k then xyz (Spec.fps xyz mask (128 * s.val + l.val)).2 1 else (0 : EReal)
  zs : ∀ s l, st.1.2.2.2.2.1 (ix2 (row b s) l)
    = if 128 * s.val + l.val < k then xyz (Spec.fps xyz mask (128 * s.val + l.val)).2 2 else (0 : EReal)
  gs : ∀ s l, st.1.2.2.2.2.2 (ix2 (row b s) l)
    = if 128 * s.val + l.val < k then gr (Spec.fps xyz mask (128 * s.val + l.val)).2 else (0 : EReal)

/-- One table, one step further. -/
theorem table_step {α : Type} (k : ℕ) (hk : k < 1024) (x y : S32x128.Idx → α) (v : ℕ → α) (z : α)
    (hx : ∀ s l, x (ix2 (row b s) l) = v k)
    (hy : ∀ (s : Fin 8) (l : Fin 128), y (ix2 (row b s) l) = if 128 * s.val + l.val < k then v (128 * s.val + l.val) else z)
    (s : Fin 8) (l : Fin 128) :
    select (cmpi .eq k1_pay174 (broadcast S32x128 (Scf.iv 0#32 1#32 k))) x y (ix2 (row b s) l)
      = if 128 * s.val + l.val < k + 1 then v (128 * s.val + l.val) else z := by
  rw [table_apply k hk, hx, hy]
  by_cases h : 128 * s.val + l.val = k
  · rw [if_pos h, if_pos (by omega), h]
  · rw [if_neg h]
    by_cases h' : 128 * s.val + l.val < k
    · rw [if_pos h', if_pos (by omega)]
    · rw [if_neg h', if_neg (by omega)]

variable (hx : ∀ n, val xs b (up n) = xyz n 0) (hy : ∀ n, val ys b (up n) = xyz n 1) (hz : ∀ n, val zs b (up n) = xyz n 2)
  (hg : ∀ n, val gs b (up n) = gr n)

include hx hy hz in
/-- The distances one step further. -/
theorem dist_step (k : ℕ) (last : IV) (hl : ∀ s l, last (ix2 (row b s) l) = BitVec.ofNat 32 (Spec.fps xyz mask k).2.val)
    (d : Fin 20 → FV) (hd : ∀ n, val d b n = padded (Spec.masked mask (Spec.fps xyz mask k).1) n) (n : Fin 20480) :
    val (stepDist (⊥ : EReal) k1_pay174 last xs ys zs d) b n = padded (Spec.masked mask (Spec.fps xyz mask (k + 1)).1) n := by
  have e : val (stepDist (⊥ : EReal) k1_pay174 last xs ys zs d) b n
      = min (val d b n : EReal)
        (((val xs b n - val xs b (up (Spec.fps xyz mask k).2) : EReal) * (val xs b n - val xs b (up (Spec.fps xyz mask k).2) : EReal)
          + (val ys b n - val ys b (up (Spec.fps xyz mask k).2) : EReal) * (val ys b n - val ys b (up (Spec.fps xyz mask k).2) : EReal))
          + (val zs b n - val zs b (up (Spec.fps xyz mask k).2) : EReal) * (val zs b n - val zs b (up (Spec.fps xyz mask k).2) : EReal)) := by
    rw [← lastOf_apply last xs b ⟨n.val % 1024 / 128, by omega⟩ ⟨n.val % 128, by omega⟩ (up (Spec.fps xyz mask k).2) hl,
      ← lastOf_apply last ys b ⟨n.val % 1024 / 128, by omega⟩ ⟨n.val % 128, by omega⟩ (up (Spec.fps xyz mask k).2) hl,
      ← lastOf_apply last zs b ⟨n.val % 1024 / 128, by omega⟩ ⟨n.val % 128, by omega⟩ (up (Spec.fps xyz mask k).2) hl]
    rfl
  rw [e, hd]
  by_cases h : n.val < 20000
  · obtain ⟨m, rfl⟩ : ∃ m : Fin 20000, n = up m := ⟨⟨n.val, h⟩, rfl⟩
    rw [padded_up, padded_up, hx, hx, hy, hy, hz, hz]
    unfold Spec.masked
    split
    · rfl
    · exact min_eq_left (le_trans neg_one_le_zero (squares_nonneg _ _ _))
  · rw [padded, dif_neg h, padded, dif_neg h]
    exact min_eq_left (le_trans neg_one_le_zero (squares_nonneg _ _ _))

include hx hy hz hg in
/-- One step keeps what holds. -/
theorem holds_step (k : ℕ) (hk : k < 1024) (st : Carry × (Fin 20 → FV)) (H : Holds b xyz gr mask k st) :
    Holds b xyz gr mask (k + 1)
      (stepCarry (⊥ : EReal) k1_pay174 xs ys zs gs k st.1 (stepDist (⊥ : EReal) k1_pay174 st.1.1 xs ys zs st.2),
        stepDist (⊥ : EReal) k1_pay174 st.1.1 xs ys zs st.2) where
  last s l := stepLast_apply _ b s l (up (Spec.fps xyz mask (k + 1)).2) (by
    have e : (fun n => (val (stepDist (⊥ : EReal) k1_pay174 st.1.1 xs ys zs st.2) b n : EReal))
        = padded (Spec.masked mask (Spec.fps xyz mask (k + 1)).1) := funext fun n =>
      dist_step xs ys zs b xyz mask hx hy hz k st.1.1 H.last st.2 H.dists n
    rw [e]
    exact padded_first _ (fun n => le_masked xyz mask (k + 1) n) _ (Spec.firstMax_spec _))
  dists n := dist_step xs ys zs b xyz mask hx hy hz k st.1.1 H.last st.2 H.dists n
  inds s l := table_step b k hk st.1.1 st.1.2.1 (fun k => BitVec.ofNat 32 (Spec.fps xyz mask k).2.val) _ H.last H.inds s l
  xs s l := table_step b k hk _ st.1.2.2.1 (fun k => xyz (Spec.fps xyz mask k).2 0) _
    (fun s l => (lastOf_apply st.1.1 xs b s l (up _) H.last).trans (hx _)) H.xs s l
  ys s l := table_step b k hk _ st.1.2.2.2.1 (fun k => xyz (Spec.fps xyz mask k).2 1) _
    (fun s l => (lastOf_apply st.1.1 ys b s l (up _) H.last).trans (hy _)) H.ys s l
  zs s l := table_step b k hk _ st.1.2.2.2.2.1 (fun k => xyz (Spec.fps xyz mask k).2 2) _
    (fun s l => (lastOf_apply st.1.1 zs b s l (up _) H.last).trans (hz _)) H.zs s l
  gs s l := table_step b k hk _ st.1.2.2.2.2.2 (fun k => gr (Spec.fps xyz mask k).2) _
    (fun s l => (lastOf_apply st.1.1 gs b s l (up _) H.last).trans (hg _)) H.gs s l

include hx hy hz hg in
/-- What holds before the first step holds, step by step, before every step. -/
theorem holds (H : Holds b xyz gr mask 0 (a, ds)) : ∀ k, k ≤ 1024 →
    Holds b xyz gr mask k (states (⊥ : EReal) k1_pay174 xs ys zs gs a ds k)
  | 0, _ => H
  | k + 1, h => holds_step xs ys zs gs b xyz gr mask hx hy hz hg k (by omega) _ (holds H k (by omega))

end

end Cert.Proof.Fps

end
-- ==== Proof.FpsStart.lean ====
/-
  The start of the kernel's sampling: what it stores and carries before the first step, and what it stores after the last.
-/
module

public import proofs.«01_k».proof.Proof.FpsInv

@[expose] public section

set_option maxRecDepth 16384

noncomputable section

namespace Cert.Proof.Fps

open Cert.KernelIdeal Cert.KernelIdeal.Gen
open Idealize.ShloMosaic Idealize.ShloMosaic.TcCoe Idealize.SL.Sem

/-- Which points of a chunk are marked. -/
def marked (m : FV) : IVec S32x128 1 := cmpf .ogt m (broadcast S32x128 (Scalar.ofBits (F := Ideal) .f32 0#32))

/-- The distances before the first step. -/
def startDist (ms : Fin 20 → FV) (c : Fin 20) : FV :=
  select (marked (ms c)) (broadcast S32x128 (Scalar.ofBits (F := Ideal) .f32 1343554297#32))
    (broadcast S32x128 (Scalar.ofBits (F := Ideal) .f32 3212836864#32))

/-- The least number of a marked point in each batch. -/
def startMin (ms : Fin 20 → FV) : IV :=
  segMin (chainMin (broadcast S32x128 1073741824#32)
    (fun c => select (marked (ms c)) (numbers k1_pay174 c) (broadcast S32x128 1073741824#32)) 20 le_rfl)

/-- What is carried before the first step. -/
def startCarry (ms : Fin 20 → FV) : Carry :=
  (select (cmpi .eq (startMin ms) (broadcast S32x128 1073741824#32)) (broadcast S32x128 0#32) (startMin ms),
    broadcast S32x128 0#32, broadcast S32x128 (Scalar.ofBits (F := Ideal) .f32 0#32),
    broadcast S32x128 (Scalar.ofBits (F := Ideal) .f32 0#32),
    broadcast S32x128 (Scalar.ofBits (F := Ideal) .f32 0#32), broadcast S32x128 (Scalar.ofBits (F := Ideal) .f32 0#32))

/-- The stores before the first step. -/
theorem start_stores (c : Dev nD) (arg4 : Memref sig .tc .vmem S20x32x128 .f32) (harg4 : arg4.IsWhole) (x4 : Vec Ideal S20x32x128 .f32) :
    kernelRun1_A.sl.HS0_20 (F := Ideal) c arg4 harg4 x4 = stores (startDist (chunk arg4 (harg4.unread x4))) 20 le_rfl := by
  rfl

/-- The number carried before the first step. -/
theorem start_last (c : Dev nD) (arg4 : Memref sig .tc .vmem S20x32x128 .f32) (harg4 : arg4.IsWhole) (x4 : Vec Ideal S20x32x128 .f32) :
    k1_pay230 k1_pay174 (kernelRun1_A.sl.r_15 (F := Ideal) c arg4 harg4 x4) (kernelRun1_A.sl.r_16 c arg4 harg4 x4)
      = (startCarry (chunk arg4 (harg4.unread x4))).1 := by
  rfl

/-- The loop's state after the last step. -/
def final (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) :=
  (st_k1_t1 (F := Ideal) Variants.none c none arg0 harg0 arg1 harg1 arg2 harg2 arg3 harg3 arg4 harg4 arg5 harg5 arg6 harg6 arg7 harg7 arg8 harg8 arg9 harg9 arg10 harg10 k1_pay174 (kernelRun1_A.sl.r_15 (F := Ideal) c arg4 harg4 x4)
    (kernelRun1_A.sl.r_16 c arg4 harg4 x4) (kernelRun1_A.sl.r_17 c arg4 harg4 x4) kernelRun1_A.sl.cst_185
    (harg0.unread x0) (harg1.unread x1) (harg2.unread x2) (harg3.unread x3)
    (arg10.view.writes (Elt Ideal) arg10.view.junk (stores (startDist (chunk arg4 (harg4.unread x4))) 20 le_rfl))
    (startCarry (chunk arg4 (harg4.unread x4))) k1_t1_loop.trips).1

/-- What is stored in output 5. -/
theorem run_5 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) :
    (kernelRun1_A (F := Ideal) c arg0 harg0 arg1 harg1 arg2 harg2 arg3 harg3 arg4 harg4 arg5 harg5 arg6 harg6 arg7 harg7 arg8 harg8 arg9 harg9 arg10 harg10 x0 x1 x2 x3 x4).1
      = [⟨Rect.unit (s := S4x8x128) ![0, 0, 0] ![4, 8, 128] (by decide),
          shapeCast S4x8x128 (final c arg0 harg0 arg1 harg1 arg2 harg2 arg3 harg3 arg4 harg4 arg5 harg5 arg6 harg6 arg7 harg7 arg8 harg8 arg9 harg9 arg10 harg10 x0 x1 x2 x3 x4).2.1 shapeCasts_S32x128_S4x8x128⟩] := by
  unfold kernelRun1_A final
  dsimp only
  rfl

/-- What is stored in output 6. -/
theorem run_6 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) :
    (kernelRun1_A (F := Ideal) c arg0 harg0 arg1 harg1 arg2 harg2 arg3 harg3 arg4 harg4 arg5 harg5 arg6 harg6 arg7 harg7 arg8 harg8 arg9 harg9 arg10 harg10 x0 x1 x2 x3 x4).2.1
      = [⟨Rect.unit (s := S4x8x128) ![0, 0, 0] ![4, 8, 128] (by decide),
          shapeCast S4x8x128 (final c arg0 harg0 arg1 harg1 arg2 harg2 arg3 harg3 arg4 harg4 arg5 harg5 arg6 harg6 arg7 harg7 arg8 harg8 arg9 harg9 arg10 harg10 x0 x1 x2 x3 x4).2.2.1 shapeCasts_S32x128_S4x8x128⟩] := by
  unfold kernelRun1_A final
  dsimp only
  rfl

/-- What is stored in output 7. -/
theorem run_7 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) :
    (kernelRun1_A (F := Ideal) c arg0 harg0 arg1 harg1 arg2 harg2 arg3 harg3 arg4 harg4 arg5 harg5 arg6 harg6 arg7 harg7 arg8 harg8 arg9 harg9 arg10 harg10 x0 x1 x2 x3 x4).2.2.1
      = [⟨Rect.unit (s := S4x8x128) ![0, 0, 0] ![4, 8, 128] (by decide),
          shapeCast S4x8x128 (final c arg0 harg0 arg1 harg1 arg2 harg2 arg3 harg3 arg4 harg4 arg5 harg5 arg6 harg6 arg7 harg7 arg8 harg8 arg9 harg9 arg10 harg10 x0 x1 x2 x3 x4).2.2.2.1 shapeCasts_S32x128_S4x8x128⟩] := by
  unfold kernelRun1_A final
  dsimp only
  rfl

/-- What is stored in output 8. -/
theorem run_8 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) :
    (kernelRun1_A (F := Ideal) c arg0 harg0 arg1 harg1 arg2 harg2 arg3 harg3 arg4 harg4 arg5 harg5 arg6 harg6 arg7 harg7 arg8 harg8 arg9 harg9 arg10 harg10 x0 x1 x2 x3 x4).2.2.2.1
      = [⟨Rect.unit (s := S4x8x128) ![0, 0, 0] ![4, 8, 128] (by decide),
          shapeCast S4x8x128 (final c arg0 harg0 arg1 harg1 arg2 harg2 arg3 harg3 arg4 harg4 arg5 harg5 arg6 harg6 arg7 harg7 arg8 harg8 arg9 harg9 arg10 harg10 x0 x1 x2 x3 x4).2.2.2.2.1 shapeCasts_S32x128_S4x8x128⟩] := by
  unfold kernelRun1_A final
  dsimp only
  rfl

/-- What is stored in output 9. -/
theorem run_9 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) :
    (kernelRun1_A (F := Ideal) c arg0 harg0 arg1 harg1 arg2 harg2 arg3 harg3 arg4 harg4 arg5 harg5 arg6 harg6 arg7 harg7 arg8 harg8 arg9 harg9 arg10 harg10 x0 x1 x2 x3 x4).2.2.2.2.1
      = [⟨Rect.unit (s := S4x8x128) ![0, 0, 0] ![4, 8, 128] (by decide),
          shapeCast S4x8x128 (final c arg0 harg0 arg1 harg1 arg2 harg2 arg3 harg3 arg4 harg4 arg5 harg5 arg6 harg6 arg7 harg7 arg8 harg8 arg9 harg9 arg10 harg10 x0 x1 x2 x3 x4).2.2.2.2.2 shapeCasts_S32x128_S4x8x128⟩] := by
  unfold kernelRun1_A final
  dsimp only
  rfl

/-- The carried values after the last step. -/
theorem final_eq (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) :
    final c arg0 harg0 arg1 harg1 arg2 harg2 arg3 harg3 arg4 harg4 arg5 harg5 arg6 harg6 arg7 harg7 arg8 harg8 arg9 harg9 arg10 harg10 x0 x1 x2 x3 x4
      = (states (⊥ : EReal) k1_pay174 (chunk arg0 (harg0.unread x0)) (chunk arg1 (harg1.unread x1)) (chunk arg2 (harg2.unread x2))
          (chunk arg3 (harg3.unread x3)) (startCarry (chunk arg4 (harg4.unread x4))) (startDist (chunk arg4 (harg4.unread x4))) 1024).1 := by
  have e : (kernelRun1_A.sl.cst_185 : Ideal .f32) = (⊥ : EReal) := ofBits_bot
  unfold final
  rw [e]
  refine (st_eq Variants.none c none arg0 harg0 arg1 harg1 arg2 harg2 arg3 harg3 arg4 harg4 arg5 harg5 arg6 harg6 arg7 harg7 arg8 harg8 arg9 harg9 arg10 harg10 _ _ _ _ _ _ _ _ _ _ _ k1_t1_loop.trips le_rfl).1.trans ?_
  rw [chunk_stores]
  rfl

/-- A chunk of an array held whole. -/
theorem val_unread (r : Memref sig .tc .vmem S20x32x128 .f32) (h : r.IsWhole) (x : Vec Ideal S20x32x128 .f32) (b : Fin 4) (n : Fin 20480) :
    val (chunk r (h.unread x)) b n
      = x (ix3 ⟨n.val / 1024, by omega⟩ (row b ⟨n.val % 1024 / 128, by omega⟩) ⟨n.val % 128, by omega⟩) := by
  rw [chunk_of_read r (h.unread x) (fun c i => x (ix3 c (i 0) (i 1))) ((h.read_unread x).trans (funext fun y => congrArg x (eq_ix3 y)))]
  rfl

end Cert.Proof.Fps

end
-- ==== Proof.FpsBegin.lean ====
/-
  Before the first step: the kernel's start is the first graspable point, or point 0, and the starting distances.
-/
module

public import proofs.«01_k».proof.Proof.FpsStart

@[expose] public section

set_option maxRecDepth 16384

noncomputable section

namespace Cert.Proof.Fps

open Cert.KernelIdeal Cert.KernelIdeal.Gen
open Idealize.ShloMosaic Idealize.ShloMosaic.TcCoe Idealize.SL.Sem

section
variable (ms : Fin 20 → FV) (b : Fin 4) (mask : Fin 20000 → Prop)

open Classical in
/-- The marks of a batch: 1 at graspable points, 0 at the others and in the padding. -/
def Marks : Prop := ∀ n : Fin 20480, val ms b n = if h : n.val < 20000 then (if mask ⟨n.val, h⟩ then (1 : EReal) else 0) else 0

variable (hm : Marks ms b mask)

include hm in
open Classical in
theorem marked_apply (n : Fin 20480) :
    val (fun c => marked (ms c)) b n = if ∃ h : n.val < 20000, mask ⟨n.val, h⟩ then 1#1 else 0#1 := by
  have e : val (fun c => marked (ms c)) b n = Ideal.cmp .ogt (val ms b n) (Ideal.ofBits .f32 0#32) := rfl
  rw [e, hm n, Ideal.ofBits_zero_f32]
  by_cases h : n.val < 20000
  · rw [dif_pos h]
    by_cases h' : mask ⟨n.val, h⟩
    · rw [if_pos h', if_pos ⟨h, h'⟩]
      simp [Ideal.cmp]
    · rw [if_neg h', if_neg (fun ⟨_, x⟩ => h' x)]
      simp [Ideal.cmp]
  · rw [dif_neg h, if_neg (fun ⟨x, _⟩ => h x)]
    simp [Ideal.cmp]

include hm in
/-- The starting distances. -/
theorem startDist_apply (n : Fin 20480) :
    val (startDist ms) b n = padded (Spec.masked mask (Spec.fps (fun _ _ => 0) mask 0).1) n := by
  classical
  have e : val (startDist ms) b n = Scalar.select (val (fun c => marked (ms c)) b n) (Ideal.ofBits .f32 1343554297#32)
      (Ideal.ofBits .f32 3212836864#32) := rfl
  rw [e, marked_apply ms b mask hm, padded]
  by_cases h : n.val < 20000
  · rw [dif_pos h]
    unfold Spec.masked
    by_cases h' : mask ⟨n.val, h⟩
    · rw [if_pos h', if_pos ⟨h, h'⟩]
      rfl
    · rw [if_neg h', if_neg (fun ⟨_, x⟩ => h' x)]
      rfl
  · rw [dif_neg h, if_neg (fun ⟨x, _⟩ => h x)]
    rfl

include hm in
/-- A chosen entry: the number of a marked point, the bound elsewhere. -/
theorem startWord_apply (n : Fin 20480) :
    (∀ h : n.val < 20000, mask ⟨n.val, h⟩ →
        val (fun c => select (marked (ms c)) (numbers k1_pay174 c) (broadcast S32x128 1073741824#32)) b n = BitVec.ofNat 32 n.val)
      ∧ ((¬ ∃ h : n.val < 20000, mask ⟨n.val, h⟩) →
        val (fun c => select (marked (ms c)) (numbers k1_pay174 c) (broadcast S32x128 1073741824#32)) b n = 1073741824#32) := by
  classical
  have e : val (fun c => select (marked (ms c)) (numbers k1_pay174 c) (broadcast S32x128 1073741824#32)) b n
      = Scalar.select (val (fun c => marked (ms c)) b n) (val (numbers k1_pay174) b n) 1073741824#32 := rfl
  rw [e, marked_apply ms b mask hm, val_numbers]
  refine ⟨fun h h' => ?_, fun h => ?_⟩
  · rw [if_pos ⟨h, h'⟩]
    rfl
  · rw [if_neg h]
    rfl

include hm in
/-- The first point. -/
theorem startLast_apply (s : Fin 8) (l : Fin 128) :
    (startCarry ms).1 (ix2 (row b s) l) = BitVec.ofNat 32 (Spec.firstPoint mask).val := by
  classical
  have e : (startCarry ms).1 (ix2 (row b s) l) = Scalar.select (IntOp.cmpi .eq (startMin ms (ix2 (row b s) l)) 1073741824#32) 0#32
      (startMin ms (ix2 (row b s) l)) := rfl
  rw [e]
  unfold startMin
  have F := Spec.firstMax_spec fun n : Fin 20000 => if mask n then (1 : EReal) else 0
  by_cases hex : ∃ n, mask n
  · have hF : mask (Spec.firstPoint mask) := by
      by_contra hc
      obtain ⟨n, hn⟩ := hex
      have h1 := F.1 n
      change (if mask n then (1 : EReal) else 0) ≤ (if mask (Spec.firstPoint mask) then (1 : EReal) else 0) at h1
      rw [if_pos hn, if_neg hc] at h1
      exact absurd h1 (by norm_num)
    rw [segMin_first _ b s l (fun n => ∃ h : n.val < 20000, mask ⟨n.val, h⟩)
      (fun n ⟨h, h'⟩ => (startWord_apply ms b mask hm n).1 h h') (fun n h => (startWord_apply ms b mask hm n).2 h)
      (up (Spec.firstPoint mask)) ⟨(Spec.firstPoint mask).isLt, hF⟩ (fun j hj ⟨h, h'⟩ => ?_)]
    · have : (BitVec.ofNat 32 (Spec.firstPoint mask).val == 1073741824#32) = false := beq_eq_false_iff_ne.mpr fun e => by
        have := congrArg BitVec.toNat e
        simp only [BitVec.toNat_ofNat] at this
        omega
      simp [Scalar.select, IntOp.cmpi, up, this]
    · have h2 := F.2 ⟨j.val, h⟩ hj
      change (if mask ⟨j.val, h⟩ then (1 : EReal) else 0) < (if mask (Spec.firstPoint mask) then (1 : EReal) else 0) at h2
      rw [if_pos h', if_pos hF] at h2
      exact lt_irrefl _ h2
  · have h0 : Spec.firstPoint mask = 0 := Spec.IsFirstMax.eq ⟨fun j => by
      show (if mask j then (1 : EReal) else 0) ≤ (if mask 0 then (1 : EReal) else 0)
      rw [if_neg fun h => hex ⟨_, h⟩, if_neg fun h => hex ⟨_, h⟩], fun j hj => absurd hj (Fin.not_lt_zero _)⟩
    rw [segMin_none _ b s l (fun n => (startWord_apply ms b mask hm n).2 fun ⟨h, h'⟩ => hex ⟨_, h'⟩), h0]
    rfl

include hm in
/-- What holds before the first step. -/
theorem holds_zero (xyz : Fin 20000 → Fin 3 → EReal) (gr : Fin 20000 → EReal) :
    Holds b xyz gr mask 0 (startCarry ms, startDist ms) where
  last := startLast_apply ms b mask hm
  dists := startDist_apply ms b mask hm
  inds s l := by rw [if_neg (Nat.not_lt_zero _)]; rfl
  xs s l := by rw [if_neg (Nat.not_lt_zero _)]; exact Ideal.ofBits_zero_f32
  ys s l := by rw [if_neg (Nat.not_lt_zero _)]; exact Ideal.ofBits_zero_f32
  zs s l := by rw [if_neg (Nat.not_lt_zero _)]; exact Ideal.ofBits_zero_f32
  gs s l := by rw [if_neg (Nat.not_lt_zero _)]; exact Ideal.ofBits_zero_f32

end

end Cert.Proof.Fps

end
-- ==== Proof.KChunks.lean ====
/-
  The host's layout of a batch's points for the kernel's sampling call: padded with zeros to twenty chunks of 8 rows of 128.
-/
module

public import proofs.«01_k».proof.Proof.KScores
public import proofs.«01_k».proof.Proof.FpsBegin

@[expose] public section

set_option maxRecDepth 16384

noncomputable section

namespace Cert.Proof.Kern

open Cert.KernelIdeal Cert.KernelIdeal.Gen
open Idealize.ShloMosaic Idealize.ShloMosaic.TcCoe Idealize.SL.Sem
open Cert.Proof.Spec

/-- Where a laid-out entry comes from. -/
theorem lay_ix (k : Fin 20) (b : Fin 4) (s : Fin 8) (l : Fin 128) (h : (Fps.row b s).val / 8 < 4)
    (h' : k.val * 1024 + (Fps.row b s).val % 8 * 128 + l.val < 20480) :
    (ix2 (⟨(Fps.row b s).val / 8, h⟩ : Fin 4) (⟨k.val * 1024 + (Fps.row b s).val % 8 * 128 + l.val, h'⟩ : Fin 20480) : S4x20480.Idx)
      = ix2 b (Fps.pt k s l) := by
  have e1 : (⟨(Fps.row b s).val / 8, h⟩ : Fin 4) = b := Fin.ext (by simp only [Fps.row]; omega)
  have e2 : (⟨k.val * 1024 + (Fps.row b s).val % 8 * 128 + l.val, h'⟩ : Fin 20480) = Fps.pt k s l :=
    Fin.ext (by simp only [Fps.row, Fps.pt]; omega)
  rw [e1, e2]

/-- The padding's zero. -/
theorem pad_zero : (FloatOps.sitofp (F := Ideal) FTy.f32 (0#32 : BitVec 32) : EReal) = 0 := by
  show (((0#32 : BitVec 32).toInt : ℝ) : EReal) = 0
  simp

theorem lay_x (V : Valuation τ sig (Elt Ideal)) (k : Fin 20) (b : Fin 4) (s : Fin 8) (l : Fin 128) :
    StableHlo.after hostOps1_2 V (Proc.devRef .tc main_v15) (ix3 k (Fps.row b s) l)
      = V (Proc.devRef .tc main_v12) (ix2 b (Fps.pt k s l)) := by
  after_reads_simp
  pointwise
  exact congrArg (V (Proc.devRef .tc main_v12)) (lay_ix k b s l _ _)

theorem pad_x (V : Valuation τ sig (Elt Ideal)) (b : Fin 4) (n : Fin 20480) :
    StableHlo.after hostOps1_1 V (Proc.devRef .tc main_v12) (ix2 b n)
      = if h : n.val < 20000 then V (Proc.devRef .tc main_v11) (ix2 b ⟨n.val, h⟩)
        else FloatOps.sitofp (F := Ideal) FTy.f32 (V (Proc.devRef .tc main_c) (Shape.Idx.first h_S_)) := by
  after_reads_simp
  simp -implicitDefEqProofs only [StableHlo.TRef.toBuf, StableHlo.TRef.ofBuf, cast_cast, cast_eq]
  pointwise

theorem lay_y (V : Valuation τ sig (Elt Ideal)) (k : Fin 20) (b : Fin 4) (s : Fin 8) (l : Fin 128) :
    StableHlo.after hostOps1_4 V (Proc.devRef .tc main_v21) (ix3 k (Fps.row b s) l)
      = V (Proc.devRef .tc main_v18) (ix2 b (Fps.pt k s l)) := by
  after_reads_simp
  pointwise
  exact congrArg (V (Proc.devRef .tc main_v18)) (lay_ix k b s l _ _)

theorem pad_y (V : Valuation τ sig (Elt Ideal)) (b : Fin 4) (n : Fin 20480) :
    StableHlo.after hostOps1_3 V (Proc.devRef .tc main_v18) (ix2 b n)
      = if h : n.val < 20000 then V (Proc.devRef .tc main_v17) (ix2 b ⟨n.val, h⟩)
        else FloatOps.sitofp (F := Ideal) FTy.f32 (V (Proc.devRef .tc main_c_0) (Shape.Idx.first h_S_)) := by
  after_reads_simp
  simp -implicitDefEqProofs only [StableHlo.TRef.toBuf, StableHlo.TRef.ofBuf, cast_cast, cast_eq]
  pointwise

theorem lay_z (V : Valuation τ sig (Elt Ideal)) (k : Fin 20) (b : Fin 4) (s : Fin 8) (l : Fin 128) :
    StableHlo.after hostOps1_6 V (Proc.devRef .tc main_v27) (ix3 k (Fps.row b s) l)
      = V (Proc.devRef .tc main_v24) (ix2 b (Fps.pt k s l)) := by
  after_reads_simp
  pointwise
  exact congrArg (V (Proc.devRef .tc main_v24)) (lay_ix k b s l _ _)

theorem pad_z (V : Valuation τ sig (Elt Ideal)) (b : Fin 4) (n : Fin 20480) :
    StableHlo.after hostOps1_5 V (Proc.devRef .tc main_v24) (ix2 b n)
      = if h : n.val < 20000 then V (Proc.devRef .tc main_v23) (ix2 b ⟨n.val, h⟩)
        else FloatOps.sitofp (F := Ideal) FTy.f32 (V (Proc.devRef .tc main_c_1) (Shape.Idx.first h_S_)) := by
  after_reads_simp
  simp -implicitDefEqProofs only [StableHlo.TRef.toBuf, StableHlo.TRef.ofBuf, cast_cast, cast_eq]
  pointwise

theorem lay_g (V : Valuation τ sig (Elt Ideal)) (k : Fin 20) (b : Fin 4) (s : Fin 8) (l : Fin 128) :
    StableHlo.after hostOps1_8 V (Proc.devRef .tc main_v32) (ix3 k (Fps.row b s) l)
      = V (Proc.devRef .tc main_v29) (ix2 b (Fps.pt k s l)) := by
  after_reads_simp
  pointwise
  exact congrArg (V (Proc.devRef .tc main_v29)) (lay_ix k b s l _ _)

theorem pad_g (V : Valuation τ sig (Elt Ideal)) (b : Fin 4) (n : Fin 20480) :
    StableHlo.after hostOps1_7 V (Proc.devRef .tc main_v29) (ix2 b n)
      = if h : n.val < 20000 then V (Proc.devRef .tc main_v28) (ix2 b ⟨n.val, h⟩)
        else FloatOps.sitofp (F := Ideal) FTy.f32 (V (Proc.devRef .tc main_c_2) (Shape.Idx.first h_S_)) := by
  after_reads_simp
  simp -implicitDefEqProofs only [StableHlo.TRef.toBuf, StableHlo.TRef.ofBuf, cast_cast, cast_eq]
  pointwise

theorem lay_m (V : Valuation τ sig (Elt Ideal)) (k : Fin 20) (b : Fin 4) (s : Fin 8) (l : Fin 128) :
    StableHlo.after hostOps1_10 V (Proc.devRef .tc main_v37) (ix3 k (Fps.row b s) l)
      = V (Proc.devRef .tc main_v34) (ix2 b (Fps.pt k s l)) := by
  after_reads_simp
  pointwise
  exact congrArg (V (Proc.devRef .tc main_v34)) (lay_ix k b s l _ _)

theorem pad_m (V : Valuation τ sig (Elt Ideal)) (b : Fin 4) (n : Fin 20480) :
    StableHlo.after hostOps1_9 V (Proc.devRef .tc main_v34) (ix2 b n)
      = if h : n.val < 20000 then V (Proc.devRef .tc main_v33) (ix2 b ⟨n.val, h⟩)
        else FloatOps.sitofp (F := Ideal) FTy.f32 (V (Proc.devRef .tc main_c_3) (Shape.Idx.first h_S_)) := by
  after_reads_simp
  simp -implicitDefEqProofs only [StableHlo.TRef.toBuf, StableHlo.TRef.ofBuf, cast_cast, cast_eq]
  pointwise

theorem src_x (V : Valuation τ sig (Elt Ideal)) (b : Fin 4) (n : Fin 20000) :
    StableHlo.after hostOps1 V (Proc.devRef .tc main_v11) (ix2 b n) = V (Proc.devRef .tc main_arg0) (ix3 b n 0) := by
  after_reads_simp
  pointwise

theorem src_y (V : Valuation τ sig (Elt Ideal)) (b : Fin 4) (n : Fin 20000) :
    StableHlo.after hostOps1_2 V (Proc.devRef .tc main_v17) (ix2 b n) = V (Proc.devRef .tc main_arg0) (ix3 b n 1) := by
  after_reads_simp
  pointwise

theorem src_z (V : Valuation τ sig (Elt Ideal)) (b : Fin 4) (n : Fin 20000) :
    StableHlo.after hostOps1_4 V (Proc.devRef .tc main_v23) (ix2 b n) = V (Proc.devRef .tc main_arg0) (ix3 b n 2) := by
  after_reads_simp
  pointwise

/-- The column of a point. -/
theorem col_ix (b : Fin 4) (n : Fin 20000) (h : n.val / 2500 < 8) (h' : n.val % 2500 < 2500) :
    col ⟨n.val / 2500, h⟩ ⟨n.val % 2500, h'⟩ = n := Fin.ext (by simp only [col]; omega)

theorem src_g (V : Valuation τ sig (Elt Ideal)) (b : Fin 4) (n : Fin 20000) :
    StableHlo.after hostOps1_6 V (Proc.devRef .tc main_v28) (ix2 b n)
      = V (Proc.devRef .tc main_v6_2) (ix4 b ⟨n.val / 2500, by omega⟩ 0 ⟨n.val % 2500, by omega⟩) := by
  after_reads_simp
  pointwise

theorem src_m (V : Valuation τ sig (Elt Ideal)) (b : Fin 4) (n : Fin 20000) :
    StableHlo.after hostOps1_8 V (Proc.devRef .tc main_v33) (ix2 b n)
      = V (Proc.devRef .tc main_v6_1) (ix4 b ⟨n.val / 2500, by omega⟩ 0 ⟨n.val % 2500, by omega⟩) := by
  after_reads_simp
  pointwise

variable (m : (ℓ : Loc nD τ sig) → Buf (Elt Ideal) ℓ) (ρ : Dev nD → PrngReg)

/-- The first coordinates, laid out. -/
theorem chunk_x (c : Dev nD) (k : Fin 20) (b : Fin 4) (s : Fin 8) (l : Fin 128) :
    W13 m ρ c (Proc.devRef .tc main_v15) (ix3 k (Fps.row b s) l)
      = if h : (Fps.pt k s l).val < 20000 then (input (W0 m ρ c)).xyz b ⟨(Fps.pt k s l).val, h⟩ 0 else (0 : EReal) := by
  have e : W13 m ρ c (Proc.devRef .tc main_v15) = W5 m ρ c (Proc.devRef .tc main_v15) := ((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans (W6_of m ρ c main_v15 (by decide)))))))))
  have z : W3 m ρ c (Proc.devRef .tc main_c) (Shape.Idx.first h_S_) = 0#32 := by
    show StableHlo.after hostOps1 _ _ _ = _
    after_reads_simp
    rfl
  rw [e]
  refine (lay_x (W4 m ρ c) k b s l).trans ((pad_x (W3 m ρ c) b (Fps.pt k s l)).trans ?_)
  by_cases h : (Fps.pt k s l).val < 20000
  · rw [dif_pos h, dif_pos h]
    refine (src_x (W2 m ρ c) b ⟨(Fps.pt k s l).val, h⟩).trans ?_
    exact congrFun (W2_args m ρ c main_arg0 (by decide)) _
  · rw [dif_neg h, dif_neg h, z]
    exact pad_zero

/-- the second, laid out. -/
theorem chunk_y (c : Dev nD) (k : Fin 20) (b : Fin 4) (s : Fin 8) (l : Fin 128) :
    W13 m ρ c (Proc.devRef .tc main_v21) (ix3 k (Fps.row b s) l)
      = if h : (Fps.pt k s l).val < 20000 then (input (W0 m ρ c)).xyz b ⟨(Fps.pt k s l).val, h⟩ 1 else (0 : EReal) := by
  have e : W13 m ρ c (Proc.devRef .tc main_v21) = W7 m ρ c (Proc.devRef .tc main_v21) := ((W13_of m ρ c main_v21 (by decide)).trans ((W12_of m ρ c main_v21 (by decide)).trans ((W11_of m ρ c main_v21 (by decide)).trans ((W10_of m ρ c main_v21 (by decide)).trans ((W9_of m ρ c main_v21 (by decide)).trans (W8_of m ρ c main_v21 (by decide)))))))
  have z : W5 m ρ c (Proc.devRef .tc main_c_0) (Shape.Idx.first h_S_) = 0#32 := by
    show StableHlo.after hostOps1_2 _ _ _ = _
    after_reads_simp
    rfl
  rw [e]
  refine (lay_y (W6 m ρ c) k b s l).trans ((pad_y (W5 m ρ c) b (Fps.pt k s l)).trans ?_)
  by_cases h : (Fps.pt k s l).val < 20000
  · rw [dif_pos h, dif_pos h]
    refine (src_y (W4 m ρ c) b ⟨(Fps.pt k s l).val, h⟩).trans ?_
    exact congrFun (W4_args m ρ c main_arg0 (by decide)) _
  · rw [dif_neg h, dif_neg h, z]
    exact pad_zero

/-- the third, laid out. -/
theorem chunk_z (c : Dev nD) (k : Fin 20) (b : Fin 4) (s : Fin 8) (l : Fin 128) :
    W13 m ρ c (Proc.devRef .tc main_v27) (ix3 k (Fps.row b s) l)
      = if h : (Fps.pt k s l).val < 20000 then (input (W0 m ρ c)).xyz b ⟨(Fps.pt k s l).val, h⟩ 2 else (0 : EReal) := by
  have e : W13 m ρ c (Proc.devRef .tc main_v27) = W9 m ρ c (Proc.devRef .tc main_v27) := ((W13_of m ρ c main_v27 (by decide)).trans ((W12_of m ρ c main_v27 (by decide)).trans ((W11_of m ρ c main_v27 (by decide)).trans (W10_of m ρ c main_v27 (by decide)))))
  have z : W7 m ρ c (Proc.devRef .tc main_c_1) (Shape.Idx.first h_S_) = 0#32 := by
    show StableHlo.after hostOps1_4 _ _ _ = _
    after_reads_simp
    rfl
  rw [e]
  refine (lay_z (W8 m ρ c) k b s l).trans ((pad_z (W7 m ρ c) b (Fps.pt k s l)).trans ?_)
  by_cases h : (Fps.pt k s l).val < 20000
  · rw [dif_pos h, dif_pos h]
    refine (src_z (W6 m ρ c) b ⟨(Fps.pt k s l).val, h⟩).trans ?_
    exact congrFun (W6_args m ρ c main_arg0 (by decide)) _
  · rw [dif_neg h, dif_neg h, z]
    exact pad_zero

/-- the graspness, laid out. -/
theorem chunk_g (c : Dev nD) (k : Fin 20) (b : Fin 4) (s : Fin 8) (l : Fin 128) :
    W13 m ρ c (Proc.devRef .tc main_v32) (ix3 k (Fps.row b s) l)
      = if h : (Fps.pt k s l).val < 20000 then (input (W0 m ρ c)).g b ⟨(Fps.pt k s l).val, h⟩ 2 else (0 : EReal) := by
  have e : W13 m ρ c (Proc.devRef .tc main_v32) = W11 m ρ c (Proc.devRef .tc main_v32) := ((W13_of m ρ c main_v32 (by decide)).trans (W12_of m ρ c main_v32 (by decide)))
  have z : W9 m ρ c (Proc.devRef .tc main_c_2) (Shape.Idx.first h_S_) = 0#32 := by
    show StableHlo.after hostOps1_6 _ _ _ = _
    after_reads_simp
    rfl
  rw [e]
  refine (lay_g (W10 m ρ c) k b s l).trans ((pad_g (W9 m ρ c) b (Fps.pt k s l)).trans ?_)
  by_cases h : (Fps.pt k s l).val < 20000
  · rw [dif_pos h, dif_pos h]
    refine (src_g (W8 m ρ c) b ⟨(Fps.pt k s l).val, h⟩).trans ?_
    have e' : W8 m ρ c (Proc.devRef .tc main_v6_2) = W2 m ρ c (Proc.devRef .tc main_v6_2) := ((W8_of m ρ c main_v6_2 (by decide)).trans ((W7_of m ρ c main_v6_2 (by decide)).trans ((W6_of m ρ c main_v6_2 (by decide)).trans ((W5_of m ρ c main_v6_2 (by decide)).trans ((W4_of m ρ c main_v6_2 (by decide)).trans (W3_of m ρ c main_v6_2 (by decide)))))))
    rw [e', graspness_eq, col_ix b ⟨(Fps.pt k s l).val, h⟩]
  · rw [dif_neg h, dif_neg h, z]
    exact pad_zero

/-- and the mask, laid out. -/
theorem chunk_m (c : Dev nD) (k : Fin 20) (b : Fin 4) (s : Fin 8) (l : Fin 128) :
    W13 m ρ c (Proc.devRef .tc main_v37) (ix3 k (Fps.row b s) l)
      = if h : (Fps.pt k s l).val < 20000 then bit ((input (W0 m ρ c)).mask b ⟨(Fps.pt k s l).val, h⟩) else (0 : EReal) := by
  have e : W13 m ρ c (Proc.devRef .tc main_v37) = W13 m ρ c (Proc.devRef .tc main_v37) := rfl
  have z : W11 m ρ c (Proc.devRef .tc main_c_3) (Shape.Idx.first h_S_) = 0#32 := by
    show StableHlo.after hostOps1_8 _ _ _ = _
    after_reads_simp
    rfl
  rw [e]
  refine (lay_m (W12 m ρ c) k b s l).trans ((pad_m (W11 m ρ c) b (Fps.pt k s l)).trans ?_)
  by_cases h : (Fps.pt k s l).val < 20000
  · rw [dif_pos h, dif_pos h]
    refine (src_m (W10 m ρ c) b ⟨(Fps.pt k s l).val, h⟩).trans ?_
    have e' : W10 m ρ c (Proc.devRef .tc main_v6_1) = W2 m ρ c (Proc.devRef .tc main_v6_1) := ((W10_of m ρ c main_v6_1 (by decide)).trans ((W9_of m ρ c main_v6_1 (by decide)).trans ((W8_of m ρ c main_v6_1 (by decide)).trans ((W7_of m ρ c main_v6_1 (by decide)).trans ((W6_of m ρ c main_v6_1 (by decide)).trans ((W5_of m ρ c main_v6_1 (by decide)).trans ((W4_of m ρ c main_v6_1 (by decide)).trans (W3_of m ρ c main_v6_1 (by decide)))))))))
    rw [e', mask_eq, col_ix b ⟨(Fps.pt k s l).val, h⟩]
  · rw [dif_neg h, dif_neg h, z]
    exact pad_zero

end Cert.Proof.Kern

end
-- ==== Proof.KFps.lean ====
/-
  The kernel's sampling call: the arrays it leaves are the sampled points' numbers, coordinates and graspness.
-/
module

public import proofs.«01_k».proof.Proof.KChunks
public import Idealize.ShloMosaic.Lib.VecWindow

@[expose] public section

set_option maxRecDepth 16384

noncomputable section

namespace Cert.Proof.Kern

open Cert.KernelIdeal Cert.KernelIdeal.Gen
open Idealize.ShloMosaic Idealize.ShloMosaic.TcCoe Idealize.SL.Sem
open Idealize.ShloMosaic.Pipeline (Dat)
open Cert.Proof.Spec

/-- An array laid out in chunks holds `f` at the points, 0 in the padding. -/
def Laid (x : Vec Ideal S20x32x128 .f32) (b : Fin 4) (f : Fin 20000 → EReal) : Prop :=
  ∀ k s l, x (ix3 k (Fps.row b s) l) = if h : (Fps.pt k s l).val < 20000 then f ⟨(Fps.pt k s l).val, h⟩ else (0 : EReal)

theorem Laid.val {x : Vec Ideal S20x32x128 .f32} {b : Fin 4} {f : Fin 20000 → EReal} (h : Laid x b f)
    (r : Memref sig .tc .vmem S20x32x128 .f32) (hr : r.IsWhole) :
    ∀ n : Fin 20480, Fps.val (Fps.chunk r (hr.unread x)) b n = if h : n.val < 20000 then f ⟨n.val, h⟩ else (0 : EReal) := by
  rw [Fps.forall_pt]
  intro k s l
  rw [← h k s l, Fps.val_pt,
    Fps.chunk_of_read r (hr.unread x) (fun c i => x (ix3 c (i 0) (i 1))) ((hr.read_unread x).trans (funext fun y => congrArg x (eq_ix3 y)))]
  rfl

theorem Laid.val_up {x : Vec Ideal S20x32x128 .f32} {b : Fin 4} {f : Fin 20000 → EReal} (h : Laid x b f)
    (r : Memref sig .tc .vmem S20x32x128 .f32) (hr : r.IsWhole) (n : Fin 20000) :
    Fps.val (Fps.chunk r (hr.unread x)) b (Fps.up n) = f n :=
  (h.val r hr (Fps.up n)).trans (dif_pos n.isLt)

/-- What the loop carries after its last step, where the arrays are laid out. -/
theorem holds_final (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32)
    (b : Fin 4) (xyz : Fin 20000 → Fin 3 → EReal) (gr : Fin 20000 → EReal) (mask : Fin 20000 → Prop)
    (h0 : Laid x0 b fun n => xyz n 0) (h1 : Laid x1 b fun n => xyz n 1) (h2 : Laid x2 b fun n => xyz n 2)
    (h3 : Laid x3 b gr) (h4 : Laid x4 b fun n => bit (mask n)) :
    ∃ ds, Fps.Holds b xyz gr mask 1024 (Fps.final c arg0 harg0 arg1 harg1 arg2 harg2 arg3 harg3 arg4 harg4 arg5 harg5 arg6 harg6 arg7 harg7 arg8 harg8 arg9 harg9 arg10 harg10 x0 x1 x2 x3 x4, ds) := by
  rw [Fps.final_eq]
  exact ⟨_, Fps.holds _ _ _ _ _ _ b xyz gr mask (h0.val_up arg0 harg0) (h1.val_up arg1 harg1) (h2.val_up arg2 harg2)
    (h3.val_up arg3 harg3) (Fps.holds_zero _ b mask (h4.val arg4 harg4) xyz gr) 1024 le_rfl⟩

/-- Splitting the rows into batches. -/
theorem split_rows {α : Type} (v : S32x128.Idx → α) (b : Fin 4) (s : Fin 8) (l : Fin 128) :
    shapeCast S4x8x128 v shapeCasts_S32x128_S4x8x128 (ix3 b s l) = v (ix2 (Fps.row b s) l) := by
  pointwise
  exact congrArg v (congrArg (fun r => ix2 r l) (Fin.ext (by simp only [Fps.row]; omega)))

theorem out_5 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) (b : Fin 4) (s : Fin 8) (l : Fin 128) :
    out1_A_5 (F := Ideal) c arg0 harg0 arg1 harg1 arg2 harg2 arg3 harg3 arg4 harg4 arg5 harg5 arg6 harg6 arg7 harg7 arg8 harg8 arg9 harg9 arg10 harg10 x0 x1 x2 x3 x4 (ix3 b s l) = (Fps.final c arg0 harg0 arg1 harg1 arg2 harg2 arg3 harg3 arg4 harg4 arg5 harg5 arg6 harg6 arg7 harg7 arg8 harg8 arg9 harg9 arg10 harg10 x0 x1 x2 x3 x4).2.1 (ix2 (Fps.row b s) l) := by
  unfold out1_A_5
  rw [Fps.run_5]
  refine (congrFun (View.read_writes_full (s := S4x8x128) VO1_5 _ _ _ []) (ix3 b s l)).trans ?_
  exact split_rows _ b s l

theorem out_6 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) (b : Fin 4) (s : Fin 8) (l : Fin 128) :
    out1_A_6 (F := Ideal) c arg0 harg0 arg1 harg1 arg2 harg2 arg3 harg3 arg4 harg4 arg5 harg5 arg6 harg6 arg7 harg7 arg8 harg8 arg9 harg9 arg10 harg10 x0 x1 x2 x3 x4 (ix3 b s l) = (Fps.final c arg0 harg0 arg1 harg1 arg2 harg2 arg3 harg3 arg4 harg4 arg5 harg5 arg6 harg6 arg7 harg7 arg8 harg8 arg9 harg9 arg10 harg10 x0 x1 x2 x3 x4).2.2.1 (ix2 (Fps.row b s) l) := by
  unfold out1_A_6
  rw [Fps.run_6]
  refine (congrFun (View.read_writes_full (s := S4x8x128) VO1_6 _ _ _ []) (ix3 b s l)).trans ?_
  exact split_rows _ b s l

theorem out_7 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) (b : Fin 4) (s : Fin 8) (l : Fin 128) :
    out1_A_7 (F := Ideal) c arg0 harg0 arg1 harg1 arg2 harg2 arg3 harg3 arg4 harg4 arg5 harg5 arg6 harg6 arg7 harg7 arg8 harg8 arg9 harg9 arg10 harg10 x0 x1 x2 x3 x4 (ix3 b s l) = (Fps.final c arg0 harg0 arg1 harg1 arg2 harg2 arg3 harg3 arg4 harg4 arg5 harg5 arg6 harg6 arg7 harg7 arg8 harg8 arg9 harg9 arg10 harg10 x0 x1 x2 x3 x4).2.2.2.1 (ix2 (Fps.row b s) l) := by
  unfold out1_A_7
  rw [Fps.run_7]
  refine (congrFun (View.read_writes_full (s := S4x8x128) VO1_7 _ _ _ []) (ix3 b s l)).trans ?_
  exact split_rows _ b s l

theorem out_8 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) (b : Fin 4) (s : Fin 8) (l : Fin 128) :
    out1_A_8 (F := Ideal) c arg0 harg0 arg1 harg1 arg2 harg2 arg3 harg3 arg4 harg4 arg5 harg5 arg6 harg6 arg7 harg7 arg8 harg8 arg9 harg9 arg10 harg10 x0 x1 x2 x3 x4 (ix3 b s l) = (Fps.final c arg0 harg0 arg1 harg1 arg2 harg2 arg3 harg3 arg4 harg4 arg5 harg5 arg6 harg6 arg7 harg7 arg8 harg8 arg9 harg9 arg10 harg10 x0 x1 x2 x3 x4).2.2.2.2.1 (ix2 (Fps.row b s) l) := by
  unfold out1_A_8
  rw [Fps.run_8]
  refine (congrFun (View.read_writes_full (s := S4x8x128) VO1_8 _ _ _ []) (ix3 b s l)).trans ?_
  exact split_rows _ b s l

theorem out_9 (c : Dev nD) (arg0 : Memref sig .tc .vmem S20x32x128 .f32) (harg0 : arg0.IsWhole) (arg1 : Memref sig .tc .vmem S20x32x128 .f32) (harg1 : arg1.IsWhole) (arg2 : Memref sig .tc .vmem S20x32x128 .f32) (harg2 : arg2.IsWhole) (arg3 : Memref sig .tc .vmem S20x32x128 .f32) (harg3 : arg3.IsWhole) (arg4 : Memref sig .tc .vmem S20x32x128 .f32) (harg4 : arg4.IsWhole) (arg5 : Memref sig .tc .vmem S4x8x128 .i32) (harg5 : arg5.IsWhole) (arg6 : Memref sig .tc .vmem S4x8x128 .f32) (harg6 : arg6.IsWhole) (arg7 : Memref sig .tc .vmem S4x8x128 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S20x32x128 .f32) (harg10 : arg10.IsWhole)
    (x0 x1 x2 x3 x4 : Vec Ideal S20x32x128 .f32) (b : Fin 4) (s : Fin 8) (l : Fin 128) :
    out1_A_9 (F := Ideal) c arg0 harg0 arg1 harg1 arg2 harg2 arg3 harg3 arg4 harg4 arg5 harg5 arg6 harg6 arg7 harg7 arg8 harg8 arg9 harg9 arg10 harg10 x0 x1 x2 x3 x4 (ix3 b s l) = (Fps.final c arg0 harg0 arg1 harg1 arg2 harg2 arg3 harg3 arg4 harg4 arg5 harg5 arg6 harg6 arg7 harg7 arg8 harg8 arg9 harg9 arg10 harg10 x0 x1 x2 x3 x4).2.2.2.2.2 (ix2 (Fps.row b s) l) := by
  unfold out1_A_9
  rw [Fps.run_9]
  refine (congrFun (View.read_writes_full (s := S4x8x128) VO1_9 _ _ _ []) (ix3 b s l)).trans ?_
  exact split_rows _ b s l

theorem index_zero1 : (∀ a, win1_0.index t1_0 a = 0) ∧ (∀ a, win1_1.index t1_0 a = 0) ∧ (∀ a, win1_2.index t1_0 a = 0) ∧
    (∀ a, win1_3.index t1_0 a = 0) ∧ (∀ a, win1_4.index t1_0 a = 0) := by
  refine ⟨?_, ?_, ?_, ?_, ?_⟩ <;> (intro a; fin_cases a <;> rfl)

theorem iblk1_0_eq (V : (c : Dev nD) → (r : Ref sig .tc) → r.ty.Contents (Elt Ideal)) (c : Dev nD) :
    (iblk1 V c 0 t1_0 : Vec Ideal S20x32x128 .f32) = V c main_v15 := by
  funext x
  show V c main_v15 ((win1_0.rect t1_0).emb x) = _
  refine congrArg (V c main_v15) (funext fun a => Fin.ext ?_)
  show win1_0.index t1_0 a * win1_0.size a + 1 * (x a).val = (x a).val
  rw [index_zero1.1 a]; omega

theorem iblk1_1_eq (V : (c : Dev nD) → (r : Ref sig .tc) → r.ty.Contents (Elt Ideal)) (c : Dev nD) :
    (iblk1 V c 1 t1_0 : Vec Ideal S20x32x128 .f32) = V c main_v21 := by
  funext x
  show V c main_v21 ((win1_1.rect t1_0).emb x) = _
  refine congrArg (V c main_v21) (funext fun a => Fin.ext ?_)
  show win1_1.index t1_0 a * win1_1.size a + 1 * (x a).val = (x a).val
  rw [index_zero1.2.1 a]; omega

theorem iblk1_2_eq (V : (c : Dev nD) → (r : Ref sig .tc) → r.ty.Contents (Elt Ideal)) (c : Dev nD) :
    (iblk1 V c 2 t1_0 : Vec Ideal S20x32x128 .f32) = V c main_v27 := by
  funext x
  show V c main_v27 ((win1_2.rect t1_0).emb x) = _
  refine congrArg (V c main_v27) (funext fun a => Fin.ext ?_)
  show win1_2.index t1_0 a * win1_2.size a + 1 * (x a).val = (x a).val
  rw [index_zero1.2.2.1 a]; omega

theorem iblk1_3_eq (V : (c : Dev nD) → (r : Ref sig .tc) → r.ty.Contents (Elt Ideal)) (c : Dev nD) :
    (iblk1 V c 3 t1_0 : Vec Ideal S20x32x128 .f32) = V c main_v32 := by
  funext x
  show V c main_v32 ((win1_3.rect t1_0).emb x) = _
  refine congrArg (V c main_v32) (funext fun a => Fin.ext ?_)
  show win1_3.index t1_0 a * win1_3.size a + 1 * (x a).val = (x a).val
  rw [index_zero1.2.2.2.1 a]; omega

theorem iblk1_4_eq (V : (c : Dev nD) → (r : Ref sig .tc) → r.ty.Contents (Elt Ideal)) (c : Dev nD) :
    (iblk1 V c 4 t1_0 : Vec Ideal S20x32x128 .f32) = V c main_v37 := by
  funext x
  show V c main_v37 ((win1_4.rect t1_0).emb x) = _
  refine congrArg (V c main_v37) (funext fun a => Fin.ext ?_)
  show win1_4.index t1_0 a * win1_4.size a + 1 * (x a).val = (x a).val
  rw [index_zero1.2.2.2.2 a]; omega

theorem mem_blk1_5 (i : Shape.Idx (S4x8x128)) : i ∈ ((cfg1.win 5).blk t1_0).view.set := by
  show i ∈ ((View.whole main_v38_0).slice (win1_5.rect t1_0)).set
  rw [View.set_slice_whole, Rect.mem_set_unit]
  intro a
  fin_cases a
  · show 0 * 4 ≤ (i 0).val ∧ (i 0).val < 0 * 4 + 4
    have : (i 0).val < 4 := (i 0).isLt
    omega
  · show 0 * 8 ≤ (i 1).val ∧ (i 1).val < 0 * 8 + 8
    have : (i 1).val < 8 := (i 1).isLt
    omega
  · show 0 * 128 ≤ (i 2).val ∧ (i 2).val < 0 * 128 + 128
    have : (i 2).val < 128 := (i 2).isLt
    omega

theorem final1_5 (V : (c : Dev nD) → (r : Ref sig .tc) → r.ty.Contents (Elt Ideal)) (c : Dev nD) :
    ((dat1 V c).arrAt 5 cfg1.N : Vec Ideal S4x8x128 .i32) = (outsAt1 V c t1_0).1 := by
  refine (dat1 V c).arrAt_eq_of_cover 5 ((outsAt1 V c t1_0).1) (fun t _ => ?_) (fun i => ⟨t1_0, flush1_5 _, mem_blk1_5 i⟩)
  obtain rfl : t = t1_0 := fin_N1 t
  show (cfg1.win 5).cut (grid1.coords t1_0) ((dat1 V c).after 5 t1_0) = _
  rw [after1_5]
  funext x
  refine congrArg ((outsAt1 V c t1_0).1) (funext fun a => Fin.ext ?_)
  fin_cases a
  · show (x 0).val = 0 * 4 + 1 * (x 0).val
    omega
  · show (x 1).val = 0 * 8 + 1 * (x 1).val
    omega
  · show (x 2).val = 0 * 128 + 1 * (x 2).val
    omega

theorem mem_blk1_6 (i : Shape.Idx (S4x8x128)) : i ∈ ((cfg1.win 6).blk t1_0).view.set := by
  show i ∈ ((View.whole main_v38_1).slice (win1_6.rect t1_0)).set
  rw [View.set_slice_whole, Rect.mem_set_unit]
  intro a
  fin_cases a
  · show 0 * 4 ≤ (i 0).val ∧ (i 0).val < 0 * 4 + 4
    have : (i 0).val < 4 := (i 0).isLt
    omega
  · show 0 * 8 ≤ (i 1).val ∧ (i 1).val < 0 * 8 + 8
    have : (i 1).val < 8 := (i 1).isLt
    omega
  · show 0 * 128 ≤ (i 2).val ∧ (i 2).val < 0 * 128 + 128
    have : (i 2).val < 128 := (i 2).isLt
    omega

theorem final1_6 (V : (c : Dev nD) → (r : Ref sig .tc) → r.ty.Contents (Elt Ideal)) (c : Dev nD) :
    ((dat1 V c).arrAt 6 cfg1.N : Vec Ideal S4x8x128 .f32) = (outsAt1 V c t1_0).2.1 := by
  refine (dat1 V c).arrAt_eq_of_cover 6 ((outsAt1 V c t1_0).2.1) (fun t _ => ?_) (fun i => ⟨t1_0, flush1_6 _, mem_blk1_6 i⟩)
  obtain rfl : t = t1_0 := fin_N1 t
  show (cfg1.win 6).cut (grid1.coords t1_0) ((dat1 V c).after 6 t1_0) = _
  rw [after1_6]
  funext x
  refine congrArg ((outsAt1 V c t1_0).2.1) (funext fun a => Fin.ext ?_)
  fin_cases a
  · show (x 0).val = 0 * 4 + 1 * (x 0).val
    omega
  · show (x 1).val = 0 * 8 + 1 * (x 1).val
    omega
  · show (x 2).val = 0 * 128 + 1 * (x 2).val
    omega

theorem mem_blk1_7 (i : Shape.Idx (S4x8x128)) : i ∈ ((cfg1.win 7).blk t1_0).view.set := by
  show i ∈ ((View.whole main_v38_2).slice (win1_7.rect t1_0)).set
  rw [View.set_slice_whole, Rect.mem_set_unit]
  intro a
  fin_cases a
  · show 0 * 4 ≤ (i 0).val ∧ (i 0).val < 0 * 4 + 4
    have : (i 0).val < 4 := (i 0).isLt
    omega
  · show 0 * 8 ≤ (i 1).val ∧ (i 1).val < 0 * 8 + 8
    have : (i 1).val < 8 := (i 1).isLt
    omega
  · show 0 * 128 ≤ (i 2).val ∧ (i 2).val < 0 * 128 + 128
    have : (i 2).val < 128 := (i 2).isLt
    omega

theorem final1_7 (V : (c : Dev nD) → (r : Ref sig .tc) → r.ty.Contents (Elt Ideal)) (c : Dev nD) :
    ((dat1 V c).arrAt 7 cfg1.N : Vec Ideal S4x8x128 .f32) = (outsAt1 V c t1_0).2.2.1 := by
  refine (dat1 V c).arrAt_eq_of_cover 7 ((outsAt1 V c t1_0).2.2.1) (fun t _ => ?_) (fun i => ⟨t1_0, flush1_7 _, mem_blk1_7 i⟩)
  obtain rfl : t = t1_0 := fin_N1 t
  show (cfg1.win 7).cut (grid1.coords t1_0) ((dat1 V c).after 7 t1_0) = _
  rw [after1_7]
  funext x
  refine congrArg ((outsAt1 V c t1_0).2.2.1) (funext fun a => Fin.ext ?_)
  fin_cases a
  · show (x 0).val = 0 * 4 + 1 * (x 0).val
    omega
  · show (x 1).val = 0 * 8 + 1 * (x 1).val
    omega
  · show (x 2).val = 0 * 128 + 1 * (x 2).val
    omega

theorem mem_blk1_8 (i : Shape.Idx (S4x8x128)) : i ∈ ((cfg1.win 8).blk t1_0).view.set := by
  show i ∈ ((View.whole main_v38_3).slice (win1_8.rect t1_0)).set
  rw [View.set_slice_whole, Rect.mem_set_unit]
  intro a
  fin_cases a
  · show 0 * 4 ≤ (i 0).val ∧ (i 0).val < 0 * 4 + 4
    have : (i 0).val < 4 := (i 0).isLt
    omega
  · show 0 * 8 ≤ (i 1).val ∧ (i 1).val < 0 * 8 + 8
    have : (i 1).val < 8 := (i 1).isLt
    omega
  · show 0 * 128 ≤ (i 2).val ∧ (i 2).val < 0 * 128 + 128
    have : (i 2).val < 128 := (i 2).isLt
    omega

theorem final1_8 (V : (c : Dev nD) → (r : Ref sig .tc) → r.ty.Contents (Elt Ideal)) (c : Dev nD) :
    ((dat1 V c).arrAt 8 cfg1.N : Vec Ideal S4x8x128 .f32) = (outsAt1 V c t1_0).2.2.2.1 := by
  refine (dat1 V c).arrAt_eq_of_cover 8 ((outsAt1 V c t1_0).2.2.2.1) (fun t _ => ?_) (fun i => ⟨t1_0, flush1_8 _, mem_blk1_8 i⟩)
  obtain rfl : t = t1_0 := fin_N1 t
  show (cfg1.win 8).cut (grid1.coords t1_0) ((dat1 V c).after 8 t1_0) = _
  rw [after1_8]
  funext x
  refine congrArg ((outsAt1 V c t1_0).2.2.2.1) (funext fun a => Fin.ext ?_)
  fin_cases a
  · show (x 0).val = 0 * 4 + 1 * (x 0).val
    omega
  · show (x 1).val = 0 * 8 + 1 * (x 1).val
    omega
  · show (x 2).val = 0 * 128 + 1 * (x 2).val
    omega

theorem mem_blk1_9 (i : Shape.Idx (S4x8x128)) : i ∈ ((cfg1.win 9).blk t1_0).view.set := by
  show i ∈ ((View.whole main_v38_4).slice (win1_9.rect t1_0)).set
  rw [View.set_slice_whole, Rect.mem_set_unit]
  intro a
  fin_cases a
  · show 0 * 4 ≤ (i 0).val ∧ (i 0).val < 0 * 4 + 4
    have : (i 0).val < 4 := (i 0).isLt
    omega
  · show 0 * 8 ≤ (i 1).val ∧ (i 1).val < 0 * 8 + 8
    have : (i 1).val < 8 := (i 1).isLt
    omega
  · show 0 * 128 ≤ (i 2).val ∧ (i 2).val < 0 * 128 + 128
    have : (i 2).val < 128 := (i 2).isLt
    omega

theorem final1_9 (V : (c : Dev nD) → (r : Ref sig .tc) → r.ty.Contents (Elt Ideal)) (c : Dev nD) :
    ((dat1 V c).arrAt 9 cfg1.N : Vec Ideal S4x8x128 .f32) = (outsAt1 V c t1_0).2.2.2.2 := by
  refine (dat1 V c).arrAt_eq_of_cover 9 ((outsAt1 V c t1_0).2.2.2.2) (fun t _ => ?_) (fun i => ⟨t1_0, flush1_9 _, mem_blk1_9 i⟩)
  obtain rfl : t = t1_0 := fin_N1 t
  show (cfg1.win 9).cut (grid1.coords t1_0) ((dat1 V c).after 9 t1_0) = _
  rw [after1_9]
  funext x
  refine congrArg ((outsAt1 V c t1_0).2.2.2.2) (funext fun a => Fin.ext ?_)
  fin_cases a
  · show (x 0).val = 0 * 4 + 1 * (x 0).val
    omega
  · show (x 1).val = 0 * 8 + 1 * (x 1).val
    omega
  · show (x 2).val = 0 * 128 + 1 * (x 2).val
    omega

variable (m : (ℓ : Loc nD τ sig) → Buf (Elt Ideal) ℓ) (ρ : Dev nD → PrngReg)

theorem laid (c : Dev nD) (b : Fin 4) :
    Laid (W13 m ρ c (Proc.devRef .tc main_v15)) b (fun n => (input (W0 m ρ c)).xyz b n 0) ∧
    Laid (W13 m ρ c (Proc.devRef .tc main_v21)) b (fun n => (input (W0 m ρ c)).xyz b n 1) ∧
    Laid (W13 m ρ c (Proc.devRef .tc main_v27)) b (fun n => (input (W0 m ρ c)).xyz b n 2) ∧
    Laid (W13 m ρ c (Proc.devRef .tc main_v32)) b (fun n => (input (W0 m ρ c)).g b n 2) ∧
    Laid (W13 m ρ c (Proc.devRef .tc main_v37)) b (fun n => bit ((input (W0 m ρ c)).mask b n)) :=
  ⟨fun k s l => chunk_x m ρ c k b s l, fun k s l => chunk_y m ρ c k b s l, fun k s l => chunk_z m ρ c k b s l,
    fun k s l => chunk_g m ρ c k b s l, fun k s l => chunk_m m ρ c k b s l⟩

theorem place_lt (s : Fin 8) (l : Fin 128) : 128 * s.val + l.val < 1024 := by omega

theorem sampled_inds (c : Dev nD) (b : Fin 4) (s : Fin 8) (l : Fin 128) :
    W14 m ρ c (Proc.devRef .tc main_v38_0) (ix3 b s l) = BitVec.ofNat 32 ((input (W0 m ρ c)).ind b (128 * s.val + l.val)).val := by
  refine (congrFun ((W14_arr m ρ c 5).trans (final1_5 (V13 m ρ) c)) (ix3 b s l)).trans ?_
  refine (out_5 _ _ _ _ _ _ _ _ _ _ _ _ _ _ _ _ _ _ _ _ _ _ _ _ _ _ _ _ b s l).trans ?_
  rw [iblk1_0_eq, iblk1_1_eq, iblk1_2_eq, iblk1_3_eq, iblk1_4_eq]
  obtain ⟨h0, h1, h2, h3, h4⟩ := laid m ρ c b
  obtain ⟨ds, H⟩ := holds_final c _ (hs1_0 t1_0) _ (hs1_1 t1_0) _ (hs1_2 t1_0) _ (hs1_3 t1_0) _ (hs1_4 t1_0) _ (hs1_5 t1_0)
    _ (hs1_6 t1_0) _ (hs1_7 t1_0) _ (hs1_8 t1_0) _ (hs1_9 t1_0) scM1_0 (Memref.isWhole_whole _) _ _ _ _ _ b
    ((input (W0 m ρ c)).xyz b) (fun n => (input (W0 m ρ c)).g b n 2) ((input (W0 m ρ c)).mask b) h0 h1 h2 h3 h4
  exact (H.inds s l).trans (if_pos (place_lt s l))

theorem sampled_xs (c : Dev nD) (b : Fin 4) (s : Fin 8) (l : Fin 128) :
    W14 m ρ c (Proc.devRef .tc main_v38_1) (ix3 b s l) = (input (W0 m ρ c)).xyz b ((input (W0 m ρ c)).ind b (128 * s.val + l.val)) 0 := by
  refine (congrFun ((W14_arr m ρ c 6).trans (final1_6 (V13 m ρ) c)) (ix3 b s l)).trans ?_
  refine (out_6 _ _ _ _ _ _ _ _ _ _ _ _ _ _ _ _ _ _ _ _ _ _ _ _ _ _ _ _ b s l).trans ?_
  rw [iblk1_0_eq, iblk1_1_eq, iblk1_2_eq, iblk1_3_eq, iblk1_4_eq]
  obtain ⟨h0, h1, h2, h3, h4⟩ := laid m ρ c b
  obtain ⟨ds, H⟩ := holds_final c _ (hs1_0 t1_0) _ (hs1_1 t1_0) _ (hs1_2 t1_0) _ (hs1_3 t1_0) _ (hs1_4 t1_0) _ (hs1_5 t1_0)
    _ (hs1_6 t1_0) _ (hs1_7 t1_0) _ (hs1_8 t1_0) _ (hs1_9 t1_0) scM1_0 (Memref.isWhole_whole _) _ _ _ _ _ b
    ((input (W0 m ρ c)).xyz b) (fun n => (input (W0 m ρ c)).g b n 2) ((input (W0 m ρ c)).mask b) h0 h1 h2 h3 h4
  exact (H.xs s l).trans (if_pos (place_lt s l))

theorem sampled_ys (c : Dev nD) (b : Fin 4) (s : Fin 8) (l : Fin 128) :
    W14 m ρ c (Proc.devRef .tc main_v38_2) (ix3 b s l) = (input (W0 m ρ c)).xyz b ((input (W0 m ρ c)).ind b (128 * s.val + l.val)) 1 := by
  refine (congrFun ((W14_arr m ρ c 7).trans (final1_7 (V13 m ρ) c)) (ix3 b s l)).trans ?_
  refine (out_7 _ _ _ _ _ _ _ _ _ _ _ _ _ _ _ _ _ _ _ _ _ _ _ _ _ _ _ _ b s l).trans ?_
  rw [iblk1_0_eq, iblk1_1_eq, iblk1_2_eq, iblk1_3_eq, iblk1_4_eq]
  obtain ⟨h0, h1, h2, h3, h4⟩ := laid m ρ c b
  obtain ⟨ds, H⟩ := holds_final c _ (hs1_0 t1_0) _ (hs1_1 t1_0) _ (hs1_2 t1_0) _ (hs1_3 t1_0) _ (hs1_4 t1_0) _ (hs1_5 t1_0)
    _ (hs1_6 t1_0) _ (hs1_7 t1_0) _ (hs1_8 t1_0) _ (hs1_9 t1_0) scM1_0 (Memref.isWhole_whole _) _ _ _ _ _ b
    ((input (W0 m ρ c)).xyz b) (fun n => (input (W0 m ρ c)).g b n 2) ((input (W0 m ρ c)).mask b) h0 h1 h2 h3 h4
  exact (H.ys s l).trans (if_pos (place_lt s l))

theorem sampled_zs (c : Dev nD) (b : Fin 4) (s : Fin 8) (l : Fin 128) :
    W14 m ρ c (Proc.devRef .tc main_v38_3) (ix3 b s l) = (input (W0 m ρ c)).xyz b ((input (W0 m ρ c)).ind b (128 * s.val + l.val)) 2 := by
  refine (congrFun ((W14_arr m ρ c 8).trans (final1_8 (V13 m ρ) c)) (ix3 b s l)).trans ?_
  refine (out_8 _ _ _ _ _ _ _ _ _ _ _ _ _ _ _ _ _ _ _ _ _ _ _ _ _ _ _ _ b s l).trans ?_
  rw [iblk1_0_eq, iblk1_1_eq, iblk1_2_eq, iblk1_3_eq, iblk1_4_eq]
  obtain ⟨h0, h1, h2, h3, h4⟩ := laid m ρ c b
  obtain ⟨ds, H⟩ := holds_final c _ (hs1_0 t1_0) _ (hs1_1 t1_0) _ (hs1_2 t1_0) _ (hs1_3 t1_0) _ (hs1_4 t1_0) _ (hs1_5 t1_0)
    _ (hs1_6 t1_0) _ (hs1_7 t1_0) _ (hs1_8 t1_0) _ (hs1_9 t1_0) scM1_0 (Memref.isWhole_whole _) _ _ _ _ _ b
    ((input (W0 m ρ c)).xyz b) (fun n => (input (W0 m ρ c)).g b n 2) ((input (W0 m ρ c)).mask b) h0 h1 h2 h3 h4
  exact (H.zs s l).trans (if_pos (place_lt s l))

theorem sampled_gs (c : Dev nD) (b : Fin 4) (s : Fin 8) (l : Fin 128) :
    W14 m ρ c (Proc.devRef .tc main_v38_4) (ix3 b s l) = (input (W0 m ρ c)).g b ((input (W0 m ρ c)).ind b (128 * s.val + l.val)) 2 := by
  refine (congrFun ((W14_arr m ρ c 9).trans (final1_9 (V13 m ρ) c)) (ix3 b s l)).trans ?_
  refine (out_9 _ _ _ _ _ _ _ _ _ _ _ _ _ _ _ _ _ _ _ _ _ _ _ _ _ _ _ _ b s l).trans ?_
  rw [iblk1_0_eq, iblk1_1_eq, iblk1_2_eq, iblk1_3_eq, iblk1_4_eq]
  obtain ⟨h0, h1, h2, h3, h4⟩ := laid m ρ c b
  obtain ⟨ds, H⟩ := holds_final c _ (hs1_0 t1_0) _ (hs1_1 t1_0) _ (hs1_2 t1_0) _ (hs1_3 t1_0) _ (hs1_4 t1_0) _ (hs1_5 t1_0)
    _ (hs1_6 t1_0) _ (hs1_7 t1_0) _ (hs1_8 t1_0) _ (hs1_9 t1_0) scM1_0 (Memref.isWhole_whole _) _ _ _ _ _ b
    ((input (W0 m ρ c)).xyz b) (fun n => (input (W0 m ρ c)).g b n 2) ((input (W0 m ρ c)).mask b) h0 h1 h2 h3 h4
  exact (H.gs s l).trans (if_pos (place_lt s l))

end Cert.Proof.Kern

end
-- ==== Proof.KGather.lean ====
/-
  The kernel's gathering call: the product with the one-hot matrix of the sampled numbers picks the sampled features.
-/
module

public import proofs.«01_k».proof.Proof.KFps

@[expose] public section

set_option maxRecDepth 16384

noncomputable section

namespace Cert.Proof.Kern

open Cert.KernelIdeal Cert.KernelIdeal.Gen
open Idealize.ShloMosaic Idealize.ShloMosaic.TcCoe Idealize.SL.Sem
open Idealize.ShloMosaic.Pipeline (Dat)
open Cert.Proof.Spec

/-! ## The one-hot product -/

/-- The product of a block of features with the one-hot matrix of the numbers `iv`, the rows counted from `w`. -/
def hot (v : FVec Ideal S256x2500 .f32) (iv : IVec S1x1024 32) (w : BitVec 32) : FVec Ideal S256x1024 .f32 :=
  matmul dot_S256x2500_S2500x1024_S256x1024_1_0_0_1_n_n none v
    (sitofp (F := Ideal) .f32 (extui 32 (cmpi .eq (addi (iota Kind.tc S2500x1024 32 [0] iota_S2500x1024_d0_w32) (broadcast S2500x1024 w))
      (broadcastTo S2500x1024 iv broadcasts_S1x1024_S2500x1024)) natLt_1_32)) (constant S256x1024 .f32 0#32)

/-- An entry of a one-hot matrix as a number. -/
theorem hot_entry (a b : BitVec 32) :
    (FloatOps.sitofp (F := Ideal) FTy.f32 (BitVec.setWidth 32 (IntOp.cmpi CmpIPredicate.eq a b)) : EReal) = if a = b then 1 else 0 := by
  show (((BitVec.setWidth 32 (BitVec.ofBool (a == b))).toInt : ℝ) : EReal) = _
  by_cases h : a = b
  · simp [h]
  · rw [beq_false_of_ne h, if_neg h]
    simp

theorem hot_sum (v : FVec Ideal S256x2500 .f32) (iv : IVec S1x1024 32) (w : BitVec 32) (ch : Fin 256) (k : Fin 1024) :
    hot v iv w (ix2 ch k) = ∑ i : Fin 2500, v (ix2 ch i) * (if BitVec.ofNat 32 i.val + w = iv (ix2 0 k) then (1 : EReal) else 0) := by
  unfold hot
  pointwise
  exact Finset.sum_congr rfl fun i _ => congrArg (v (ix2 ch i) * ·) (hot_entry _ _)

/-- Two numbers below 2^32 agree where their words do. -/
theorem word_eq (i q : ℕ) (n : ℕ) (hi : i < 2500) (hn : n < 8) (hq : q < 20000) :
    BitVec.ofNat 32 i + BitVec.ofNat 32 (2500 * n) = BitVec.ofNat 32 q ↔ 2500 * n + i = q := by
  rw [← BitVec.ofNat_add, ← BitVec.toNat_inj, BitVec.toNat_ofNat, BitVec.toNat_ofNat, Nat.mod_eq_of_lt (by omega), Nat.mod_eq_of_lt (by omega)]
  omega

/-- The product is the chosen entry where the number lies in the block, 0 elsewhere. -/
theorem hot_apply (v : FVec Ideal S256x2500 .f32) (iv : IVec S1x1024 32) (n : ℕ) (hn : n < 8) (ch : Fin 256) (k : Fin 1024) (q : Fin 20000)
    (h : iv (ix2 0 k) = BitVec.ofNat 32 q.val) :
    hot v iv (BitVec.ofNat 32 (2500 * n)) (ix2 ch k)
      = if q.val / 2500 = n then v (ix2 ch ⟨q.val % 2500, Nat.mod_lt _ (by omega)⟩) else (0 : EReal) := by
  rw [hot_sum, h]
  have e : ∀ i : Fin 2500, v (ix2 ch i) * (if BitVec.ofNat 32 i.val + BitVec.ofNat 32 (2500 * n) = BitVec.ofNat 32 q.val then (1 : EReal) else 0)
      = if 2500 * n + i.val = q.val then v (ix2 ch i) else (0 : EReal) := fun i => by
    by_cases hq : 2500 * n + i.val = q.val
    · rw [if_pos ((word_eq i q n i.isLt hn q.isLt).mpr hq), if_pos hq]; exact mul_one _
    · rw [if_neg fun h => hq ((word_eq i q n i.isLt hn q.isLt).mp h), if_neg hq]; exact mul_zero _
  rw [Finset.sum_congr rfl fun i _ => e i]
  by_cases hq : q.val / 2500 = n
  · rw [if_pos hq, Finset.sum_eq_single (⟨q.val % 2500, Nat.mod_lt _ (by omega)⟩ : Fin 2500)]
    · exact if_pos (by dsimp only; omega)
    · exact fun i _ hi => if_neg fun h => hi (Fin.ext (by dsimp only; omega))
    · exact fun h => absurd (Finset.mem_univ _) h
  · rw [if_neg hq]
    exact Finset.sum_eq_zero fun i _ => if_neg (by omega)

theorem unit_cast (v : FVec Ideal S256x1024 .f32) (ch : Fin 256) (k : Fin 1024) :
    shapeCast S1x256x1024 v shapeCasts_S256x1024_S1x256x1024 (ix3 0 ch k) = v (ix2 ch k) := by
  pointwise

theorem numbers_apply (x0 : Vec Ideal S1x1x1024 .i32) (k : Fin 1024) : k2_pay2 (View.ld x0 r2_0) (ix2 0 k) = x0 (ix3 0 0 k) := by
  unfold k2_pay2
  pointwise

theorem drop_unit (f : S1x256x2500.Idx → EReal) (ch : Fin 256) (i : Fin 2500) :
    shapeCast S256x2500 f shapeCasts_S1x256x2500_S256x2500 (ix2 ch i) = f (ix3 0 ch i) := by
  pointwise

/-- The block of features from column `o` on. -/
theorem block_apply (x1 : Vec Ideal S1x256x20000 .f32) (o : ℕ) (h) (ch : Fin 256) (i : Fin 2500) (n : Fin 20000) (hn : o + i.val = n.val) :
    shapeCast S256x2500 (View.ld x1 (Rect.unit (s := S1x256x20000) ![0, 0, o] S1x256x2500.size h)) shapeCasts_S1x256x2500_S256x2500 (ix2 ch i)
      = x1 (ix3 0 ch n) := by
  refine (drop_unit _ ch i).trans (congrArg x1 (funext fun a => Fin.ext ?_))
  fin_cases a
  · rfl
  · show 0 + 1 * ch.val = ch.val
    omega
  · show o + 1 * i.val = n.val
    omega

/-- A block's share of the gathered entry. -/
theorem share (x0 : Vec Ideal S1x1x1024 .i32) (x1 : Vec Ideal S1x256x20000 .f32) (n : ℕ) (hn : n < 8) (h) (ch : Fin 256) (k : Fin 1024)
    (q : Fin 20000) (hq : x0 (ix3 0 0 k) = BitVec.ofNat 32 q.val) :
    hot (shapeCast S256x2500 (View.ld x1 (Rect.unit (s := S1x256x20000) ![0, 0, 2500 * n] S1x256x2500.size h)) shapeCasts_S1x256x2500_S256x2500)
      (k2_pay2 (View.ld x0 r2_0)) (BitVec.ofNat 32 (2500 * n)) (ix2 ch k)
      = if q.val / 2500 = n then x1 (ix3 0 ch q) else (0 : EReal) := by
  rw [hot_apply _ _ n hn ch k q ((numbers_apply x0 k).trans hq)]
  by_cases e : q.val / 2500 = n
  · rw [if_pos e, if_pos e]
    exact block_apply x1 (2500 * n) h ch _ q (by dsimp only; omega)
  · rw [if_neg e, if_neg e]

/-- What the call stores is the eight blocks' products added. -/
theorem out2_sum (x0 : Vec Ideal S1x1x1024 .i32) (x1 : Vec Ideal S1x256x20000 .f32) (ch : Fin 256) (k : Fin 1024) :
    out2_2 x0 x1 (ix3 0 ch k) = (hot (shapeCast S256x2500 (View.ld x1 r2_1) shapeCasts_S1x256x2500_S256x2500) (k2_pay2 (View.ld x0 r2_0)) (BitVec.ofNat 32 (2500 * 0)) (ix2 ch k)
      + hot (shapeCast S256x2500 (View.ld x1 r2_2) shapeCasts_S1x256x2500_S256x2500) (k2_pay2 (View.ld x0 r2_0)) (BitVec.ofNat 32 (2500 * 1)) (ix2 ch k)
      + hot (shapeCast S256x2500 (View.ld x1 r2_3) shapeCasts_S1x256x2500_S256x2500) (k2_pay2 (View.ld x0 r2_0)) (BitVec.ofNat 32 (2500 * 2)) (ix2 ch k)
      + hot (shapeCast S256x2500 (View.ld x1 r2_4) shapeCasts_S1x256x2500_S256x2500) (k2_pay2 (View.ld x0 r2_0)) (BitVec.ofNat 32 (2500 * 3)) (ix2 ch k)
      + hot (shapeCast S256x2500 (View.ld x1 r2_5) shapeCasts_S1x256x2500_S256x2500) (k2_pay2 (View.ld x0 r2_0)) (BitVec.ofNat 32 (2500 * 4)) (ix2 ch k)
      + hot (shapeCast S256x2500 (View.ld x1 r2_6) shapeCasts_S1x256x2500_S256x2500) (k2_pay2 (View.ld x0 r2_0)) (BitVec.ofNat 32 (2500 * 5)) (ix2 ch k)
      + hot (shapeCast S256x2500 (View.ld x1 r2_7) shapeCasts_S1x256x2500_S256x2500) (k2_pay2 (View.ld x0 r2_0)) (BitVec.ofNat 32 (2500 * 6)) (ix2 ch k)
      + hot (shapeCast S256x2500 (View.ld x1 r2_8) shapeCasts_S1x256x2500_S256x2500) (k2_pay2 (View.ld x0 r2_0)) (BitVec.ofNat 32 (2500 * 7)) (ix2 ch k) : EReal) := by
  rw [out2_2, View.canon_unit_zero (by decide)]
  unfold k2_pay1 k2_pay5 k2_pay3 k2_pay4 k2_pay6 k2_pay7
  refine (unit_cast _ ch k).trans ?_
  rfl

/-- One of eight shares is the entry, the others 0. -/
theorem shares (q : ℕ) (hq : q < 20000) (v : EReal) :
    ((if q / 2500 = 0 then v else 0) + (if q / 2500 = 1 then v else 0) + (if q / 2500 = 2 then v else 0) + (if q / 2500 = 3 then v else 0) + (if q / 2500 = 4 then v else 0) + (if q / 2500 = 5 then v else 0) + (if q / 2500 = 6 then v else 0) + (if q / 2500 = 7 then v else 0) : EReal) = v := by
  have h : q / 2500 < 8 := by omega
  generalize q / 2500 = d at h
  interval_cases d <;> simp

/-- The gathered block: the features of the points whose numbers it is given. -/
theorem out2_apply (x0 : Vec Ideal S1x1x1024 .i32) (x1 : Vec Ideal S1x256x20000 .f32) (ch : Fin 256) (k : Fin 1024)
    (q : Fin 20000) (hq : x0 (ix3 0 0 k) = BitVec.ofNat 32 q.val) : out2_2 x0 x1 (ix3 0 ch k) = x1 (ix3 0 ch q) := by
  rw [out2_sum]
  refine Eq.trans ?_ (shares q.val q.isLt (x1 (ix3 0 ch q)))
  exact congrArg₂ (· + ·) (congrArg₂ (· + ·) (congrArg₂ (· + ·) (congrArg₂ (· + ·) (congrArg₂ (· + ·) (congrArg₂ (· + ·) (congrArg₂ (· + ·)
    (share x0 x1 0 (by omega) _ ch k q hq) (share x0 x1 1 (by omega) _ ch k q hq)) (share x0 x1 2 (by omega) _ ch k q hq))
    (share x0 x1 3 (by omega) _ ch k q hq)) (share x0 x1 4 (by omega) _ ch k q hq)) (share x0 x1 5 (by omega) _ ch k q hq))
    (share x0 x1 6 (by omega) _ ch k q hq)) (share x0 x1 7 (by omega) _ ch k q hq)

/-! ## The call's arrays -/

section Arrays

variable (V : (c : Dev nD) → (b : Ref sig .tc) → Buf (Elt Ideal) ((c.tc : Thread nD τ).loc b))

/-- A grid point's number is its batch. -/
theorem point2 (t : Fin cfg2.N) : t.val < 4 ∧ win2_0.index t 0 = t.val ∧ win2_1.index t 0 = t.val ∧ win2_2.index t 0 = t.val := by
  rcases fin_N2 t with rfl | rfl | rfl | rfl <;> decide +kernel

theorem iblk2_0_apply (c : Dev nD) (t : Fin cfg2.N) (b : Fin 4) (ht : t.val = b.val) (k : Fin 1024) :
    iblk2 V c 0 t (ix3 0 0 k) = V c main_v48 (ix3 b 0 k) := by
  show V c main_v48 ((win2_0.rect t).emb (ix3 0 0 k)) = _
  refine congrArg (V c main_v48) (funext fun a => Fin.ext ?_)
  fin_cases a
  · show win2_0.index t 0 * 1 + 1 * 0 = b.val
    rw [(point2 t).2.1]
    omega
  · rfl
  · show 0 * 1024 + 1 * k.val = k.val
    omega

theorem iblk2_1_apply (c : Dev nD) (t : Fin cfg2.N) (b : Fin 4) (ht : t.val = b.val) (ch : Fin 256) (n : Fin 20000) :
    iblk2 V c 1 t (ix3 0 ch n) = V c main_arg1 (ix3 b ch n) := by
  show V c main_arg1 ((win2_1.rect t).emb (ix3 0 ch n)) = _
  refine congrArg (V c main_arg1) (funext fun a => Fin.ext ?_)
  fin_cases a
  · show win2_1.index t 0 * 1 + 1 * 0 = b.val
    rw [(point2 t).2.2.1]
    omega
  · show 0 * 256 + 1 * ch.val = ch.val
    omega
  · show 0 * 20000 + 1 * n.val = n.val
    omega

theorem mem_blk2 (t : Fin cfg2.N) (i : S4x256x1024.Idx) (h : (i 0).val = t.val) : i ∈ ((cfg2.win 2).blk t).view.set := by
  show i ∈ ((View.whole main_v49).slice (win2_2.rect t)).set
  rw [View.set_slice_whole, Rect.mem_set_unit]
  intro a
  fin_cases a
  · show win2_2.index _ 0 * 1 ≤ (i 0).val ∧ (i 0).val < win2_2.index _ 0 * 1 + 1
    rw [(point2 _).2.2.2]
    dsimp only
    omega
  · show 0 * 256 ≤ (i 1).val ∧ (i 1).val < 0 * 256 + 256
    have : (i 1).val < 256 := (i 1).isLt
    omega
  · show 0 * 1024 ≤ (i 2).val ∧ (i 2).val < 0 * 1024 + 1024
    have : (i 2).val < 1024 := (i 2).isLt
    omega

/-- The gathered features. -/
theorem final2 (c : Dev nD) (q : Fin 4 → Fin 1024 → Fin 20000)
    (hq : ∀ b k, V c main_v48 (ix3 b 0 k) = BitVec.ofNat 32 (q b k).val) (b : Fin 4) (ch : Fin 256) (k : Fin 1024) :
    (dat2 V c).arrAt 2 cfg2.N (ix3 b ch k) = V c main_arg1 (ix3 b ch (q b k)) := by
  refine (congrFun ((dat2 V c).arrAt_eq_of_cover 2
    (fun i : S4x256x1024.Idx => V c main_arg1 (ix3 (i 0) (i 1) (q (i 0) (i 2))))
    (fun t _ => ?_) (fun i => ?_)) (ix3 b ch k)).trans rfl
  · show (cfg2.win 2).cut (grid2.coords t) ((dat2 V c).after 2 t) = _
    rw [after2_2]
    funext x
    obtain ⟨z, ch, k, rfl⟩ : ∃ (z : Fin 1) (ch : Fin 256) (k : Fin 1024), x = ix3 z ch k := ⟨_, _, _, eq_ix3 x⟩
    obtain rfl : z = 0 := Subsingleton.elim _ _
    refine (out2_apply _ _ ch k (q ⟨t.val, (point2 t).1⟩ k) ((iblk2_0_apply V c t ⟨t.val, (point2 t).1⟩ rfl k).trans (hq _ k))).trans ?_
    refine (iblk2_1_apply V c t ⟨t.val, (point2 t).1⟩ rfl ch _).trans ?_
    show _ = V c main_arg1 (ix3 ((win2_2.rect t).emb (ix3 0 ch k) 0) ((win2_2.rect t).emb (ix3 0 ch k) 1)
      (q ((win2_2.rect t).emb (ix3 0 ch k) 0) ((win2_2.rect t).emb (ix3 0 ch k) 2)))
    have e0 : (win2_2.rect t).emb (ix3 0 ch k) 0 = (⟨t.val, (point2 t).1⟩ : Fin 4) := Fin.ext (by
      show win2_2.index t 0 * 1 + 1 * 0 = t.val
      rw [(point2 t).2.2.2]; omega)
    have e1 : (win2_2.rect t).emb (ix3 0 ch k) 1 = ch := Fin.ext (by show 0 * 256 + 1 * ch.val = ch.val; omega)
    have e2 : (win2_2.rect t).emb (ix3 0 ch k) 2 = k := Fin.ext (by show 0 * 1024 + 1 * k.val = k.val; omega)
    rw [e0, e1, e2]
  · have hN : cfg2.N = 4 := N_2
    have hb : (i 0).val < 4 := (i 0).isLt
    exact ⟨⟨(i 0).val, by omega⟩, flush2_2 _, mem_blk2 _ i rfl⟩

end Arrays

/-! ## The host's arrays after the sampling call -/

/-- Sampled point `k`'s place in the sampling call's arrays. -/
theorem place (k : Fin 1024) : 128 * (⟨k.val / 128, by omega⟩ : Fin 8).val + (⟨k.val % 128, by omega⟩ : Fin 128).val = k.val := by
  dsimp only; omega

variable (m : (ℓ : Loc nD τ sig) → Buf (Elt Ideal) ℓ) (ρ : Dev nD → PrngReg)

theorem host_inds (V : Valuation τ sig (Elt Ideal)) (b : Fin 4) (k : Fin 1024) :
    StableHlo.after hostOps2 V (Proc.devRef .tc main_v39) (ix2 b k)
      = V (Proc.devRef .tc main_v38_0) (ix3 b ⟨k.val / 128, by omega⟩ ⟨k.val % 128, by omega⟩) := by
  after_reads_simp
  pointwise

theorem host_inds' (V : Valuation τ sig (Elt Ideal)) (b : Fin 4) (k : Fin 1024) :
    StableHlo.after hostOps2 V (Proc.devRef .tc main_v48) (ix3 b 0 k)
      = V (Proc.devRef .tc main_v38_0) (ix3 b ⟨k.val / 128, by omega⟩ ⟨k.val % 128, by omega⟩) := by
  after_reads_simp
  pointwise

theorem host_gs (V : Valuation τ sig (Elt Ideal)) (b : Fin 4) (k : Fin 1024) :
    StableHlo.after hostOps2 V (Proc.devRef .tc main_v47) (ix2 b k)
      = V (Proc.devRef .tc main_v38_4) (ix3 b ⟨k.val / 128, by omega⟩ ⟨k.val % 128, by omega⟩) := by
  after_reads_simp
  pointwise

theorem host_xyz (V : Valuation τ sig (Elt Ideal)) (b : Fin 4) (k : Fin 1024) :
    StableHlo.after hostOps2 V (Proc.devRef .tc main_v46) (ix3 b k 0)
      = V (Proc.devRef .tc main_v38_1) (ix3 b ⟨k.val / 128, by omega⟩ ⟨k.val % 128, by omega⟩) ∧
    StableHlo.after hostOps2 V (Proc.devRef .tc main_v46) (ix3 b k 1)
      = V (Proc.devRef .tc main_v38_2) (ix3 b ⟨k.val / 128, by omega⟩ ⟨k.val % 128, by omega⟩) ∧
    StableHlo.after hostOps2 V (Proc.devRef .tc main_v46) (ix3 b k 2)
      = V (Proc.devRef .tc main_v38_3) (ix3 b ⟨k.val / 128, by omega⟩ ⟨k.val % 128, by omega⟩) := by
  refine ⟨?_, ?_, ?_⟩ <;> (after_reads_simp; pointwise; after_reads_simp; pointwise)

/-- The sampled numbers, -/
theorem inds_eq (c : Dev nD) (b : Fin 4) (k : Fin 1024) :
    W15 m ρ c (Proc.devRef .tc main_v39) (ix2 b k) = BitVec.ofNat 32 ((input (W0 m ρ c)).ind b k.val).val := by
  refine (host_inds (W14 m ρ c) b k).trans ((sampled_inds m ρ c b _ _).trans ?_)
  rw [place k]

/-- also as the gathering call takes them, -/
theorem inds_eq' (c : Dev nD) (b : Fin 4) (k : Fin 1024) :
    W15 m ρ c (Proc.devRef .tc main_v48) (ix3 b 0 k) = BitVec.ofNat 32 ((input (W0 m ρ c)).ind b k.val).val := by
  refine (host_inds' (W14 m ρ c) b k).trans ((sampled_inds m ρ c b _ _).trans ?_)
  rw [place k]

/-- the sampled graspness, -/
theorem grasp2_eq (c : Dev nD) (b : Fin 4) (k : Fin 1024) :
    W15 m ρ c (Proc.devRef .tc main_v47) (ix2 b k) = (input (W0 m ρ c)).g b ((input (W0 m ρ c)).ind b k.val) 2 := by
  refine (host_gs (W14 m ρ c) b k).trans ((sampled_gs m ρ c b _ _).trans ?_)
  rw [place k]

/-- the sampled coordinates -/
theorem xyz_eq (c : Dev nD) (b : Fin 4) (k : Fin 1024) (j : Fin 3) :
    W15 m ρ c (Proc.devRef .tc main_v46) (ix3 b k j) = (input (W0 m ρ c)).xyz b ((input (W0 m ρ c)).ind b k.val) j := by
  obtain ⟨h0, h1, h2⟩ := host_xyz (W14 m ρ c) b k
  fin_cases j
  · refine h0.trans ((sampled_xs m ρ c b _ _).trans ?_)
    rw [place k]; rfl
  · refine h1.trans ((sampled_ys m ρ c b _ _).trans ?_)
    rw [place k]; rfl
  · refine h2.trans ((sampled_zs m ρ c b _ _).trans ?_)
    rw [place k]; rfl

/-- and the sampled features. -/
theorem feat_eq (c : Dev nD) (b : Fin 4) (ch : Fin 256) (k : Fin 1024) :
    W16 m ρ c (Proc.devRef .tc main_v49) (ix3 b ch k) = (input (W0 m ρ c)).feat b ch ((input (W0 m ρ c)).ind b k.val) := by
  refine (congrFun (W16_arr m ρ c 2) (ix3 b ch k)).trans
    ((final2 (V15 m ρ) c (fun b k => (input (W0 m ρ c)).ind b k.val) (fun b k => inds_eq' m ρ c b k) b ch k).trans ?_)
  exact congrFun (W15_args m ρ c main_arg1 (by decide)) (ix3 b ch ((input (W0 m ρ c)).ind b k.val))

end Cert.Proof.Kern

end
-- ==== Proof.KHead.lean ====
/-
  The kernel's head call on one batch: the predicted direction, the most similar template direction, and the rotation.
-/
module

public import proofs.«01_k».proof.Proof.KScores
public import proofs.«01_k».proof.Proof.FpsCell

@[expose] public section

set_option maxRecDepth 16384

noncomputable section

namespace Cert.Proof.Kern

open Cert.KernelIdeal Cert.KernelIdeal.Gen
open Idealize.ShloMosaic Idealize.ShloMosaic.TcCoe Idealize.SL.Sem
open Cert.Proof.Spec

/-- The perceptron on a batch's sampled features. -/
theorem head_pay2 (x0 : Vec Ideal S1x256x1024 .f32) (x1 : Vec Ideal S256x256 .f32) (x2 x3 x4 x5 x6 : Vec Ideal S256x1 .f32)
    (x7 : Vec Ideal S3x256 .f32) (x8 : Vec Ideal S3x1 .f32) (o : Fin 3) (k : Fin 1024) :
    k3_pay2 x0 x1 x2 x5 x6 x3 x4 x7 x8 (ix2 o k) = (netOf x1 x2 x3 x4 x5 x6 x7 x8).out (fun c => x0 (ix3 0 c k)) o := by
  unfold k3_pay2
  pointwise
  simp only [Net.out, Net.norm, netOf]
  congr 1
  refine Finset.sum_congr rfl fun i _ => ?_
  rw [mul_comm, Finset.sum_congr rfl fun c _ => mul_comm (x1 (ix2 i c)) (x0 (ix3 0 c k))]

theorem pay26_apply (x0 : Vec Ideal S1x256x1024 .f32) (x1 : Vec Ideal S256x256 .f32) (x2 x3 x4 x5 x6 : Vec Ideal S256x1 .f32)
    (x7 : Vec Ideal S3x256 .f32) (x8 : Vec Ideal S3x1 .f32) (x9 : Vec Ideal S300x3 .f32) (o : Fin 3) (k : Fin 1024) :
    k3_pay26 x0 x1 x2 x3 x4 x5 x6 x7 x8 x9 (ix2 o k) = (netOf x1 x2 x3 x4 x5 x6 x7 x8).out (fun c => x0 (ix3 0 c k)) o := by
  unfold k3_pay26
  rw [View.ld_unit_zero (by decide), View.ld_unit_zero (by decide), View.ld_unit_zero (by decide), View.ld_unit_zero (by decide),
    View.ld_unit_zero (by decide), View.ld_unit_zero (by decide), View.ld_unit_zero (by decide), View.ld_unit_zero (by decide),
    View.ld_unit_zero (by decide)]
  exact head_pay2 x0 x1 x2 x3 x4 x5 x6 x7 x8 o k

theorem pay3_apply (D : FVec Ideal S3x1024 .f32) (o : Fin 3) (k : Fin 1024) : k3_pay3 D (ix3 0 o k) = D (ix2 o k) := by
  unfold k3_pay3
  pointwise

/-! ## The most similar template direction -/

/-- The similarities of the template directions with one predicted direction. -/
def sims (T : Vec Ideal S300x3 .f32) (D : FVec Ideal S3x1024 .f32) (k : Fin 1024) (t : Fin 300) : EReal :=
  cosine (fun j => T (ix2 t j)) (fun j => D (ix2 j k))

theorem pay7_apply (T : Vec Ideal S300x3 .f32) (D : FVec Ideal S3x1024 .f32) (t : Fin 300) (k : Fin 1024) :
    k3_pay7 D (View.ld T r3_6) (View.ld T r3_7) (View.ld T r3_8) (ix2 t k)
      = if sims T D k t = Finset.univ.fold max (Ideal.ofBits .f32 4286578688#32) fun t => sims T D k t then BitVec.ofNat 32 t.val
        else 1073741824#32 := by
  unfold k3_pay7 k3_pay4 k3_pay5 k3_pay6
  dsimp only
  pointwise
  rfl

theorem pay8_apply (v : IVec S300x1024 32) (k : Fin 1024) :
    k3_pay8 v (ix3 0 0 k) = Finset.univ.fold IntOp.minsi 2147483647#32 fun t => v (ix2 t k) := by
  unfold k3_pay8
  dsimp only
  pointwise

/-- The least of the numbers at which a family is greatest is the first of them. -/
theorem first_word (f : Fin 300 → EReal) (g : Fin 300 → BitVec 32)
    (hg : ∀ t, g t = if f t = Finset.univ.fold max (Ideal.ofBits .f32 4286578688#32) f then BitVec.ofNat 32 t.val else 1073741824#32) :
    Finset.univ.fold IntOp.minsi 2147483647#32 g = BitVec.ofNat 32 (firstMax f).val := by
  have bot := Fps.ofBits_bot
  have hi := firstMax_spec f
  have top : Finset.univ.fold max (Ideal.ofBits .f32 4286578688#32) f = f (firstMax f) :=
    le_antisymm ((Finset.fold_max_le _).mpr ⟨by rw [bot]; exact bot_le, fun t _ => hi.1 t⟩)
      ((Finset.le_fold_max _).mpr (Or.inr ⟨_, Finset.mem_univ _, le_rfl⟩))
  have toI : ∀ t : Fin 300, (BitVec.ofNat 32 t.val).toInt = t.val := fun t => by
    rw [BitVec.toInt_eq_toNat_of_lt (by rw [BitVec.toNat_ofNat]; omega), BitVec.toNat_ofNat]; omega
  refine BitVec.eq_of_toInt_eq (eq_of_forall_le_iff fun a => ?_)
  rw [← Finset.fold_hom (op := IntOp.minsi) (op' := min) (m := BitVec.toInt) (fun x y => SortNet.toInt_minsi x y), Finset.le_fold_min, toI]
  have e1 : (2147483647#32 : BitVec 32).toInt = 2147483647 := by decide
  have e2 : (1073741824#32 : BitVec 32).toInt = 1073741824 := by decide
  rw [e1]
  constructor
  · rintro ⟨-, h⟩
    have := h (firstMax f) (Finset.mem_univ _)
    rwa [hg, top, if_pos rfl, toI] at this
  · intro h
    refine ⟨by omega, fun t _ => ?_⟩
    rw [hg, top]
    by_cases ht : f t = f (firstMax f)
    · rw [if_pos ht, toI]
      have : ¬ t < firstMax f := fun hlt => absurd ht (ne_of_lt (hi.2 t hlt))
      have : (firstMax f).val ≤ t.val := by rw [Fin.lt_def] at this; omega
      omega
    · rw [if_neg ht, e2]
      omega

/-- The view the call stores is the first most similar template direction. -/
theorem view_apply (T : Vec Ideal S300x3 .f32) (D : FVec Ideal S3x1024 .f32) (k : Fin 1024) :
    k3_pay8 (k3_pay7 D (View.ld T r3_6) (View.ld T r3_7) (View.ld T r3_8)) (ix3 0 0 k)
      = BitVec.ofNat 32 (firstMax (sims T D k)).val :=
  (pay8_apply _ k).trans (first_word (sims T D k) _ fun t => pay7_apply T D t k)

/-! ## The rotation -/

theorem pay1_apply (x0 x1 x2 y0 y1 y2 : FVec Ideal S1x1024 .f32) (r j : Fin 3) (k : Fin 1024) :
    k3_pay1 x0 x1 x2 y0 y1 y2 (ix3 0 ⟨3 * r.val + j.val, by omega⟩ k)
      = (![![x0 (ix2 0 k), y0 (ix2 0 k), x1 (ix2 0 k) * y2 (ix2 0 k) - x2 (ix2 0 k) * y1 (ix2 0 k)],
          ![x1 (ix2 0 k), y1 (ix2 0 k), x2 (ix2 0 k) * y0 (ix2 0 k) - x0 (ix2 0 k) * y2 (ix2 0 k)],
          ![x2 (ix2 0 k), y2 (ix2 0 k), x0 (ix2 0 k) * y1 (ix2 0 k) - x1 (ix2 0 k) * y0 (ix2 0 k)]] : Fin 3 → Fin 3 → EReal) r j := by
  unfold k3_pay1
  fin_cases r <;> fin_cases j
  all_goals (pointwise; try rfl)

section Axes

variable (a b c : FVec Ideal S1x1024 .f32) (k : Fin 1024)

theorem pay9_apply : (k3_pay9 a (ix2 0 k) : EReal) = -(a (ix2 0 k) : EReal) := by
  unfold k3_pay9
  pointwise
  exact (sub_eq_add_neg _ _).trans (zero_add _)

theorem pay10_apply : (k3_pay10 a (ix2 0 k) : EReal) = -(a (ix2 0 k) : EReal) := pay9_apply a k

theorem pay11_apply : (k3_pay11 a (ix2 0 k) : EReal) = -(a (ix2 0 k) : EReal) := pay9_apply a k

theorem pay12_apply : (k3_pay12 b (ix2 0 k) : EReal) = -(-(b (ix2 0 k) : EReal)) :=
  (pay9_apply (k3_pay10 b) k).trans (congrArg Neg.neg (pay10_apply b k))

theorem pay13_apply : (k3_pay13 (F := Ideal) (ix2 0 k) : EReal) = 0 := by
  unfold k3_pay13
  pointwise

/-- The three components of a predicted direction. -/
abbrev comps : Fin 3 → EReal := ![a (ix2 0 k), b (ix2 0 k), c (ix2 0 k)]

theorem pay18_apply : (k3_pay18 a b c (ix2 0 k) : EReal) = norm3 (-(comps a b c k 0)) (-(comps a b c k 1)) (-(comps a b c k 2)) := by
  unfold k3_pay18
  show Ideal.sqrt (((k3_pay9 a (ix2 0 k) : EReal) * k3_pay9 a (ix2 0 k) + (k3_pay10 b (ix2 0 k) : EReal) * k3_pay10 b (ix2 0 k))
    + (k3_pay11 c (ix2 0 k) : EReal) * k3_pay11 c (ix2 0 k)) = _
  rw [pay9_apply, pay10_apply, pay11_apply]
  rfl

theorem pay19_apply : (k3_pay19 a b c (ix2 0 k) : EReal) = axisX (comps a b c k) 0 := by
  show Ideal.div (k3_pay9 a (ix2 0 k)) (k3_pay18 a b c (ix2 0 k)) = _
  rw [pay9_apply, pay18_apply]; rfl

theorem pay20_apply : (k3_pay20 a b c (ix2 0 k) : EReal) = axisX (comps a b c k) 1 := by
  show Ideal.div (k3_pay10 b (ix2 0 k)) (k3_pay18 a b c (ix2 0 k)) = _
  rw [pay10_apply, pay18_apply]; rfl

theorem pay21_apply : (k3_pay21 a b c (ix2 0 k) : EReal) = axisX (comps a b c k) 2 := by
  show Ideal.div (k3_pay11 c (ix2 0 k)) (k3_pay18 a b c (ix2 0 k)) = _
  rw [pay11_apply, pay18_apply]; rfl

open Classical in
/-- Whether the second axis vanishes before normalisation. -/
theorem pay14_apply : k3_pay14 a b (ix2 0 k)
    = if norm3 (-(-(comps a b c k 1))) (-(comps a b c k 0)) 0 = 0 then 1#1 else 0#1 := by
  show Ideal.cmp .oeq (Ideal.sqrt (((k3_pay12 b (ix2 0 k) : EReal) * k3_pay12 b (ix2 0 k) + (k3_pay9 a (ix2 0 k) : EReal) * k3_pay9 a (ix2 0 k))
    + (k3_pay13 (F := Ideal) (ix2 0 k) : EReal) * k3_pay13 (F := Ideal) (ix2 0 k))) (k3_pay13 (F := Ideal) (ix2 0 k)) = _
  rw [pay9_apply, pay12_apply, pay13_apply]
  show BitVec.ofBool (decide (norm3 (-(-(comps a b c k 1))) (-(comps a b c k 0)) 0 = 0)) = _
  by_cases h : norm3 (-(-(comps a b c k 1))) (-(comps a b c k 0)) 0 = 0
  · rw [if_pos h, decide_eq_true h]; rfl
  · rw [if_neg h, decide_eq_false h]; rfl

theorem one_bits : Ideal.ofBits .f32 1065353216#32 = 1 := by
  pointwise

theorem pay15_apply : (k3_pay15 a b (ix2 0 k) : EReal) = axisY₀ (comps a b c k) 0 := by
  show Scalar.select (k3_pay14 a b (ix2 0 k)) (k3_pay13 (F := Ideal) (ix2 0 k) : EReal) (k3_pay12 b (ix2 0 k)) = _
  rw [pay14_apply a b c k, pay13_apply, pay12_apply, axisY₀]
  split <;> rfl

theorem pay16_apply : (k3_pay16 a b (ix2 0 k) : EReal) = axisY₀ (comps a b c k) 1 := by
  show Scalar.select (k3_pay14 a b (ix2 0 k)) (Ideal.ofBits .f32 1065353216#32) (k3_pay9 a (ix2 0 k)) = _
  rw [pay14_apply a b c k, one_bits, pay9_apply, axisY₀]
  split <;> rfl

theorem pay17_apply : (k3_pay17 a b (ix2 0 k) : EReal) = axisY₀ (comps a b c k) 2 := by
  show Scalar.select (k3_pay14 a b (ix2 0 k)) (k3_pay13 (F := Ideal) (ix2 0 k) : EReal) (k3_pay13 (F := Ideal) (ix2 0 k)) = _
  rw [pay14_apply a b c k, pay13_apply, axisY₀]
  split <;> rfl

theorem pay22_apply : (k3_pay22 a b (ix2 0 k) : EReal)
    = norm3 (axisY₀ (comps a b c k) 0) (axisY₀ (comps a b c k) 1) (axisY₀ (comps a b c k) 2) := by
  show Ideal.sqrt (((k3_pay15 a b (ix2 0 k) : EReal) * k3_pay15 a b (ix2 0 k) + (k3_pay16 a b (ix2 0 k) : EReal) * k3_pay16 a b (ix2 0 k))
    + (k3_pay17 a b (ix2 0 k) : EReal) * k3_pay17 a b (ix2 0 k)) = _
  rw [pay15_apply a b c k, pay16_apply a b c k, pay17_apply a b c k]
  rfl

theorem pay23_apply : (k3_pay23 a b (ix2 0 k) : EReal) = axisY (comps a b c k) 0 := by
  show Ideal.div (k3_pay15 a b (ix2 0 k)) (k3_pay22 a b (ix2 0 k)) = _
  rw [pay15_apply a b c k, pay22_apply a b c k]; rfl

theorem pay24_apply : (k3_pay24 a b (ix2 0 k) : EReal) = axisY (comps a b c k) 1 := by
  show Ideal.div (k3_pay16 a b (ix2 0 k)) (k3_pay22 a b (ix2 0 k)) = _
  rw [pay16_apply a b c k, pay22_apply a b c k]; rfl

theorem pay25_apply : (k3_pay25 a b (ix2 0 k) : EReal) = axisY (comps a b c k) 2 := by
  show Ideal.div (k3_pay17 a b (ix2 0 k)) (k3_pay22 a b (ix2 0 k)) = _
  rw [pay17_apply a b c k, pay22_apply a b c k]; rfl

/-- The nine rows the call stores are the rotation's entries. -/
theorem rows_apply (r j : Fin 3) :
    k3_pay1 (k3_pay19 a b c) (k3_pay20 a b c) (k3_pay21 a b c) (k3_pay23 a b) (k3_pay24 a b) (k3_pay25 a b)
      (ix3 0 ⟨3 * r.val + j.val, by omega⟩ k) = rot (comps a b c k) r j := by
  rw [pay1_apply, pay19_apply, pay20_apply, pay21_apply, pay23_apply a b c k, pay24_apply a b c k, pay25_apply a b c k]
  fin_cases r <;> fin_cases j <;> rfl

end Axes

end Cert.Proof.Kern

end
-- ==== Proof.KHeadRun.lean ====
/-
  The kernel's head call: the arrays it leaves.
-/
module

public import proofs.«01_k».proof.Proof.KGather
public import proofs.«01_k».proof.Proof.KHead

@[expose] public section

set_option maxRecDepth 16384

noncomputable section

namespace Cert.Proof.Kern

open Cert.KernelIdeal Cert.KernelIdeal.Gen
open Idealize.ShloMosaic Idealize.ShloMosaic.TcCoe Idealize.SL.Sem
open Idealize.ShloMosaic.Pipeline (Dat)
open Cert.Proof.Spec

/-! ## One batch -/

section Batch

variable (x0 : Vec Ideal S1x256x1024 .f32) (x1 : Vec Ideal S256x256 .f32) (x2 x3 x4 x5 x6 : Vec Ideal S256x1 .f32)
    (x7 : Vec Ideal S3x256 .f32) (x8 : Vec Ideal S3x1 .f32) (x9 : Vec Ideal S300x3 .f32) (k : Fin 1024)

/-- The direction at sampled point `k`. -/
abbrev dirOf (j : Fin 3) : EReal := (netOf x1 x2 x3 x4 x5 x6 x7 x8).out (fun c => x0 (ix3 0 c k)) j

theorem out3_10_apply (o : Fin 3) : out3_10 x0 x1 x2 x3 x4 x5 x6 x7 x8 x9 (ix3 0 o k) = dirOf x0 x1 x2 x3 x4 x5 x6 x7 x8 k o := by
  rw [out3_10, View.canon_unit_zero (by decide)]
  exact (pay3_apply _ o k).trans (pay26_apply x0 x1 x2 x3 x4 x5 x6 x7 x8 x9 o k)

theorem out3_11_apply : out3_11 x0 x1 x2 x3 x4 x5 x6 x7 x8 x9 (ix3 0 0 k)
    = BitVec.ofNat 32 (firstMax fun t => cosine (fun j => x9 (ix2 t j)) (dirOf x0 x1 x2 x3 x4 x5 x6 x7 x8 k)).val := by
  rw [out3_11, View.canon_unit_zero (by decide)]
  refine (view_apply x9 _ k).trans ?_
  have e : sims x9 (k3_pay26 x0 x1 x2 x3 x4 x5 x6 x7 x8 x9) k
      = fun t => cosine (fun j => x9 (ix2 t j)) (dirOf x0 x1 x2 x3 x4 x5 x6 x7 x8 k) := funext fun t =>
    congrArg (cosine fun j => x9 (ix2 t j)) (funext fun j => pay26_apply x0 x1 x2 x3 x4 x5 x6 x7 x8 x9 j k)
  rw [e]

theorem pay4_row (D : FVec Ideal S3x1024 .f32) : k3_pay4 D (ix2 0 k) = D (ix2 0 k) := by
  unfold k3_pay4
  pointwise

theorem pay5_row (D : FVec Ideal S3x1024 .f32) : k3_pay5 D (ix2 0 k) = D (ix2 1 k) := by
  unfold k3_pay5
  pointwise

theorem pay6_row (D : FVec Ideal S3x1024 .f32) : k3_pay6 D (ix2 0 k) = D (ix2 2 k) := by
  unfold k3_pay6
  pointwise

/-- The rows of a matrix of predicted directions. -/
theorem rows_of (D : FVec Ideal S3x1024 .f32) : comps (k3_pay4 D) (k3_pay5 D) (k3_pay6 D) k = fun j => D (ix2 j k) := by
  funext j
  fin_cases j
  · exact pay4_row k D
  · exact pay5_row k D
  · exact pay6_row k D

theorem out3_12_apply (r j : Fin 3) : out3_12 x0 x1 x2 x3 x4 x5 x6 x7 x8 x9 (ix3 0 ⟨3 * r.val + j.val, by omega⟩ k)
    = rot (dirOf x0 x1 x2 x3 x4 x5 x6 x7 x8 k) r j := by
  rw [out3_12, View.canon_unit_zero (by decide)]
  refine (rows_apply _ _ _ k r j).trans ?_
  unfold k3_pay27 k3_pay28 k3_pay29
  rw [rows_of]
  exact congrArg (fun D => rot D r j) (funext fun j => pay26_apply x0 x1 x2 x3 x4 x5 x6 x7 x8 x9 j k)

end Batch

/-! ## The call's arrays -/

section Arrays

variable (V : (c : Dev nD) → (b : Ref sig .tc) → Buf (Elt Ideal) ((c.tc : Thread nD τ).loc b))

/-- A grid point's number is its batch. -/
theorem point3 (t : Fin cfg3.N) : t.val < 4 ∧ win3_0.index t 0 = t.val ∧ win3_10.index t 0 = t.val ∧ win3_11.index t 0 = t.val
    ∧ win3_12.index t 0 = t.val := by
  rcases fin_N3 t with rfl | rfl | rfl | rfl <;> decide +kernel

theorem iblk3_0_apply (c : Dev nD) (t : Fin cfg3.N) (b : Fin 4) (ht : t.val = b.val) (ch : Fin 256) (k : Fin 1024) :
    iblk3 V c 0 t (ix3 0 ch k) = V c main_v49 (ix3 b ch k) := by
  show V c main_v49 ((win3_0.rect t).emb (ix3 0 ch k)) = _
  refine congrArg (V c main_v49) (funext fun a => Fin.ext ?_)
  fin_cases a
  · show win3_0.index t 0 * 1 + 1 * 0 = b.val
    rw [(point3 t).2.1]
    omega
  · show 0 * 256 + 1 * ch.val = ch.val
    omega
  · show 0 * 1024 + 1 * k.val = k.val
    omega

/-- The block of a window that takes an array whole starts at 0. -/
theorem index3 (t : Fin cfg3.N) : (∀ a, win3_1.index t a = 0) ∧ (∀ a, win3_2.index t a = 0) ∧ (∀ a, win3_3.index t a = 0) ∧ (∀ a, win3_4.index t a = 0) ∧ (∀ a, win3_5.index t a = 0) ∧ (∀ a, win3_6.index t a = 0) ∧ (∀ a, win3_7.index t a = 0) ∧ (∀ a, win3_8.index t a = 0) ∧ (∀ a, win3_9.index t a = 0) := by
  refine ⟨?_, ?_, ?_, ?_, ?_, ?_, ?_, ?_, ?_⟩ <;> intro a <;> fin_cases a <;> rfl

theorem iblk3_1_eq (c : Dev nD) (t : Fin cfg3.N) : iblk3 V c 1 t = V c main_arg10 := by
  funext x
  show V c main_arg10 ((win3_1.rect t).emb x) = _
  refine congrArg (V c main_arg10) (funext fun a => Fin.ext ?_)
  show win3_1.index t a * win3_1.size a + 1 * (x a).val = (x a).val
  rw [(index3 t).1 a]
  omega

theorem iblk3_2_eq (c : Dev nD) (t : Fin cfg3.N) : iblk3 V c 2 t = V c main_v50 := by
  funext x
  show V c main_v50 ((win3_2.rect t).emb x) = _
  refine congrArg (V c main_v50) (funext fun a => Fin.ext ?_)
  show win3_2.index t a * win3_2.size a + 1 * (x a).val = (x a).val
  rw [(index3 t).2.1 a]
  omega

theorem iblk3_3_eq (c : Dev nD) (t : Fin cfg3.N) : iblk3 V c 3 t = V c main_v51 := by
  funext x
  show V c main_v51 ((win3_3.rect t).emb x) = _
  refine congrArg (V c main_v51) (funext fun a => Fin.ext ?_)
  show win3_3.index t a * win3_3.size a + 1 * (x a).val = (x a).val
  rw [(index3 t).2.2.1 a]
  omega

theorem iblk3_4_eq (c : Dev nD) (t : Fin cfg3.N) : iblk3 V c 4 t = V c main_v52 := by
  funext x
  show V c main_v52 ((win3_4.rect t).emb x) = _
  refine congrArg (V c main_v52) (funext fun a => Fin.ext ?_)
  show win3_4.index t a * win3_4.size a + 1 * (x a).val = (x a).val
  rw [(index3 t).2.2.2.1 a]
  omega

theorem iblk3_5_eq (c : Dev nD) (t : Fin cfg3.N) : iblk3 V c 5 t = V c main_v53 := by
  funext x
  show V c main_v53 ((win3_5.rect t).emb x) = _
  refine congrArg (V c main_v53) (funext fun a => Fin.ext ?_)
  show win3_5.index t a * win3_5.size a + 1 * (x a).val = (x a).val
  rw [(index3 t).2.2.2.2.1 a]
  omega

theorem iblk3_6_eq (c : Dev nD) (t : Fin cfg3.N) : iblk3 V c 6 t = V c main_v54 := by
  funext x
  show V c main_v54 ((win3_6.rect t).emb x) = _
  refine congrArg (V c main_v54) (funext fun a => Fin.ext ?_)
  show win3_6.index t a * win3_6.size a + 1 * (x a).val = (x a).val
  rw [(index3 t).2.2.2.2.2.1 a]
  omega

theorem iblk3_7_eq (c : Dev nD) (t : Fin cfg3.N) : iblk3 V c 7 t = V c main_arg16 := by
  funext x
  show V c main_arg16 ((win3_7.rect t).emb x) = _
  refine congrArg (V c main_arg16) (funext fun a => Fin.ext ?_)
  show win3_7.index t a * win3_7.size a + 1 * (x a).val = (x a).val
  rw [(index3 t).2.2.2.2.2.2.1 a]
  omega

theorem iblk3_8_eq (c : Dev nD) (t : Fin cfg3.N) : iblk3 V c 8 t = V c main_v55 := by
  funext x
  show V c main_v55 ((win3_8.rect t).emb x) = _
  refine congrArg (V c main_v55) (funext fun a => Fin.ext ?_)
  show win3_8.index t a * win3_8.size a + 1 * (x a).val = (x a).val
  rw [(index3 t).2.2.2.2.2.2.2.1 a]
  omega

theorem iblk3_9_eq (c : Dev nD) (t : Fin cfg3.N) : iblk3 V c 9 t = V c main_cst := by
  funext x
  show V c main_cst ((win3_9.rect t).emb x) = _
  refine congrArg (V c main_cst) (funext fun a => Fin.ext ?_)
  show win3_9.index t a * win3_9.size a + 1 * (x a).val = (x a).val
  rw [(index3 t).2.2.2.2.2.2.2.2 a]
  omega

/-- The perceptron of the whole parameter arrays. -/
abbrev headAt (c : Dev nD) : Net :=
  netOf (V c main_arg10) (V c main_v50) (V c main_v51) (V c main_v52) (V c main_v53) (V c main_v54) (V c main_arg16) (V c main_v55)

/-- The predicted direction from the arrays. -/
abbrev dirAt (c : Dev nD) (b : Fin 4) (k : Fin 1024) (j : Fin 3) : EReal := (headAt V c).out (fun ch => V c main_v49 (ix3 b ch k)) j

/-- The most similar template direction from the arrays. -/
def viewAt (c : Dev nD) (b : Fin 4) (k : Fin 1024) : Fin 300 :=
  firstMax fun t => cosine (fun j => V c main_cst (ix2 t j)) (dirAt V c b k)

theorem mem_blk3_10 (t : Fin cfg3.N) (i : S4x3x1024.Idx) (h : (i 0).val = t.val) : i ∈ ((cfg3.win 10).blk t).view.set := by
  show i ∈ ((View.whole main_v56_0).slice (win3_10.rect t)).set
  rw [View.set_slice_whole, Rect.mem_set_unit]
  intro a
  fin_cases a
  · show win3_10.index _ 0 * 1 ≤ (i 0).val ∧ (i 0).val < win3_10.index _ 0 * 1 + 1
    rw [(point3 _).2.2.1]
    dsimp only
    omega
  · show 0 * 3 ≤ (i 1).val ∧ (i 1).val < 0 * 3 + 3
    have : (i 1).val < 3 := (i 1).isLt
    omega
  · show 0 * 1024 ≤ (i 2).val ∧ (i 2).val < 0 * 1024 + 1024
    have : (i 2).val < 1024 := (i 2).isLt
    omega

theorem mem_blk3_11 (t : Fin cfg3.N) (i : S4x1x1024.Idx) (h : (i 0).val = t.val) : i ∈ ((cfg3.win 11).blk t).view.set := by
  show i ∈ ((View.whole main_v56_1).slice (win3_11.rect t)).set
  rw [View.set_slice_whole, Rect.mem_set_unit]
  intro a
  fin_cases a
  · show win3_11.index _ 0 * 1 ≤ (i 0).val ∧ (i 0).val < win3_11.index _ 0 * 1 + 1
    rw [(point3 _).2.2.2.1]
    dsimp only
    omega
  · show 0 * 1 ≤ (i 1).val ∧ (i 1).val < 0 * 1 + 1
    have : (i 1).val < 1 := (i 1).isLt
    omega
  · show 0 * 1024 ≤ (i 2).val ∧ (i 2).val < 0 * 1024 + 1024
    have : (i 2).val < 1024 := (i 2).isLt
    omega

theorem mem_blk3_12 (t : Fin cfg3.N) (i : S4x9x1024.Idx) (h : (i 0).val = t.val) : i ∈ ((cfg3.win 12).blk t).view.set := by
  show i ∈ ((View.whole main_v56_2).slice (win3_12.rect t)).set
  rw [View.set_slice_whole, Rect.mem_set_unit]
  intro a
  fin_cases a
  · show win3_12.index _ 0 * 1 ≤ (i 0).val ∧ (i 0).val < win3_12.index _ 0 * 1 + 1
    rw [(point3 _).2.2.2.2]
    dsimp only
    omega
  · show 0 * 9 ≤ (i 1).val ∧ (i 1).val < 0 * 9 + 9
    have : (i 1).val < 9 := (i 1).isLt
    omega
  · show 0 * 1024 ≤ (i 2).val ∧ (i 2).val < 0 * 1024 + 1024
    have : (i 2).val < 1024 := (i 2).isLt
    omega

/-- The predicted directions the call leaves. -/
theorem final3_10 (c : Dev nD) (b : Fin 4) (y : Fin 3) (k : Fin 1024) :
    (dat3 V c).arrAt 10 cfg3.N (ix3 b y k) = dirAt V c b k y := by
  refine (congrFun ((dat3 V c).arrAt_eq_of_cover 10
    (fun i : S4x3x1024.Idx => dirAt V c (i 0) (i 2) (i 1))
    (fun t _ => ?_) (fun i => ?_)) (ix3 b y k)).trans rfl
  · show (cfg3.win 10).cut (grid3.coords t) ((dat3 V c).after 10 t) = _
    rw [after3_10, iblk3_1_eq, iblk3_2_eq, iblk3_3_eq, iblk3_4_eq, iblk3_5_eq, iblk3_6_eq, iblk3_7_eq, iblk3_8_eq, iblk3_9_eq]
    funext x
    obtain ⟨z, y, k, rfl⟩ : ∃ (z : Fin 1) (y : Fin 3) (k : Fin 1024), x = ix3 z y k := ⟨_, _, _, eq_ix3 x⟩
    obtain rfl : z = 0 := Subsingleton.elim _ _
    refine (out3_10_apply _ _ _ _ _ _ _ _ _ _ k y).trans ?_
    unfold dirOf
    simp only [iblk3_0_apply V c t ⟨t.val, (point3 t).1⟩ rfl]
    have e0 : (win3_10.rect t).emb (ix3 0 y k) 0 = (⟨t.val, (point3 t).1⟩ : Fin 4) := Fin.ext (by
      show win3_10.index t 0 * 1 + 1 * 0 = t.val
      rw [(point3 t).2.2.1]; omega)
    have e1 : (win3_10.rect t).emb (ix3 0 y k) 1 = y := Fin.ext (by show 0 * 3 + 1 * y.val = y.val; omega)
    have e2 : (win3_10.rect t).emb (ix3 0 y k) 2 = k := Fin.ext (by show 0 * 1024 + 1 * k.val = k.val; omega)
    show _ = dirAt V c ((win3_10.rect t).emb (ix3 0 y k) 0) ((win3_10.rect t).emb (ix3 0 y k) 2) ((win3_10.rect t).emb (ix3 0 y k) 1)
    rw [e0, e1, e2]
  · have hN : cfg3.N = 4 := N_3
    have hb : (i 0).val < 4 := (i 0).isLt
    exact ⟨⟨(i 0).val, by omega⟩, flush3_10 _, mem_blk3_10 _ i rfl⟩

/-- The views it leaves. -/
theorem final3_11 (c : Dev nD) (b : Fin 4) (y : Fin 1) (k : Fin 1024) :
    (dat3 V c).arrAt 11 cfg3.N (ix3 b y k) = BitVec.ofNat 32 (viewAt V c b k).val := by
  refine (congrFun ((dat3 V c).arrAt_eq_of_cover 11
    (fun i : S4x1x1024.Idx => BitVec.ofNat 32 (viewAt V c (i 0) (i 2)).val)
    (fun t _ => ?_) (fun i => ?_)) (ix3 b y k)).trans rfl
  · show (cfg3.win 11).cut (grid3.coords t) ((dat3 V c).after 11 t) = _
    rw [after3_11, iblk3_1_eq, iblk3_2_eq, iblk3_3_eq, iblk3_4_eq, iblk3_5_eq, iblk3_6_eq, iblk3_7_eq, iblk3_8_eq, iblk3_9_eq]
    funext x
    obtain ⟨z, y, k, rfl⟩ : ∃ (z : Fin 1) (y : Fin 1) (k : Fin 1024), x = ix3 z y k := ⟨_, _, _, eq_ix3 x⟩
    obtain rfl : z = 0 := Subsingleton.elim _ _
    obtain rfl : y = 0 := Subsingleton.elim _ _
    refine (out3_11_apply _ _ _ _ _ _ _ _ _ _ k).trans ?_
    unfold dirOf
    simp only [iblk3_0_apply V c t ⟨t.val, (point3 t).1⟩ rfl]
    have e0 : (win3_11.rect t).emb (ix3 0 0 k) 0 = (⟨t.val, (point3 t).1⟩ : Fin 4) := Fin.ext (by
      show win3_11.index t 0 * 1 + 1 * 0 = t.val
      rw [(point3 t).2.2.2.1]; omega)
    have e2 : (win3_11.rect t).emb (ix3 0 0 k) 2 = k := Fin.ext (by show 0 * 1024 + 1 * k.val = k.val; omega)
    show _ = BitVec.ofNat 32 (viewAt V c ((win3_11.rect t).emb (ix3 0 0 k) 0) ((win3_11.rect t).emb (ix3 0 0 k) 2)).val
    rw [e0, e2]
    rfl
  · have hN : cfg3.N = 4 := N_3
    have hb : (i 0).val < 4 := (i 0).isLt
    exact ⟨⟨(i 0).val, by omega⟩, flush3_11 _, mem_blk3_11 _ i rfl⟩

/-- A row of the rotation's nine. -/
theorem nine (y : Fin 9) : ∃ (r j : Fin 3), y = ⟨3 * r.val + j.val, by omega⟩ :=
  ⟨⟨y.val / 3, by omega⟩, ⟨y.val % 3, by omega⟩, Fin.ext (by dsimp only; omega)⟩

/-- Row `y` of the nine as an entry of the rotation. -/
def rotRow (v : Fin 3 → EReal) (y : Fin 9) : EReal := rot v ⟨y.val / 3, by omega⟩ ⟨y.val % 3, by omega⟩

theorem rotRow_eq (v : Fin 3 → EReal) (r j : Fin 3) : rotRow v ⟨3 * r.val + j.val, by omega⟩ = rot v r j := by
  unfold rotRow
  rw [show (⟨(3 * r.val + j.val) / 3, by omega⟩ : Fin 3) = r from Fin.ext (by dsimp only; omega),
    show (⟨(3 * r.val + j.val) % 3, by omega⟩ : Fin 3) = j from Fin.ext (by dsimp only; omega)]

theorem out3_12_row (x0 : Vec Ideal S1x256x1024 .f32) (x1 : Vec Ideal S256x256 .f32) (x2 x3 x4 x5 x6 : Vec Ideal S256x1 .f32)
    (x7 : Vec Ideal S3x256 .f32) (x8 : Vec Ideal S3x1 .f32) (x9 : Vec Ideal S300x3 .f32) (k : Fin 1024) (y : Fin 9) :
    out3_12 x0 x1 x2 x3 x4 x5 x6 x7 x8 x9 (ix3 0 y k) = rotRow (dirOf x0 x1 x2 x3 x4 x5 x6 x7 x8 k) y := by
  obtain ⟨r, j, rfl⟩ := nine y
  exact (out3_12_apply x0 x1 x2 x3 x4 x5 x6 x7 x8 x9 k r j).trans (rotRow_eq _ r j).symm

/-- The rotations it leaves. -/
theorem final3_12 (c : Dev nD) (b : Fin 4) (y : Fin 9) (k : Fin 1024) :
    (dat3 V c).arrAt 12 cfg3.N (ix3 b y k) = rotRow (dirAt V c b k) y := by
  refine (congrFun ((dat3 V c).arrAt_eq_of_cover 12
    (fun i : S4x9x1024.Idx => rotRow (dirAt V c (i 0) (i 2)) (i 1))
    (fun t _ => ?_) (fun i => ?_)) (ix3 b y k)).trans rfl
  · show (cfg3.win 12).cut (grid3.coords t) ((dat3 V c).after 12 t) = _
    rw [after3_12, iblk3_1_eq, iblk3_2_eq, iblk3_3_eq, iblk3_4_eq, iblk3_5_eq, iblk3_6_eq, iblk3_7_eq, iblk3_8_eq, iblk3_9_eq]
    funext x
    obtain ⟨z, y, k, rfl⟩ : ∃ (z : Fin 1) (y : Fin 9) (k : Fin 1024), x = ix3 z y k := ⟨_, _, _, eq_ix3 x⟩
    obtain rfl : z = 0 := Subsingleton.elim _ _
    refine (out3_12_row _ _ _ _ _ _ _ _ _ _ k y).trans ?_
    unfold dirOf
    simp only [iblk3_0_apply V c t ⟨t.val, (point3 t).1⟩ rfl]
    have e0 : (win3_12.rect t).emb (ix3 0 y k) 0 = (⟨t.val, (point3 t).1⟩ : Fin 4) := Fin.ext (by
      show win3_12.index t 0 * 1 + 1 * 0 = t.val
      rw [(point3 t).2.2.2.2]; omega)
    have e1 : (win3_12.rect t).emb (ix3 0 y k) 1 = y := Fin.ext (by show 0 * 9 + 1 * y.val = y.val; omega)
    have e2 : (win3_12.rect t).emb (ix3 0 y k) 2 = k := Fin.ext (by show 0 * 1024 + 1 * k.val = k.val; omega)
    show _ = rotRow (dirAt V c ((win3_12.rect t).emb (ix3 0 y k) 0) ((win3_12.rect t).emb (ix3 0 y k) 2)) ((win3_12.rect t).emb (ix3 0 y k) 1)
    rw [e0, e1, e2]
  · have hN : cfg3.N = 4 := N_3
    have hb : (i 0).val < 4 := (i 0).isLt
    exact ⟨⟨(i 0).val, by omega⟩, flush3_12 _, mem_blk3_12 _ i rfl⟩

end Arrays

end Cert.Proof.Kern

end
-- ==== Proof.KResults.lean ====
/-
  The kernel's nine results, as the specification's functions of its arguments.
-/
module

public import proofs.«01_k».proof.Proof.KHeadRun

@[expose] public section

set_option maxRecDepth 16384

noncomputable section

namespace Cert.Proof.Kern

open Cert.KernelIdeal Cert.KernelIdeal.Gen
open Idealize.ShloMosaic Idealize.ShloMosaic.TcCoe Idealize.SL.Sem
open Cert.Proof.Spec

/-- The template directions the kernel reads. -/
def tmpl (t : Fin 300) (j : Fin 3) : EReal := Ideal.ofBits .f32 (lit0 (S300x3.rowMajor (ix2 t j)))

/-- The nine results. -/
structure Results (I : Input) (W : Valuation τ sig (Elt Ideal)) : Prop where
  object : ∀ b k n, W (Proc.devRef .tc main_v7) (ix3 b k n) = I.g b n (Fin.castLE (by decide) k)
  grasp : ∀ b n, W (Proc.devRef .tc main_v9) (ix2 b n) = I.g b n 2
  xyz : ∀ b (k : Fin 1024) j, W (Proc.devRef .tc main_v46) (ix3 b k j) = I.xyz b (I.ind b k) j
  inds : ∀ b (k : Fin 1024), W (Proc.devRef .tc main_v39) (ix2 b k) = BitVec.ofNat 32 (I.ind b k).val
  feat : ∀ b c (k : Fin 1024), W (Proc.devRef .tc main_v49) (ix3 b c k) = I.feat b c (I.ind b k)
  grasp2 : ∀ b (k : Fin 1024), W (Proc.devRef .tc main_v47) (ix2 b k) = I.g b (I.ind b k) 2
  dir : ∀ b (k : Fin 1024) j, W (Proc.devRef .tc main_v57) (ix3 b k j) = I.dir b k j
  view : ∀ b (k : Fin 1024), W (Proc.devRef .tc main_v58) (ix2 b k) = BitVec.ofNat 32 (I.view tmpl b k).val
  rot : ∀ b (k : Fin 1024) r j, W (Proc.devRef .tc main_v60) (ix4 b k r j) = rot (I.dir b k) r j

/-- The specification's input depends on the arguments alone. -/
theorem input_congr (V W : Valuation τ sig (Elt Ideal)) (h : ∀ a ∈ argRefs, W (Proc.devRef .tc a) = V (Proc.devRef .tc a)) :
    input W = input V := by
  unfold input
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide)]

/-! ## The host stretches around the head call -/

theorem host_object (V : Valuation τ sig (Elt Ideal)) (b : Fin 4) (k : Fin 2) (n : Fin 20000) :
    StableHlo.after hostOps1 V (Proc.devRef .tc main_v7) (ix3 b k n) = V (Proc.devRef .tc main_v6_0) (ix3 b (Fin.castLE (by decide) k) n) := by
  after_reads_simp
  pointwise
  try rfl

theorem host_grasp (V : Valuation τ sig (Elt Ideal)) (b : Fin 4) (n : Fin 20000) :
    StableHlo.after hostOps1 V (Proc.devRef .tc main_v9) (ix2 b n) = V (Proc.devRef .tc main_v6_0) (ix3 b 2 n) := by
  after_reads_simp
  pointwise

theorem host_cst (V : Valuation τ sig (Elt Ideal)) (t : Fin 300) (j : Fin 3) :
    StableHlo.after hostOps0 V (Proc.devRef .tc main_cst) (ix2 t j) = tmpl t j := by
  after_reads_simp
  rfl

theorem host_net (V : Valuation τ sig (Elt Ideal)) :
    netOf (StableHlo.after hostOps3 V (Proc.devRef .tc main_arg10)) (StableHlo.after hostOps3 V (Proc.devRef .tc main_v50))
      (StableHlo.after hostOps3 V (Proc.devRef .tc main_v51)) (StableHlo.after hostOps3 V (Proc.devRef .tc main_v52))
      (StableHlo.after hostOps3 V (Proc.devRef .tc main_v53)) (StableHlo.after hostOps3 V (Proc.devRef .tc main_v54))
      (StableHlo.after hostOps3 V (Proc.devRef .tc main_arg16)) (StableHlo.after hostOps3 V (Proc.devRef .tc main_v55))
      = (input V).head := by
  unfold netOf input
  rw [Net.mk.injEq]
  refine ⟨?_, ?_, ?_, ?_, ?_, ?_, ?_, ?_⟩
  all_goals first | funext i k | funext i
  all_goals after_reads_simp
  all_goals pointwise

theorem host_dir (V : Valuation τ sig (Elt Ideal)) (b : Fin 4) (k : Fin 1024) (j : Fin 3) :
    StableHlo.after hostOps4 V (Proc.devRef .tc main_v57) (ix3 b k j) = V (Proc.devRef .tc main_v56_0) (ix3 b j k) := by
  after_reads_simp
  pointwise

theorem host_view (V : Valuation τ sig (Elt Ideal)) (b : Fin 4) (k : Fin 1024) :
    StableHlo.after hostOps4 V (Proc.devRef .tc main_v58) (ix2 b k) = V (Proc.devRef .tc main_v56_1) (ix3 b 0 k) := by
  after_reads_simp
  pointwise

theorem host_rot (V : Valuation τ sig (Elt Ideal)) (b : Fin 4) (k : Fin 1024) (r j : Fin 3) :
    StableHlo.after hostOps4 V (Proc.devRef .tc main_v60) (ix4 b k r j)
      = V (Proc.devRef .tc main_v56_2) (ix3 b ⟨3 * r.val + j.val, by omega⟩ k) := by
  have e : ∀ T : S4x1024x9.Idx → EReal, shapeCast S4x1024x3x3 T shapeCasts_S4x1024x9_S4x1024x3x3 (ix4 b k r j)
      = T (ix3 b k ⟨3 * r.val + j.val, by omega⟩) := fun T => by
    pointwise
    exact congrArg T (by congr 1 <;> exact Fin.ext (by dsimp only; omega))
  have e' : StableHlo.after hostOps4 V (Proc.devRef .tc main_v60)
      = shapeCast S4x1024x3x3 (StableHlo.after hostOps4 V (Proc.devRef .tc main_v59)) shapeCasts_S4x1024x9_S4x1024x3x3 := by
    after_reads_simp
    rfl
  rw [e']
  refine (e _).trans ?_
  after_reads_simp
  pointwise

/-! ## The results -/

section Run

variable (m : (ℓ : Loc nD τ sig) → Buf (Elt Ideal) ℓ) (ρ : Dev nD → PrngReg) (c : Dev nD)

theorem input_before : input (W16 m ρ c) = input (W0 m ρ c) :=
  input_congr _ _ fun a ha => W16_args m ρ c a ha

theorem head_eq : headAt (V17 m ρ) c = (input (W0 m ρ c)).head :=
  (host_net (W16 m ρ c)).trans (congrArg Input.head (input_before m ρ c))

theorem dirAt_eq (b : Fin 4) (k : Fin 1024) : dirAt (V17 m ρ) c b k = (input (W0 m ρ c)).dir b k := by
  funext j
  unfold dirAt
  rw [head_eq]
  exact congrArg (fun f => Net.out (input (W0 m ρ c)).head f j) (funext fun ch =>
    (congrFun (W17_of m ρ c main_v49 (by decide)) (ix3 b ch k)).trans (feat_eq m ρ c b ch k))

theorem viewAt_eq (b : Fin 4) (k : Fin 1024) : viewAt (V17 m ρ) c b k = (input (W0 m ρ c)).view tmpl b k := by
  unfold viewAt Input.view
  rw [dirAt_eq]
  refine congrArg (fun f : Fin 300 → EReal => firstMax f) (funext fun t => congrArg (fun f => cosine f ((input (W0 m ρ c)).dir b k)) (funext fun j => ?_))
  exact (congrFun ((W17_of m ρ c main_cst (by decide)).trans ((W16_of m ρ c main_cst (by decide)).trans ((W15_of m ρ c main_cst (by decide)).trans ((W14_of m ρ c main_cst (by decide)).trans ((W13_of m ρ c main_cst (by decide)).trans ((W12_of m ρ c main_cst (by decide)).trans ((W11_of m ρ c main_cst (by decide)).trans ((W10_of m ρ c main_cst (by decide)).trans ((W9_of m ρ c main_cst (by decide)).trans ((W8_of m ρ c main_cst (by decide)).trans ((W7_of m ρ c main_cst (by decide)).trans ((W6_of m ρ c main_cst (by decide)).trans ((W5_of m ρ c main_cst (by decide)).trans ((W4_of m ρ c main_cst (by decide)).trans ((W3_of m ρ c main_cst (by decide)).trans ((W2_of m ρ c main_cst (by decide)))))))))))))))))) (ix2 t j)).trans (host_cst (W0 m ρ c) t j)

/-- The kernel ends with the specification's results. -/
theorem results : Results (input (W0 m ρ c)) (W19 m ρ c) where
  object b k n := (congrFun ((W19_of m ρ c main_v7 (by decide)).trans ((W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans ((W4_of m ρ c main_v7 (by decide)))))))))))))))))) (ix3 b k n)).trans ((host_object (W2 m ρ c) b k n).trans (scores_eq m ρ c b _ n))
  grasp b n := (congrFun ((W19_of m ρ c main_v9 (by decide)).trans ((W18_of m ρ c main_v9 (by decide)).trans ((W17_of m ρ c main_v9 (by decide)).trans ((W16_of m ρ c main_v9 (by decide)).trans ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)))))))))))))))))) (ix2 b n)).trans ((host_grasp (W2 m ρ c) b n).trans (scores_eq m ρ c b 2 n))
  xyz b k j := (congrFun ((W19_of m ρ c main_v46 (by decide)).trans ((W18_of m ρ c main_v46 (by decide)).trans ((W17_of m ρ c main_v46 (by decide)).trans ((W16_of m ρ c main_v46 (by decide)))))) (ix3 b k j)).trans (xyz_eq m ρ c b k j)
  inds b k := (congrFun ((W19_of m ρ c main_v39 (by decide)).trans ((W18_of m ρ c main_v39 (by decide)).trans ((W17_of m ρ c main_v39 (by decide)).trans ((W16_of m ρ c main_v39 (by decide)))))) (ix2 b k)).trans (inds_eq m ρ c b k)
  feat b ch k := (congrFun ((W19_of m ρ c main_v49 (by decide)).trans ((W18_of m ρ c main_v49 (by decide)).trans ((W17_of m ρ c main_v49 (by decide))))) (ix3 b ch k)).trans (feat_eq m ρ c b ch k)
  grasp2 b k := (congrFun ((W19_of m ρ c main_v47 (by decide)).trans ((W18_of m ρ c main_v47 (by decide)).trans ((W17_of m ρ c main_v47 (by decide)).trans ((W16_of m ρ c main_v47 (by decide)))))) (ix2 b k)).trans (grasp2_eq m ρ c b k)
  dir b k j := (host_dir (W18 m ρ c) b k j).trans ((congrFun (W18_arr m ρ c 10) (ix3 b j k)).trans
    ((final3_10 (V17 m ρ) c b j k).trans (congrFun (dirAt_eq m ρ c b k) j)))
  view b k := (host_view (W18 m ρ c) b k).trans ((congrFun (W18_arr m ρ c 11) (ix3 b 0 k)).trans
    ((final3_11 (V17 m ρ) c b 0 k).trans (congrArg (fun v : Fin 300 => BitVec.ofNat 32 v.val) (viewAt_eq m ρ c b k))))
  rot b k r j := (host_rot (W18 m ρ c) b k r j).trans ((congrFun (W18_arr m ρ c 12) (ix3 b ⟨3 * r.val + j.val, by omega⟩ k)).trans
    ((final3_12 (V17 m ρ) c b ⟨3 * r.val + j.val, by omega⟩ k).trans
      ((rotRow_eq _ r j).trans (congrArg (fun D => rot D r j) (dirAt_eq m ρ c b k)))))

end Run

end Cert.Proof.Kern

end
-- ==== Proof.RFrame.lean ====
/-
  The reference program leaves its argument arrays as launched: no host operation before, in or after its loop writes one.
-/
module

public import proofs.«01_k».proof.Proof.Gen.ReferenceIdeal.Run
public import Idealize.ShloMosaic.Lib.Quiescent

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe Idealize.SL.Sem

variable {F : FTy → Type} [FloatOps F]

/-! ## What each stretch after the loop writes -/

/-- The references `hostOps0_7` writes, in order. -/
abbrev hostOps0_7_W : List (Ref sig .tc) :=
  [main_v39, main_v40]
theorem hostOps0_7_writes : (hostOps0_7 : List (HloOp τ sig (Elt F))).Forall fun op =>
    op.writes ⊆ (hostOps0_7_W.map (Proc.devRef (τ := τ) .tc)).toFinset := forall_writes_sub_of_map (W := hostOps0_7_W) rfl

/-- The references `hostOps0_8` writes, in order. -/
abbrev hostOps0_8_W : List (Ref sig .tc) :=
  [main_call6_c, main_call6_v0, main_call6_v1, main_call6_c_0, main_call6_v2, main_call6_v3, main_call6_v4,
   main_v41]
theorem hostOps0_8_writes : (hostOps0_8 : List (HloOp τ sig (Elt F))).Forall fun op =>
    op.writes ⊆ (hostOps0_8_W.map (Proc.devRef (τ := τ) .tc)).toFinset := forall_writes_sub_of_map (W := hostOps0_8_W) rfl

/-- The references `hostOps0_9` writes, in order. -/
abbrev hostOps0_9_W : List (Ref sig .tc) :=
  [main_v42, main_v43]
theorem hostOps0_9_writes : (hostOps0_9 : List (HloOp τ sig (Elt F))).Forall fun op =>
    op.writes ⊆ (hostOps0_9_W.map (Proc.devRef (τ := τ) .tc)).toFinset := forall_writes_sub_of_map (W := hostOps0_9_W) rfl

/-- The references `hostOps0_10` writes, in order. -/
abbrev hostOps0_10_W : List (Ref sig .tc) :=
  [main_call7_c, main_call7_v0, main_call7_v1, main_call7_c_0, main_call7_v2, main_call7_v3, main_call7_v4,
   main_v44]
theorem hostOps0_10_writes : (hostOps0_10 : List (HloOp τ sig (Elt F))).Forall fun op =>
    op.writes ⊆ (hostOps0_10_W.map (Proc.devRef (τ := τ) .tc)).toFinset := forall_writes_sub_of_map (W := hostOps0_10_W) rfl

/-- The references `hostOps0_11` writes, in order. -/
abbrev hostOps0_11_W : List (Ref sig .tc) :=
  [main_v45]
theorem hostOps0_11_writes : (hostOps0_11 : List (HloOp τ sig (Elt F))).Forall fun op =>
    op.writes ⊆ (hostOps0_11_W.map (Proc.devRef (τ := τ) .tc)).toFinset := forall_writes_sub_of_map (W := hostOps0_11_W) rfl

/-- The references `hostOps0_12` writes, in order. -/
abbrev hostOps0_12_W : List (Ref sig .tc) :=
  [main_call8_c, main_call8_v0, main_call8_v1, main_call8_c_0, main_call8_v2, main_call8_v3, main_call8_v4,
   main_call8_v5, main_v46]
theorem hostOps0_12_writes : (hostOps0_12 : List (HloOp τ sig (Elt F))).Forall fun op =>
    op.writes ⊆ (hostOps0_12_W.map (Proc.devRef (τ := τ) .tc)).toFinset := forall_writes_sub_of_map (W := hostOps0_12_W) rfl

/-- The references `hostOps0_13` writes, in order. -/
abbrev hostOps0_13_W : List (Ref sig .tc) :=
  [main_v47, main_v48, main_v49, main_v50, main_v51, main_v52, main_v53, main_v54, main_v55, main_cst_6, main_v56,
   main_v57, main_v58, main_v59, main_v60, main_v61, main_v62, main_v63, main_v64, main_v65, main_v66]
theorem hostOps0_13_writes : (hostOps0_13 : List (HloOp τ sig (Elt F))).Forall fun op =>
    op.writes ⊆ (hostOps0_13_W.map (Proc.devRef (τ := τ) .tc)).toFinset := forall_writes_sub_of_map (W := hostOps0_13_W) rfl

/-- The references `hostOps0_14` writes, in order. -/
abbrev hostOps0_14_W : List (Ref sig .tc) :=
  [main_call9_cst, main_call9_v0, main_v67]
theorem hostOps0_14_writes : (hostOps0_14 : List (HloOp τ sig (Elt F))).Forall fun op =>
    op.writes ⊆ (hostOps0_14_W.map (Proc.devRef (τ := τ) .tc)).toFinset := forall_writes_sub_of_map (W := hostOps0_14_W) rfl

/-- The references `hostOps0_15` writes, in order. -/
abbrev hostOps0_15_W : List (Ref sig .tc) :=
  [main_v68, main_v69, main_v70, main_v71, main_v72, main_v73, main_v74, main_v75]
theorem hostOps0_15_writes : (hostOps0_15 : List (HloOp τ sig (Elt F))).Forall fun op =>
    op.writes ⊆ (hostOps0_15_W.map (Proc.devRef (τ := τ) .tc)).toFinset := forall_writes_sub_of_map (W := hostOps0_15_W) rfl

/-- The references `hostOps0_16` writes, in order. -/
abbrev hostOps0_16_W : List (Ref sig .tc) :=
  [main_call10_v0, main_call10_cst, main_call10_v1, main_v76]
theorem hostOps0_16_writes : (hostOps0_16 : List (HloOp τ sig (Elt F))).Forall fun op =>
    op.writes ⊆ (hostOps0_16_W.map (Proc.devRef (τ := τ) .tc)).toFinset := forall_writes_sub_of_map (W := hostOps0_16_W) rfl

/-- The references `hostOps0_17` writes, in order. -/
abbrev hostOps0_17_W : List (Ref sig .tc) :=
  [main_cst_7, main_v77, main_v78]
theorem hostOps0_17_writes : (hostOps0_17 : List (HloOp τ sig (Elt F))).Forall fun op =>
    op.writes ⊆ (hostOps0_17_W.map (Proc.devRef (τ := τ) .tc)).toFinset := forall_writes_sub_of_map (W := hostOps0_17_W) rfl

/-- The references `hostOps0_18` writes, in order. -/
abbrev hostOps0_18_W : List (Ref sig .tc) :=
  [main_call11_v0, main_call11_cst, main_call11_v1, main_v79]
theorem hostOps0_18_writes : (hostOps0_18 : List (HloOp τ sig (Elt F))).Forall fun op =>
    op.writes ⊆ (hostOps0_18_W.map (Proc.devRef (τ := τ) .tc)).toFinset := forall_writes_sub_of_map (W := hostOps0_18_W) rfl

/-- The references `hostOps0_19` writes, in order. -/
abbrev hostOps0_19_W : List (Ref sig .tc) :=
  [main_cst_8, main_v80, main_v81, main_v82, main_v83, main_v84, main_cst_9, main_v85, main_v86, main_v87, main_v88,
   main_v89]
theorem hostOps0_19_writes : (hostOps0_19 : List (HloOp τ sig (Elt F))).Forall fun op =>
    op.writes ⊆ (hostOps0_19_W.map (Proc.devRef (τ := τ) .tc)).toFinset := forall_writes_sub_of_map (W := hostOps0_19_W) rfl

/-- The references `hostOps0_20` writes, in order. -/
abbrev hostOps0_20_W : List (Ref sig .tc) :=
  [main_call12_v0, main_call12_cst, main_call12_c, main_call12_v1_0, main_v90]
theorem hostOps0_20_writes : (hostOps0_20 : List (HloOp τ sig (Elt F))).Forall fun op =>
    op.writes ⊆ (hostOps0_20_W.map (Proc.devRef (τ := τ) .tc)).toFinset := forall_writes_sub_of_map (W := hostOps0_20_W) rfl

/-- The references `hostOps0_21` writes, in order. -/
abbrev hostOps0_21_W : List (Ref sig .tc) :=
  [main_v91, main_cst_10, main_v92, main_v93, main_v94, main_v95, main_cst_11, main_v96, main_cst_12, main_v97,
   main_v98, main_v99, main_v100, main_v101, main_v102, main_v103, main_v104, main_v105, main_v106]
theorem hostOps0_21_writes : (hostOps0_21 : List (HloOp τ sig (Elt F))).Forall fun op =>
    op.writes ⊆ (hostOps0_21_W.map (Proc.devRef (τ := τ) .tc)).toFinset := forall_writes_sub_of_map (W := hostOps0_21_W) rfl

/-- The references `hostOps0_22` writes, in order. -/
abbrev hostOps0_22_W : List (Ref sig .tc) :=
  [main_call13_v0, main_call13_cst, main_call13_v1, main_v107]
theorem hostOps0_22_writes : (hostOps0_22 : List (HloOp τ sig (Elt F))).Forall fun op =>
    op.writes ⊆ (hostOps0_22_W.map (Proc.devRef (τ := τ) .tc)).toFinset := forall_writes_sub_of_map (W := hostOps0_22_W) rfl

/-- The references `hostOps0_23` writes, in order. -/
abbrev hostOps0_23_W : List (Ref sig .tc) :=
  [main_cst_13, main_v108, main_v109, main_v110]
theorem hostOps0_23_writes : (hostOps0_23 : List (HloOp τ sig (Elt F))).Forall fun op =>
    op.writes ⊆ (hostOps0_23_W.map (Proc.devRef (τ := τ) .tc)).toFinset := forall_writes_sub_of_map (W := hostOps0_23_W) rfl

/-- The references `hostOps0_24` writes, in order. -/
abbrev hostOps0_24_W : List (Ref sig .tc) :=
  [main_call14_v0, main_call14_v1, main_v111]
theorem hostOps0_24_writes : (hostOps0_24 : List (HloOp τ sig (Elt F))).Forall fun op =>
    op.writes ⊆ (hostOps0_24_W.map (Proc.devRef (τ := τ) .tc)).toFinset := forall_writes_sub_of_map (W := hostOps0_24_W) rfl

/-- The references `hostOps0_25` writes, in order. -/
abbrev hostOps0_25_W : List (Ref sig .tc) :=
  [main_call15_v0, main_call15_cst, main_call15_v1, main_call15_v2, main_v112]
theorem hostOps0_25_writes : (hostOps0_25 : List (HloOp τ sig (Elt F))).Forall fun op =>
    op.writes ⊆ (hostOps0_25_W.map (Proc.devRef (τ := τ) .tc)).toFinset := forall_writes_sub_of_map (W := hostOps0_25_W) rfl

/-- The references `hostOps0_26` writes, in order. -/
abbrev hostOps0_26_W : List (Ref sig .tc) :=
  [main_v113, main_v114]
theorem hostOps0_26_writes : (hostOps0_26 : List (HloOp τ sig (Elt F))).Forall fun op =>
    op.writes ⊆ (hostOps0_26_W.map (Proc.devRef (τ := τ) .tc)).toFinset := forall_writes_sub_of_map (W := hostOps0_26_W) rfl

/-- The references `hostOps0_27` writes, in order. -/
abbrev hostOps0_27_W : List (Ref sig .tc) :=
  [main_call16_v0, main_call16_cst, main_call16_v1, main_call16_v2, main_v115]
theorem hostOps0_27_writes : (hostOps0_27 : List (HloOp τ sig (Elt F))).Forall fun op =>
    op.writes ⊆ (hostOps0_27_W.map (Proc.devRef (τ := τ) .tc)).toFinset := forall_writes_sub_of_map (W := hostOps0_27_W) rfl

/-- The references `hostOps0_28` writes, in order. -/
abbrev hostOps0_28_W : List (Ref sig .tc) :=
  [main_v116, main_v117]
theorem hostOps0_28_writes : (hostOps0_28 : List (HloOp τ sig (Elt F))).Forall fun op =>
    op.writes ⊆ (hostOps0_28_W.map (Proc.devRef (τ := τ) .tc)).toFinset := forall_writes_sub_of_map (W := hostOps0_28_W) rfl

/-- The references `hostOps0_29` writes, in order. -/
abbrev hostOps0_29_W : List (Ref sig .tc) :=
  [main_call17_v0, main_call17_v1, main_call17_v2, main_call17_v3, main_call17_v4, main_call17_v5, main_call17_v6,
   main_call17_v7, main_call17_v8, main_call17_v9, main_call17_v10, main_call17_v11, main_call17_v12,
   main_call17_v13, main_call17_v14, main_call17_v15, main_call17_v16, main_call17_v17, main_call17_v18,
   main_call17_v19, main_call17_v20, main_call17_v21, main_call17_v22, main_call17_v23, main_call17_v24, main_v118]
theorem hostOps0_29_writes : (hostOps0_29 : List (HloOp τ sig (Elt F))).Forall fun op =>
    op.writes ⊆ (hostOps0_29_W.map (Proc.devRef (τ := τ) .tc)).toFinset := forall_writes_sub_of_map (W := hostOps0_29_W) rfl

/-- The references `hostOps0_30` writes, in order. -/
abbrev hostOps0_30_W : List (Ref sig .tc) :=
  [main_v119, main_v120, main_cst_14, main_v121, main_v122, main_v123, main_v124, main_v125, main_v126, main_v127,
   main_v128, main_v129, main_v130, main_v131, main_v132, main_v133, main_v134, main_v135, main_v136, main_v137,
   main_v138, main_v139]
theorem hostOps0_30_writes : (hostOps0_30 : List (HloOp τ sig (Elt F))).Forall fun op =>
    op.writes ⊆ (hostOps0_30_W.map (Proc.devRef (τ := τ) .tc)).toFinset := forall_writes_sub_of_map (W := hostOps0_30_W) rfl

/-- The stretches after the loop that read points, features and graspness at the sampled indices. -/
abbrev gathers : List (List (HloOp τ sig (Elt F))) := [hostOps0_7, hostOps0_8, hostOps0_9, hostOps0_10, hostOps0_11, hostOps0_12]

/-- The references `gathers` writes, in order. -/
abbrev gathersW : List (Ref sig .tc) :=
  [main_v39, main_v40, main_call6_c, main_call6_v0, main_call6_v1, main_call6_c_0, main_call6_v2, main_call6_v3,
   main_call6_v4, main_v41, main_v42, main_v43, main_call7_c, main_call7_v0, main_call7_v1, main_call7_c_0,
   main_call7_v2, main_call7_v3, main_call7_v4, main_v44, main_v45, main_call8_c, main_call8_v0, main_call8_v1,
   main_call8_c_0, main_call8_v2, main_call8_v3, main_call8_v4, main_call8_v5, main_v46]

/-- A reference that `gathers` does not write keeps its contents across it. -/
theorem gathers_keep (V : Valuation τ sig (Elt F)) {r : Ref sig .tc} (h : r ∉ gathersW) :
    afterL gathers V (Proc.devRef .tc r) = V (Proc.devRef .tc r) := by
  rw [afterL_eq_after_flatten]
  exact after_of_writes_sub _ V (forall_writes_sub_of_map (W := gathersW) rfl) h

/-- The stretches of the second perceptron. -/
abbrev headOps : List (List (HloOp τ sig (Elt F))) := [hostOps0_13, hostOps0_14, hostOps0_15]

/-- The references `headOps` writes, in order. -/
abbrev headOpsW : List (Ref sig .tc) :=
  [main_v47, main_v48, main_v49, main_v50, main_v51, main_v52, main_v53, main_v54, main_v55, main_cst_6, main_v56,
   main_v57, main_v58, main_v59, main_v60, main_v61, main_v62, main_v63, main_v64, main_v65, main_v66,
   main_call9_cst, main_call9_v0, main_v67, main_v68, main_v69, main_v70, main_v71, main_v72, main_v73, main_v74,
   main_v75]

/-- A reference that `headOps` does not write keeps its contents across it. -/
theorem headOps_keep (V : Valuation τ sig (Elt F)) {r : Ref sig .tc} (h : r ∉ headOpsW) :
    afterL headOps V (Proc.devRef .tc r) = V (Proc.devRef .tc r) := by
  rw [afterL_eq_after_flatten]
  exact after_of_writes_sub _ V (forall_writes_sub_of_map (W := headOpsW) rfl) h

/-- The stretches that choose the most similar template direction. -/
abbrev simOps : List (List (HloOp τ sig (Elt F))) := [hostOps0_16, hostOps0_17, hostOps0_18, hostOps0_19, hostOps0_20]

/-- The references `simOps` writes, in order. -/
abbrev simOpsW : List (Ref sig .tc) :=
  [main_call10_v0, main_call10_cst, main_call10_v1, main_v76, main_cst_7, main_v77, main_v78, main_call11_v0,
   main_call11_cst, main_call11_v1, main_v79, main_cst_8, main_v80, main_v81, main_v82, main_v83, main_v84,
   main_cst_9, main_v85, main_v86, main_v87, main_v88, main_v89, main_call12_v0, main_call12_cst, main_call12_c,
   main_call12_v1_0, main_v90]

/-- A reference that `simOps` does not write keeps its contents across it. -/
theorem simOps_keep (V : Valuation τ sig (Elt F)) {r : Ref sig .tc} (h : r ∉ simOpsW) :
    afterL simOps V (Proc.devRef .tc r) = V (Proc.devRef .tc r) := by
  rw [afterL_eq_after_flatten]
  exact after_of_writes_sub _ V (forall_writes_sub_of_map (W := simOpsW) rfl) h

/-- The stretches that form the rotations. -/
abbrev rotOps : List (List (HloOp τ sig (Elt F))) := [hostOps0_21, hostOps0_22, hostOps0_23, hostOps0_24, hostOps0_25, hostOps0_26, hostOps0_27, hostOps0_28, hostOps0_29, hostOps0_30]

/-- The references `rotOps` writes, in order. -/
abbrev rotOpsW : List (Ref sig .tc) :=
  [main_v91, main_cst_10, main_v92, main_v93, main_v94, main_v95, main_cst_11, main_v96, main_cst_12, main_v97,
   main_v98, main_v99, main_v100, main_v101, main_v102, main_v103, main_v104, main_v105, main_v106, main_call13_v0,
   main_call13_cst, main_call13_v1, main_v107, main_cst_13, main_v108, main_v109, main_v110, main_call14_v0,
   main_call14_v1, main_v111, main_call15_v0, main_call15_cst, main_call15_v1, main_call15_v2, main_v112,
   main_v113, main_v114, main_call16_v0, main_call16_cst, main_call16_v1, main_call16_v2, main_v115, main_v116,
   main_v117, main_call17_v0, main_call17_v1, main_call17_v2, main_call17_v3, main_call17_v4, main_call17_v5,
   main_call17_v6, main_call17_v7, main_call17_v8, main_call17_v9, main_call17_v10, main_call17_v11,
   main_call17_v12, main_call17_v13, main_call17_v14, main_call17_v15, main_call17_v16, main_call17_v17,
   main_call17_v18, main_call17_v19, main_call17_v20, main_call17_v21, main_call17_v22, main_call17_v23,
   main_call17_v24, main_v118, main_v119, main_v120, main_cst_14, main_v121, main_v122, main_v123, main_v124,
   main_v125, main_v126, main_v127, main_v128, main_v129, main_v130, main_v131, main_v132, main_v133, main_v134,
   main_v135, main_v136, main_v137, main_v138, main_v139]

/-- A reference that `rotOps` does not write keeps its contents across it. -/
theorem rotOps_keep (V : Valuation τ sig (Elt F)) {r : Ref sig .tc} (h : r ∉ rotOpsW) :
    afterL rotOps V (Proc.devRef .tc r) = V (Proc.devRef .tc r) := by
  rw [afterL_eq_after_flatten]
  exact after_of_writes_sub _ V (forall_writes_sub_of_map (W := rotOpsW) rfl) h

/-- The stretches after the loop are the four groups in order. -/
theorem post_eq (V : Valuation τ sig (Elt F)) :
    afterL postI V = afterL rotOps (afterL simOps (afterL headOps (afterL gathers V))) := rfl

/-- A reference that no stretch before the loop writes keeps its contents across them. -/
theorem pre_keep (V : Valuation τ sig (Elt F)) {r : Ref sig .tc} (h0 : r ∉ hostOps0_W) (h1 : r ∉ hostOps0_1_W)
    (h2 : r ∉ hostOps0_2_W) (h3 : r ∉ hostOps0_3_W) (h4 : r ∉ hostOps0_4_W) (h5 : r ∉ hostOps0_5_W)
    (h6 : r ∉ hostOps0_6_W) : afterL preI V (Proc.devRef .tc r) = V (Proc.devRef .tc r) := by
  simp only [afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A reference that the loop's body does not write keeps its contents across it. -/
theorem body_keep (V : Valuation τ sig (Elt F)) {r : Ref sig .tc} (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W)
    (h6 : r ∉ while0Ops0_6_W) : afterL bodyI V (Proc.devRef .tc r) = V (Proc.devRef .tc r) := by
  simp only [afterL_cons, afterL_nil]
  rw [after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0]

/-- The loop leaves a reference that neither its condition nor its body writes as it was. -/
theorem loop_keep {r : Ref sig .tc} (hc : r ∉ condOps_W)
    (hb : ∀ V : Valuation τ sig (Elt F), afterL bodyI V (Proc.devRef .tc r) = V (Proc.devRef .tc r))
    (W : Dev nD → Valuation τ sig (Elt F)) (c : Dev nD) :
    ∀ k, atTrip condOps bodyI W k c (Proc.devRef .tc r) = W c (Proc.devRef .tc r) := by
  intro k
  induction k with
  | zero => rfl
  | succ k ih => rw [atTrip_succ, hb, after_of_writes_sub _ _ condOps_writes hc, ih]

/-- Every reference the program writes from its start to its end. -/
abbrev written : List (Ref sig .tc) :=
  hostOps0_W ++ hostOps0_1_W ++ hostOps0_2_W ++ hostOps0_3_W ++ hostOps0_4_W ++ hostOps0_5_W ++ hostOps0_6_W
    ++ (condOps_W ++ while0Ops0_W ++ while0Ops0_1_W ++ while0Ops0_2_W ++ while0Ops0_3_W ++ while0Ops0_4_W
      ++ while0Ops0_5_W ++ while0Ops0_6_W) ++ (gathersW ++ headOpsW ++ simOpsW ++ rotOpsW)

/-- A reference that the program does not write ends as launched. -/
theorem final_keep (m : (ℓ : Loc nD τ sig) → Buf (Elt F) ℓ) (c : Dev nD) {r : Ref sig .tc} (h : r ∉ written) :
    finalContents condOps preI bodyI postI 1024 m c (Proc.devRef .tc r) = m ((c.tc : Thread nD τ).loc r) := by
  simp only [written, List.mem_append, not_or] at h
  obtain ⟨⟨⟨⟨⟨⟨⟨⟨a0, a1⟩, a2⟩, a3⟩, a4⟩, a5⟩, a6⟩, ⟨⟨⟨⟨⟨⟨⟨c0, b0⟩, b1⟩, b2⟩, b3⟩, b4⟩, b5⟩, b6⟩⟩, ⟨⟨⟨p0, p1⟩, p2⟩, p3⟩⟩ := h
  unfold finalContents
  rw [post_eq, rotOps_keep _ p3, simOps_keep _ p2, headOps_keep _ p1, gathers_keep _ p0,
    after_of_writes_sub _ _ condOps_writes c0, loop_keep c0 fun V => body_keep V b0 b1 b2 b3 b4 b5 b6]
  unfold entryContents
  rw [pre_keep _ a0 a1 a2 a3 a4 a5 a6]

/-- The references of the argument arrays. -/
abbrev args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17]

theorem args_not_written : ∀ a ∈ args, a ∉ written := by decide +kernel

theorem args_unscoped : ∀ a ∈ args, (Proc.devRef .tc a : DevRef τ sig).isScoped = false := by decide +kernel

/-- Every argument ends as launched, given what the run leaves in each unscoped buffer. -/
theorem args_end (m : (ℓ : Loc nD τ sig) → Buf (Elt F) ℓ) (mem : (ℓ : Loc nD τ sig) → Buf (Elt F) ℓ)
    (h : ∀ (c : Dev nD) (b : Ref sig .tc), (Proc.devRef .tc b : DevRef τ sig).isScoped = false →
      mem ((c.tc : Thread nD τ).loc b) = finalContents condOps preI bodyI postI 1024 m c (Proc.devRef .tc b))
    (c : Dev nD) (a : Ref sig .tc) (ha : a ∈ args) : mem ((c.tc : Thread nD τ).loc a) = m ((c.tc : Thread nD τ).loc a) :=
  (h c a (args_unscoped a ha)).trans (final_keep m c (args_not_written a ha))

end Cert.Proof.Ref

end
-- ==== Proof.Argmax.lean ====
/-
  Two ways the first greatest entry of a family is computed: by folding a selecting body over pairs of a value and its
  index, and by taking the head of a stable sort.
-/
module

public import proofs.«01_k».proof.Proof.Spec
public import Idealize.ShloMosaic.PureOps.Reduce
public import Idealize.ShloMosaic.PureOps.ShapeOps

@[expose] public section

namespace Cert.Proof.Spec

open Idealize.ShloMosaic

/-! ## Folding a selecting body -/

/-- A fold that keeps the better of two elements ends with an element none is better than. -/
theorem foldl_best {α : Type} (R : α → α → Prop) [DecidableRel R] (asymm : ∀ a b, R a b → ¬ R b a)
    (negTrans : ∀ a b c, ¬ R a b → ¬ R b c → ¬ R a c) (irrefl : ∀ a, ¬ R a a) (l : List α) (a : α) :
    l.foldl (fun p q => if R p q then p else q) a ∈ a :: l
      ∧ ∀ q ∈ a :: l, ¬ R q (l.foldl (fun p q => if R p q then p else q) a) := by
  induction l generalizing a with
  | nil => simp [irrefl]
  | cons b l ih =>
    by_cases h : R a b
    · obtain ⟨h1, h2⟩ := ih a
      simp only [List.foldl_cons, if_pos h]
      refine ⟨?_, ?_⟩
      · rcases List.mem_cons.mp h1 with e | e
        · rw [e]; simp
        · exact List.mem_cons_of_mem _ (List.mem_cons_of_mem _ e)
      · intro q hq
        rcases List.mem_cons.mp hq with rfl | hq
        · exact h2 _ (by simp)
        · rcases List.mem_cons.mp hq with rfl | hq
          · exact negTrans _ _ _ (asymm _ _ h) (h2 a (by simp))
          · exact h2 q (List.mem_cons_of_mem _ hq)
    · obtain ⟨h1, h2⟩ := ih b
      simp only [List.foldl_cons, if_neg h]
      refine ⟨List.mem_cons_of_mem _ h1, ?_⟩
      intro q hq
      rcases List.mem_cons.mp hq with rfl | hq
      · exact negTrans _ _ _ h (h2 b (by simp))
      · exact h2 q hq

/-- The pair `a` is preferred to `b`: its value is greater, or the values are equal and its index is smaller. -/
def Beats {α : Type} (key : α → EReal) (a b : α × BitVec 32) : Prop :=
  key b.1 < key a.1 ∨ (key a.1 = key b.1 ∧ a.2.toInt < b.2.toInt)

theorem Beats.irrefl {α : Type} (key : α → EReal) (a : α × BitVec 32) : ¬ Beats key a a := by
  rintro (h | ⟨-, h⟩) <;> exact lt_irrefl _ h

theorem Beats.asymm {α : Type} (key : α → EReal) (a b : α × BitVec 32) (h : Beats key a b) : ¬ Beats key b a := by
  rintro h'
  rcases h with h | ⟨e, h⟩ <;> rcases h' with h' | ⟨e', h'⟩
  · exact lt_asymm h h'
  · exact absurd h (by rw [e']; exact lt_irrefl _)
  · exact absurd h' (by rw [e]; exact lt_irrefl _)
  · exact lt_asymm h h'

theorem Beats.negTrans {α : Type} (key : α → EReal) (a b c : α × BitVec 32) (h : ¬ Beats key a b) (h' : ¬ Beats key b c) :
    ¬ Beats key a c := by
  simp only [Beats, not_or, not_lt, not_and] at h h' ⊢
  refine ⟨h.1.trans h'.1, fun e => ?_⟩
  have e1 : key a.1 = key b.1 := le_antisymm h.1 (h'.1.trans e.ge)
  have e2 : key b.1 = key c.1 := e1 ▸ e
  exact (h'.2 e2).trans (h.2 e1)

open Classical in
/-- The index a preferring fold ends with, over pairs of a family's values and their indices, is the family's first greatest. -/
theorem foldl_beats {α : Type} (key : α → EReal) (f : α × BitVec 32 → α × BitVec 32 → α × BitVec 32)
    (hf : ∀ a b, f a b = if Beats key a b then a else b) {n : ℕ} [NeZero n] (hn : n < 2 ^ 31) (g : Fin n → α) (i₀ : α)
    (h₀ : ∀ i, key i₀ ≤ key (g i)) (l : List (α × BitVec 32)) (hl : ∀ p, p ∈ l ↔ ∃ i : Fin n, p = (g i, BitVec.ofNat 32 i)) :
    (l.foldl f (i₀, 0#32)).2 = BitVec.ofNat 32 (firstMax fun i => key (g i)) := by
  obtain rfl : f = fun p q => if Beats key p q then p else q := by funext a b; exact hf a b
  obtain ⟨h1, h2⟩ := foldl_best (Beats key) (Beats.asymm key) (Beats.negTrans key) (Beats.irrefl key) l (i₀, 0#32)
  revert h1 h2
  generalize l.foldl (fun p q => if Beats key p q then p else q) (i₀, 0#32) = r
  intro h1 h2
  have toInt (i : Fin n) : (BitVec.ofNat 32 i.val).toInt = i.val := by
    have := i.isLt
    rw [BitVec.toInt_eq_toNat_of_lt] <;> simp <;> omega
  have h3 (i : Fin n) : ¬ Beats key (g i, BitVec.ofNat 32 i) r := h2 _ (List.mem_cons_of_mem _ ((hl _).mpr ⟨i, rfl⟩))
  rcases List.mem_cons.mp h1 with e | e
  · subst e
    have h4 : IsFirstMax (fun i => key (g i)) (0 : Fin n) := by
      refine ⟨fun j => ?_, fun j hj => absurd hj (by simp)⟩
      have := h3 j
      simp only [Beats, not_or, not_lt] at this
      exact this.1.trans (h₀ 0)
    rw [h4.eq]; simp
  · obtain ⟨i, rfl⟩ := (hl _).mp e
    have h4 : IsFirstMax (fun i => key (g i)) i := by
      refine ⟨fun j => ?_, fun j hj => ?_⟩ <;> have := h3 j <;> simp only [Beats, not_or, not_lt, not_and, toInt] at this
      · exact this.1
      · refine lt_of_le_of_ne this.1 fun e => ?_
        have := this.2 e
        have : j.val < i.val := hj
        omega
    rw [h4.eq]

/-- The pairs a reduction folds over for one result index. -/
theorem mem_fiber {α β : Type} {s t : Shape} {axes : List (Fin s.rank)} (x : s.Idx → α) (y : s.Idx → β)
    (h : s.ReducesTo axes t) (j : t.Idx) (p : α × β) :
    p ∈ Host.argReduceFiber x y h j ↔ ∃ i : s.Idx, h.drop i = j ∧ p = (x i, y i) := by
  simp only [Host.argReduceFiber, List.mem_map, List.mem_filter, List.mem_finRange, true_and, decide_eq_true_eq]
  constructor
  · rintro ⟨n, h1, rfl⟩; exact ⟨_, h1, rfl⟩
  · rintro ⟨i, h1, rfl⟩; exact ⟨s.rowMajor i, by simpa using h1, by simp⟩

/-! ## The head of a stable sort -/

open Classical in
/-- The head of the stable descending sort of increasing indices is the first at which the family is greatest. -/
theorem stableSort_head {n : ℕ} (f : Fin n → EReal) (B : Fin n → Fin n → Bool) (hB : ∀ i j, B i j = true ↔ f j < f i)
    (l : List (Fin n)) (hl : l.Pairwise (· < ·)) (hne : l ≠ []) :
    ∃ i t, stableSort B l = i :: t ∧ i ∈ l ∧ (∀ j ∈ l, f j ≤ f i) ∧ ∀ j ∈ l, j < i → f j < f i := by
  induction l with
  | nil => exact absurd rfl hne
  | cons a l ih =>
    obtain ⟨ha, hl'⟩ := List.pairwise_cons.mp hl
    by_cases hne' : l = []
    · subst hne'
      exact ⟨a, [], rfl, by simp, by simp, fun j hj h => by simp at hj; subst hj; exact absurd h (lt_irrefl _)⟩
    · obtain ⟨i, t, e, hi, hmax, hlt⟩ := ih hl' hne'
      by_cases hb : f a < f i
      · refine ⟨i, insertBefore B a t, by simp [stableSort, e, insertBefore, (hB i a).mpr hb], List.mem_cons_of_mem _ hi, ?_, ?_⟩
        · intro j hj
          rcases List.mem_cons.mp hj with rfl | hj
          · exact hb.le
          · exact hmax j hj
        · intro j hj h
          rcases List.mem_cons.mp hj with rfl | hj
          · exact hb
          · exact hlt j hj h
      · have hb' : B i a = false := by rw [← Bool.not_eq_true, hB]; exact hb
        refine ⟨a, i :: t, by simp [stableSort, e, insertBefore, hb'], by simp, ?_, ?_⟩
        · intro j hj
          rcases List.mem_cons.mp hj with rfl | hj
          · exact le_rfl
          · exact (hmax j hj).trans (not_lt.mp hb)
        · intro j hj h
          rcases List.mem_cons.mp hj with rfl | hj
          · exact absurd h (lt_irrefl _)
          · exact absurd (ha j hj) (lt_asymm h)

/-- Position `0` of the stable descending sort of a family is its first greatest. -/
theorem sortedFrom_zero {n : ℕ} [NeZero n] (f : Fin n → EReal) (B : Fin n → Fin n → Bool) (hB : ∀ i j, B i j = true ↔ f j < f i)
    (k : Fin n) (hk : k.val = 0) : sortedFrom B k = firstMax f := by
  have hne : List.finRange n ≠ [] := by
    intro h
    have : (0 : Fin n) ∈ List.finRange n := List.mem_finRange _
    simp [h] at this
  obtain ⟨i, t, e, -, hmax, hlt⟩ := stableSort_head f B hB (List.finRange n) (List.pairwise_lt_finRange n) hne
  have : sortedFrom B k = i := by
    have e' : sortPositions n B = i :: t := e
    simp [sortedFrom, e', hk]
  rw [this]
  exact (IsFirstMax.eq ⟨fun j => hmax j (List.mem_finRange _), fun j hj => hlt j (List.mem_finRange _) hj⟩).symm

end Cert.Proof.Spec
-- ==== Proof.RefArg.lean ====
/-
  The reference's own arg-maxima, read as the first greatest entry of a family.
-/
module

public import proofs.«01_k».proof.Proof.Gen.ReferenceIdeal.Run
public import proofs.«01_k».proof.Proof.Argmax
public import Idealize.ShloMosaic.Lib.Pointwise
public import Idealize.ShloMosaic.Lib.ValueLayout
public import Idealize.ShloMosaic.PureOps.Ideal.Laws

@[expose] public section

set_option maxRecDepth 16384

noncomputable section

namespace Cert.Proof.Ref

open Cert.ReferenceIdeal Cert.ReferenceIdeal.Gen
open Idealize.ShloMosaic Idealize.ShloMosaic.StableHlo Idealize.ShloMosaic.Ideal
open Cert.Proof.Spec

open Classical in
/-- On floats the selecting body keeps the preferred pair. -/
theorem reducer_f32 (a b : EReal × BitVec 32) :
    (reducer_argmax_f32_i32 (F := Ideal) a b : EReal × BitVec 32) = if Beats id a b then a else b := by
  obtain ⟨a1, a2⟩ := a; obtain ⟨b1, b2⟩ := b
  simp only [reducer_argmax_f32_i32, cmpf_def, Ideal.cmp, Beats, id, IntOp.cmpi, Scalar.select, IntOp.ori, IntOp.andi, BitVec.slt]
  rcases lt_trichotomy a1 b1 with h | h | h
  · simp [h, h.ne, h.le, not_lt.mpr h.le]
  · subst h
    by_cases h2 : a2.toInt < b2.toInt <;> simp [h2]
  · simp [h, h.ne, h.ne', h.le, not_lt.mpr h.le]

/-- A bit as a number. -/
def bit (v : BitVec 1) : EReal := if v = 1#1 then 1 else 0

open Classical in
/-- On bits the selecting body keeps the preferred pair. -/
theorem reducer_i1 (a b : BitVec 1 × BitVec 32) :
    reducer_argmax_i1_i32 a b = if Beats bit a b then a else b := by
  obtain ⟨a1, a2⟩ := a; obtain ⟨b1, b2⟩ := b
  simp only [reducer_argmax_i1_i32, Beats, bit, IntOp.cmpi, Scalar.select, IntOp.ori, IntOp.andi, BitVec.slt]
  have h (v : BitVec 1) : v = 0#1 ∨ v = 1#1 := by
    have : ∀ v : BitVec 1, v = 0#1 ∨ v = 1#1 := by decide
    exact this v
  rcases h a1 with rfl | rfl <;> rcases h b1 with rfl | rfl <;> by_cases h2 : a2.toInt < b2.toInt <;> simp [h2]

/-- The arg-max along the middle axis of two rows. -/
theorem argmax_pair (x : S4x2x20000.Idx → EReal) (h : S4x2x20000.ReducesTo [1] S4x20000) (h' : 0 < S_.numel) (b : Fin 4) (n : Fin 20000) :
    (Host.argReduce (F := Ideal) (φ := .f32) reducer_argmax_f32_i32 x (iotaInDim S4x2x20000 32 1) (constant (F := Ideal) S_ FTy.f32 4286578688#32)
      (constantI S_ 32 0#32) h h' (ix2 b n)).2 = BitVec.ofNat 32 (firstMax fun k : Fin 2 => x (ix3 b k n)).val := by
  rw [argReduce_eq_reduce2, Host.reduce2_eq_foldl_fiber]
  refine foldl_beats id _ reducer_f32 (by decide) (fun k : Fin 2 => x (ix3 b k n)) _ (fun i => ?_) _ (fun p => ?_)
  · show Ideal.ofBits .f32 4286578688#32 ≤ _
    rw [show Ideal.ofBits .f32 4286578688#32 = ⊥ by decide +kernel]; exact bot_le
  · rw [mem_fiber]
    constructor
    · rintro ⟨i, hi, rfl⟩
      obtain ⟨i0, i1, i2, rfl⟩ : ∃ i0 i1 i2, i = ix3 i0 i1 i2 := ⟨_, _, _, eq_ix3 i⟩
      obtain rfl : i0 = b := congrFun hi 0
      obtain rfl : i2 = n := congrFun hi 1
      exact ⟨i1, rfl⟩
    · rintro ⟨k, rfl⟩
      exact ⟨ix3 b k n, by funext a; match a with | ⟨0, _⟩ => rfl | ⟨1, _⟩ => rfl, rfl⟩

/-- The arg-max along the last axis of three hundred similarities. -/
theorem argmax_sim (x : S4x1024x300.Idx → EReal) (h : S4x1024x300.ReducesTo [2] S4x1024) (h' : 0 < S_.numel) (b : Fin 4) (n : Fin 1024) :
    (Host.argReduce (F := Ideal) (φ := .f32) reducer_argmax_f32_i32 x (iotaInDim S4x1024x300 32 2) (constant (F := Ideal) S_ FTy.f32 4286578688#32)
      (constantI S_ 32 0#32) h h' (ix2 b n)).2 = BitVec.ofNat 32 (firstMax fun k : Fin 300 => x (ix3 b n k)).val := by
  rw [argReduce_eq_reduce2, Host.reduce2_eq_foldl_fiber]
  refine foldl_beats id _ reducer_f32 (by decide) (fun k : Fin 300 => x (ix3 b n k)) _ (fun i => ?_) _ (fun p => ?_)
  · show Ideal.ofBits .f32 4286578688#32 ≤ _
    rw [show Ideal.ofBits .f32 4286578688#32 = ⊥ by decide +kernel]; exact bot_le
  · rw [mem_fiber]
    constructor
    · rintro ⟨i, hi, rfl⟩
      obtain ⟨i0, i1, i2, rfl⟩ : ∃ i0 i1 i2, i = ix3 i0 i1 i2 := ⟨_, _, _, eq_ix3 i⟩
      obtain rfl : i0 = b := congrFun hi 0
      obtain rfl : i1 = n := congrFun hi 1
      exact ⟨i2, rfl⟩
    · rintro ⟨k, rfl⟩
      exact ⟨ix3 b n k, by funext a; match a with | ⟨0, _⟩ => rfl | ⟨1, _⟩ => rfl, rfl⟩

/-- The arg-max of each batch's bits. -/
theorem argmax_bits (x : S4x20000.Idx → BitVec 1) (h : S4x20000.ReducesTo [1] S4) (h' : 0 < S_.numel) (b : Fin 4) :
    (Host.reduce2 reducer_argmax_i1_i32 x (iotaInDim S4x20000 32 1) (constantI S_ 1 0#1)
      (constantI S_ 32 0#32) h h' (ix1 b)).2 = BitVec.ofNat 32 (firstMax fun k : Fin 20000 => bit (x (ix2 b k))).val := by
  rw [Host.reduce2_eq_foldl_fiber]
  refine foldl_beats bit _ reducer_i1 (by decide) (fun k : Fin 20000 => x (ix2 b k)) _ (fun i => ?_) _ (fun p => ?_)
  · show bit 0#1 ≤ _
    unfold bit; rw [if_neg (by decide)]; split
    · exact zero_le_one
    · exact le_rfl
  · rw [mem_fiber]
    constructor
    · rintro ⟨i, hi, rfl⟩
      obtain ⟨i0, i1, rfl⟩ : ∃ i0 i1, i = ix2 i0 i1 := ⟨_, _, eq_ix2 i⟩
      obtain rfl : i0 = b := congrFun hi 0
      exact ⟨i1, rfl⟩
    · rintro ⟨k, rfl⟩
      exact ⟨ix2 b k, by funext a; match a with | ⟨0, _⟩ => rfl, rfl⟩

/-- The greatest entry's position in each batch's row. -/
theorem top_row (x : S4x20000.Idx → EReal) (h : S4x20000.Slices (fun _ => 0) S4x1) (b : Fin 4) (u : Fin 1) :
    (Host.topK S4x1 1 (FloatOps.cmpfTotal (F := Ideal) (φ := .f32) .gt) x h).2 (ix2 b u) = BitVec.ofNat 32 (firstMax fun k : Fin 20000 => x (ix2 b k)).val := by
  obtain rfl : u = 0 := Subsingleton.elim _ _
  have := sortedFrom_zero (fun k : Fin 20000 => x (ix2 b k))
    (fun k k' => FloatOps.cmpfTotal (F := Ideal) (φ := .f32) .gt (x (ix2 b k)) (x (ix2 b k')) == 1#1) (by
      intro i j
      simp [Ideal.cmpfTotal_def, Ideal.cmp, CmpDirection.ordered]
      by_cases hh : x (ix2 b j) < x (ix2 b i) <;> simp [hh]) (0 : Fin 20000) rfl
  rw [← this]
  have aj (k : Fin 20000) : Shape.Idx.along (s := S4x20000) (ix2 b (0 : Fin 20000)) 1 k = ix2 b k := by
    funext a; match a with | ⟨0, _⟩ => rfl | ⟨1, _⟩ => rfl
  have two (q : Fin 20000) : ((ix2 b q : S4x20000.Idx) 1).val = q.val := rfl
  have e0 : (fun a : Fin 2 => (⟨0 + ((ix2 b (0 : Fin 1)) a).val, by match a with | ⟨0, _⟩ => simp | ⟨1, _⟩ => simp⟩ : Fin (S4x20000.size a)))
      = ix2 b (0 : Fin 20000) := by
    funext a; match a with | ⟨0, _⟩ => simp | ⟨1, _⟩ => simp
  have key : (Host.topK S4x1 1 (FloatOps.cmpfTotal (F := Ideal) (φ := .f32) .gt) x h).2 (ix2 b (0 : Fin 1))
      = BitVec.ofNat 32 (Shape.Idx.along (s := S4x20000) (ix2 b (0 : Fin 20000)) 1 (sortedFrom (n := 20000) (fun k k' =>
        FloatOps.cmpfTotal (F := Ideal) (φ := .f32) .gt (x (Shape.Idx.along (s := S4x20000) (ix2 b (0 : Fin 20000)) 1 k))
          (x (Shape.Idx.along (s := S4x20000) (ix2 b (0 : Fin 20000)) 1 k')) == 1#1) (0 : Fin 20000)) 1).val := by
    rw [← e0]
    rfl
  rw [key]
  simp only [aj]
  exact congrArg (BitVec.ofNat 32) (two _)

end Cert.Proof.Ref

end
-- ==== Proof.RefPre.lean ====
/-
  What the reference leaves before its loop: the scores of every point, the graspable mask, the first point of each batch.
-/
module

public import proofs.«01_k».proof.Proof.RFrame
public import proofs.«01_k».proof.Proof.RefArg
public import proofs.«01_k».proof.Proof.Spec
public import Idealize.ShloMosaic.Lib.Pointwise
public import Idealize.ShloMosaic.Lib.KernelVsHost
public import Idealize.ShloMosaic.Lib.ValueLayout

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe Idealize.SL.Sem
open Cert.Proof.Spec

/-- The contents of a reference, read as an array. -/
abbrev at3 (V : Valuation τ sig (Elt Ideal)) (r : Ref sig .tc) := V (Proc.devRef .tc r)

/-- The reference's inputs, as functions of their indices. -/
def input (V : Valuation τ sig (Elt Ideal)) : Input where
  xyz b n j := V (Proc.devRef .tc main_arg0) (ix3 b n j)
  feat b c n := V (Proc.devRef .tc main_arg1) (ix3 b c n)
  scores :=
    { w1 := fun i k => V (Proc.devRef .tc main_arg2) (ix2 i k)
      b1 := fun i => V (Proc.devRef .tc main_arg3) (ix1 i)
      ga := fun i => V (Proc.devRef .tc main_arg4) (ix1 i)
      be := fun i => V (Proc.devRef .tc main_arg5) (ix1 i)
      mu := fun i => V (Proc.devRef .tc main_arg6) (ix1 i)
      va := fun i => V (Proc.devRef .tc main_arg7) (ix1 i)
      w2 := fun i k => V (Proc.devRef .tc main_arg8) (ix2 i k)
      b2 := fun i => V (Proc.devRef .tc main_arg9) (ix1 i) }
  head :=
    { w1 := fun i k => V (Proc.devRef .tc main_arg10) (ix2 i k)
      b1 := fun i => V (Proc.devRef .tc main_arg11) (ix1 i)
      ga := fun i => V (Proc.devRef .tc main_arg12) (ix1 i)
      be := fun i => V (Proc.devRef .tc main_arg13) (ix1 i)
      mu := fun i => V (Proc.devRef .tc main_arg14) (ix1 i)
      va := fun i => V (Proc.devRef .tc main_arg15) (ix1 i)
      w2 := fun i k => V (Proc.devRef .tc main_arg16) (ix2 i k)
      b2 := fun i => V (Proc.devRef .tc main_arg17) (ix1 i) }

/-- The first layer, normalised. -/
theorem v19_eq (V : Valuation τ sig (Elt Ideal)) (b : Fin 4) (i : Fin 256) (n : Fin 20000) :
    after hostOps0 V (Proc.devRef .tc main_v19) (ix3 b i n) = (input V).scores.norm (fun c => (input V).feat b c n) i := by
  after_reads_simp
  pointwise
  rfl

/-- The rectified first layer. -/
theorem v20_eq (V : Valuation τ sig (Elt Ideal)) (b : Fin 4) (i : Fin 256) (n : Fin 20000) :
    after hostOps0_1 (after hostOps0 V) (Proc.devRef .tc main_v20) (ix3 b i n)
      = max ((input V).scores.norm (fun c => (input V).feat b c n) i) 0 := by
  rw [← v19_eq V b i n]
  generalize after hostOps0 V = W
  after_reads_simp
  simp -implicitDefEqProofs only [TRef.toBuf, TRef.ofBuf, cast_cast, cast_eq]
  pointwise

/-- The three scores of every point. -/
theorem v25_eq (V : Valuation τ sig (Elt Ideal)) (b : Fin 4) (o : Fin 3) (n : Fin 20000) :
    after hostOps0_2 (after hostOps0_1 (after hostOps0 V)) (Proc.devRef .tc main_v25) (ix3 b o n) = (input V).g b n o := by
  have e8 : after hostOps0_1 (after hostOps0 V) (Proc.devRef .tc main_arg8) = V (Proc.devRef .tc main_arg8) := by
    rw [after_of_writes_sub _ _ hostOps0_1_writes (by decide), after_of_writes_sub _ _ hostOps0_writes (by decide)]
  have e9 : after hostOps0_1 (after hostOps0 V) (Proc.devRef .tc main_arg9) = V (Proc.devRef .tc main_arg9) := by
    rw [after_of_writes_sub _ _ hostOps0_1_writes (by decide), after_of_writes_sub _ _ hostOps0_writes (by decide)]
  have e20 := v20_eq V b
  revert e8 e9 e20
  generalize after hostOps0_1 (after hostOps0 V) = W
  intro e8 e9 e20
  after_reads_simp
  pointwise
  simp only [e8, e9, e20]
  rfl

/-- The second score is the third row of the graspable scores. -/
theorem v28_eq (V : Valuation τ sig (Elt Ideal)) (b : Fin 4) (n : Fin 20000) :
    after hostOps0_2 V (Proc.devRef .tc main_v28) (ix2 b n) = after hostOps0_2 V (Proc.devRef .tc main_v25) (ix3 b 2 n) := by
  after_reads_simp
  pointwise

/-- The objectness scores are the first two rows of the graspable scores. -/
theorem v26_eq (V : Valuation τ sig (Elt Ideal)) (b : Fin 4) (k : Fin 2) (n : Fin 20000) :
    after hostOps0_2 V (Proc.devRef .tc main_v26) (ix3 b k n)
      = after hostOps0_2 V (Proc.devRef .tc main_v25) (ix3 b (Fin.castLE (by decide) k) n) := by
  after_reads_simp
  pointwise
  rfl

/-- Which of the two objectness scores is greater. -/
theorem v29_eq (V : Valuation τ sig (Elt Ideal)) (b : Fin 4) (n : Fin 20000) :
    after hostOps0_3 V (Proc.devRef .tc main_v29) (ix2 b n)
      = BitVec.ofNat 32 (firstMax fun k : Fin 2 => V (Proc.devRef .tc main_v26) (ix3 b k n)).val := by
  after_reads_simp
  simp -implicitDefEqProofs only [TRef.toBuf, TRef.ofBuf, cast_cast, cast_eq]
  exact argmax_pair _ _ _ b n

/-- Of two scores the second is the first greatest exactly when it exceeds the first. -/
theorem firstMax_two (f : Fin 2 → EReal) : firstMax f = 1 ↔ f 0 < f 1 := by
  constructor
  · intro h
    have := firstMax_spec f
    rw [h] at this
    exact this.2 0 (by decide)
  · intro h
    refine IsFirstMax.eq ⟨fun j => ?_, fun j hj => ?_⟩
    · match j with
      | 0 => exact h.le
      | 1 => exact le_rfl
    · match j with
      | 0 => exact h
      | 1 => exact absurd hj (lt_irrefl _)

/-- The mask's bit. -/
theorem v34_eq (V : Valuation τ sig (Elt Ideal)) (b : Fin 4) (n : Fin 20000) :
    after hostOps0_4 V (Proc.devRef .tc main_v34) (ix2 b n) = 1#1 ↔
      Ideal.ofBits .f32 1036831949#32 < (V (Proc.devRef .tc main_v28) (ix2 b n) : EReal)
        ∧ V (Proc.devRef .tc main_v29) (ix2 b n) = 1#32 := by
  after_reads_simp
  pointwise
  have and_bit : ∀ u v : Bool, IntOp.andi (BitVec.ofBool u) (BitVec.ofBool v) = 1#1 ↔ u = true ∧ v = true := by decide
  refine (and_bit _ _).trans (and_congr decide_eq_true_iff ?_)
  exact beq_iff_eq

/-- The first graspable point of each batch. -/
theorem v36_eq (V : Valuation τ sig (Elt Ideal)) (b : Fin 4)  :
    after hostOps0_5 V (Proc.devRef .tc main_v36) (ix1 b)
      = BitVec.ofNat 32 (firstMax fun k : Fin 20000 => bit (V (Proc.devRef .tc main_v34) (ix2 b k))).val := by
  after_reads_simp
  simp -implicitDefEqProofs only [TRef.toBuf, TRef.ofBuf, cast_cast, cast_eq]
  exact argmax_bits _ _ _ b

/-- What the loop starts from. -/
theorem init_eq (V : Valuation τ sig (Elt Ideal)) :
    after hostOps0_6 V (Proc.devRef .tc main_v38_0) = V (Proc.devRef .tc main_arg0)
      ∧ after hostOps0_6 V (Proc.devRef .tc main_v38_1) = V (Proc.devRef .tc main_v34)
      ∧ after hostOps0_6 V (Proc.devRef .tc main_v38_2) = (fun _ => 0#32)
      ∧ after hostOps0_6 V (Proc.devRef .tc main_v38_3) = V (Proc.devRef .tc main_v35)
      ∧ after hostOps0_6 V (Proc.devRef .tc main_v38_4) = V (Proc.devRef .tc main_v36)
      ∧ after hostOps0_6 V (Proc.devRef .tc main_v38_5) = (fun _ => 0#32) := by
  refine ⟨?_, ?_, ?_, ?_, ?_, ?_⟩
  all_goals after_reads_simp
  all_goals rfl

/-- The starting distances. -/
theorem v35_eq (V : Valuation τ sig (Elt Ideal)) (b : Fin 4) (n : Fin 20000) :
    after hostOps0_4 V (Proc.devRef .tc main_v35) (ix2 b n) = Ideal.ofBits .f32 1343554297#32 := by
  after_reads_simp
  pointwise

/-! ## The contents the loop starts from -/

/-- What the stretches before the loop leave. -/
structure Entry (V E : Valuation τ sig (Elt Ideal)) : Prop where
  g : ∀ b o n, E (Proc.devRef .tc main_v25) (ix3 b o n) = (input V).g b n o
  object : ∀ b k n, E (Proc.devRef .tc main_v26) (ix3 b k n) = (input V).g b n (Fin.castLE (by decide) k)
  grasp : ∀ b n, E (Proc.devRef .tc main_v28) (ix2 b n) = (input V).g b n 2
  xyz : E (Proc.devRef .tc main_v38_0) = V (Proc.devRef .tc main_arg0)
  mask : ∀ b n, E (Proc.devRef .tc main_v38_1) (ix2 b n) = 1#1 ↔ (input V).mask b n
  ctr : E (Proc.devRef .tc main_v38_2) = fun _ => 0#32
  d : ∀ b n, E (Proc.devRef .tc main_v38_3) (ix2 b n) = Ideal.ofBits .f32 1343554297#32
  last : ∀ b, E (Proc.devRef .tc main_v38_4) (ix1 b) = BitVec.ofNat 32 (firstPoint ((input V).mask b)).val
  inds : E (Proc.devRef .tc main_v38_5) = fun _ => 0#32

theorem entry (V : Valuation τ sig (Elt Ideal)) : Entry V (afterL preI V) := by
  simp only [afterL_cons, afterL_nil]
  have h25 := v25_eq V
  have a2 : after hostOps0_1 (after hostOps0 V) (Proc.devRef .tc main_arg0) = V (Proc.devRef .tc main_arg0) := by
    rw [after_of_writes_sub _ _ hostOps0_1_writes (by decide), after_of_writes_sub _ _ hostOps0_writes (by decide)]
  revert h25 a2
  generalize after hostOps0_1 (after hostOps0 V) = W1
  intro h25 a2
  have h28 := v28_eq W1
  have h26 := v26_eq W1
  have a3 : after hostOps0_2 W1 (Proc.devRef .tc main_arg0) = V (Proc.devRef .tc main_arg0) := by
    rw [after_of_writes_sub _ _ hostOps0_2_writes (by decide), a2]
  revert h25 h28 h26 a3
  generalize after hostOps0_2 W1 = W2
  intro h25 h28 h26 a3
  have h29 := v29_eq W2
  have k3 (r : Ref sig .tc) (h : r ∉ hostOps0_3_W) : after hostOps0_3 W2 (Proc.devRef .tc r) = W2 (Proc.devRef .tc r) :=
    after_of_writes_sub _ _ hostOps0_3_writes h
  revert h29 k3
  generalize after hostOps0_3 W2 = W3
  intro h29 k3
  have h34 := v34_eq W3
  have h35 := v35_eq W3
  have k4 (r : Ref sig .tc) (h : r ∉ hostOps0_4_W) : after hostOps0_4 W3 (Proc.devRef .tc r) = W3 (Proc.devRef .tc r) :=
    after_of_writes_sub _ _ hostOps0_4_writes h
  revert h34 h35 k4
  generalize after hostOps0_4 W3 = W4
  intro h34 h35 k4
  have h36 := v36_eq W4
  have k5 (r : Ref sig .tc) (h : r ∉ hostOps0_5_W) : after hostOps0_5 W4 (Proc.devRef .tc r) = W4 (Proc.devRef .tc r) :=
    after_of_writes_sub _ _ hostOps0_5_writes h
  revert h36 k5
  generalize after hostOps0_5 W4 = W5
  intro h36 k5
  obtain ⟨i0, i1, i2, i3, i4, i5⟩ := init_eq W5
  have k6 (r : Ref sig .tc) (h : r ∉ hostOps0_6_W) : after hostOps0_6 W5 (Proc.devRef .tc r) = W5 (Proc.devRef .tc r) :=
    after_of_writes_sub _ _ hostOps0_6_writes h
  have hm (b : Fin 4) (n : Fin 20000) : W4 (Proc.devRef .tc main_v34) (ix2 b n) = 1#1 ↔ (input V).mask b n := by
    rw [h34, k3 main_v28 (by decide), h28, h25, h29]
    unfold Input.mask graspable
    refine and_congr Iff.rfl ?_
    have e : (fun k : Fin 2 => W2 (Proc.devRef .tc main_v26) (ix3 b k n))
        = fun k : Fin 2 => (input V).g b n (Fin.castLE (by decide) k) := by
      funext k; rw [h26, h25]
    rw [e, show (1#32 : BitVec 32) = BitVec.ofNat 32 (1 : Fin 2).val from rfl]
    constructor
    · intro h
      refine (firstMax_two fun k : Fin 2 => (input V).g b n (Fin.castLE (by decide) k)).mp ?_
      have := congrArg BitVec.toNat h
      have hl := (firstMax fun k : Fin 2 => (input V).g b n (Fin.castLE (by decide) k)).isLt
      simp only [BitVec.toNat_ofNat] at this
      apply Fin.ext
      rw [Nat.mod_eq_of_lt (by omega)] at this
      exact this
    · intro h
      exact congrArg (fun i : Fin 2 => BitVec.ofNat 32 i.val) ((firstMax_two fun k : Fin 2 => (input V).g b n (Fin.castLE (by decide) k)).mpr h)
  refine ⟨?_, ?_, ?_, ?_, ?_, i2, ?_, ?_, i5⟩
  · intro b o n
    rw [k6 _ (by decide), k5 _ (by decide), k4 _ (by decide), k3 _ (by decide), h25]
  · intro b o n
    rw [k6 _ (by decide), k5 _ (by decide), k4 _ (by decide), k3 _ (by decide), h26, h25]
  · intro b n
    rw [k6 _ (by decide), k5 _ (by decide), k4 _ (by decide), k3 _ (by decide), h28, h25]
  · rw [i0, k5 _ (by decide), k4 _ (by decide), k3 _ (by decide), a3]
  · intro b n
    rw [i1, k5 _ (by decide), hm]
  · intro b n
    rw [i3, k5 _ (by decide), h35]
  · intro b
    rw [i4, h36]
    unfold firstPoint
    refine congrArg (fun f : Fin 20000 → EReal => BitVec.ofNat 32 (firstMax f).val) (funext fun n => ?_)
    unfold bit
    by_cases h : (input V).mask b n
    · rw [if_pos h, if_pos ((hm b n).mpr h)]
    · rw [if_neg h, if_neg fun h' => h ((hm b n).mp h')]

end Cert.Proof.Ref

end
-- ==== Proof.RefLoop.lean ====
/-
  The reference's loop: after `k` trips it holds the distances and the last point of `k` sampling steps, and the points so far.
-/
module

public import proofs.«01_k».proof.Proof.RefPre
public import Idealize.ShloMosaic.Lib.WordCmp

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe Idealize.SL.Sem
open Cert.Proof.Spec

/-! ## Reading at gathered rows -/

/-- A word below 20000 read as a row number. -/
theorem row_word (i : Fin 20000) : min (BitVec.ofNat 32 i.val).toInt.toNat (20000 - 1) = i.val := by
  have := i.isLt
  rw [BitVec.toInt_eq_toNat_of_lt] <;> simp <;> omega

/-- A word below 20000 is not negative. -/
theorem wrap_word (i : Fin 20000) (v : BitVec 32) (h : v = BitVec.ofNat 32 i.val) (w : BitVec 32) :
    Scalar.select (IntOp.cmpi .slt v 0#32) w v = BitVec.ofNat 32 i.val := by
  subst h
  have := i.isLt
  have h : BitVec.slt (BitVec.ofNat 32 i.val) 0#32 = false := by
    rw [BitVec.slt_eq_decide, BitVec.toInt_eq_toNat_of_lt] <;> simp <;> omega
  simp [IntOp.cmpi, h, Scalar.select]

theorem gather_one (x : S4x20000x3.Idx → EReal) (idx : IVec S4x1x1 32) (b : Fin 4) (u : Fin 1) (j : Fin 3) (i : Fin 20000)
    (h : idx (ix3 b 0 0) = BitVec.ofNat 32 i.val) :
    Host.gather gather_S4x20000x3_S4x1x1_S4x1x3_2_1_0_0_1_2_113 x idx (ix3 b u j) = x (ix3 b i j) := by
  obtain rfl : u = 0 := Subsingleton.elim _ _
  refine congrArg x (funext fun a => Fin.ext ?_)
  match a with
  | ⟨0, _⟩ => show 0 + b.val + 0 = b.val; omega
  | ⟨1, _⟩ =>
    show min (idx _).toInt.toNat (20000 - 1) + 0 + 0 = i.val
    rw [show (idx _) = idx (ix3 b 0 0) from congrArg idx (by funext a; match a with | ⟨0, _⟩ => rfl | ⟨1, _⟩ => rfl | ⟨2, _⟩ => rfl), h,
      row_word]
    rfl
  | ⟨2, _⟩ => show 0 + 0 + j.val = j.val; omega

/-! ## One trip -/

/-- The new distances. -/
theorem v146_eq (V : Valuation τ sig (Elt Ideal)) (b : Fin 4) (n : Fin 20000) (l : Fin 20000)
    (hl : V (Proc.devRef .tc main_v38_4) (ix1 b) = BitVec.ofNat 32 l.val)
    (X : S4x20000x3.Idx → EReal) (hX : V (Proc.devRef .tc main_v38_0) = X) (D : S4x20000.Idx → EReal)
    (hD : V (Proc.devRef .tc main_v38_3) = D) :
    res_main_while0b_v146 V (ix2 b n)
      = nearer (fun n j => X (ix3 b n j)) (fun n => D (ix2 b n)) l n := by
  have h143 (j : Fin 3) : res_main_while0b_v143 V (ix3 b n j)
      = X (ix3 b n j) - X (ix3 b l j) := by
    unfold res_main_while0b_v143 res_main_while0b_v140
    pointwise
    rw [hX, gather_one _ _ b _ j l]
    · pointwise
      exact wrap_word l _ hl _
  unfold res_main_while0b_v146 nearer Spec.dist
  pointwise
  rw [Fin.sum_univ_three, h143, h143, h143, hD]

/-- The values a trip maximises. -/
theorem v147_eq (V : Valuation τ sig (Elt Ideal)) (b : Fin 4) (n : Fin 20000) (mask : Fin 20000 → Prop)
    (hm : ∀ n, V (Proc.devRef .tc main_v38_1) (ix2 b n) = 1#1 ↔ mask n) :
    res_main_while0b_v147 V (ix2 b n) = masked mask (fun n => res_main_while0b_v146 V (ix2 b n)) n := by
  unfold res_main_while0b_v147 masked
  pointwise
  by_cases h : mask n
  · rw [if_pos h, (hm n).mpr h]; rfl
  · rw [if_neg h]
    have : V (Proc.devRef .tc main_v38_1) (ix2 b n) ≠ 1#1 := fun h' => h ((hm n).mp h')
    unfold Scalar.select
    exact if_neg this

/-- The next point. -/
theorem last_eq (V : Valuation τ sig (Elt Ideal)) (b : Fin 4) :
    step_main_v38_4 V (ix1 b) = BitVec.ofNat 32 (firstMax fun n : Fin 20000 => res_main_while0b_v147 V (ix2 b n)).val := by
  rw [← top_row (res_main_while0b_v147 V) sliceFits_S4x20000_S4x1 b 0]
  unfold step_main_v38_4
  rw [id]
  pointwise

/-- The table of points gains the last point as its row at the counter. -/
theorem inds_eq (V : Valuation τ sig (Elt Ideal)) (k i : Fin 1024) (b : Fin 4)
    (hk : V (Proc.devRef .tc main_v38_2) = fun _ => BitVec.ofNat 32 k.val) :
    step_main_v38_5 V (ix2 i b) = if i = k then V (Proc.devRef .tc main_v38_4) (ix1 b) else V (Proc.devRef .tc main_v38_5) (ix2 i b) := by
  have := k.isLt
  unfold step_main_v38_5
  rw [id]
  refine (congrFun (WordCmp.dynamicUpdateSlice_eq_update (s := S1024x4) (u := S1x4) _ _ _ _ ![k.val, 0]
    ⟨rfl, by intro a; match a with | ⟨0, _⟩ => exact k.isLt | ⟨1, _⟩ => exact le_rfl⟩ (by
    intro a
    match a with
    | ⟨0, _⟩ =>
      show (V (Proc.devRef .tc main_v38_2) _).toInt = _
      rw [hk, BitVec.toInt_eq_toNat_of_lt] <;> simp <;> omega
    | ⟨1, _⟩ => rfl)) _).trans ?_
  by_cases h : i = k
  · subst h
    rw [if_pos rfl]
    simp only [updateSlice]
    rw [dif_pos]
    · pointwise
    · intro a
      match a with | ⟨0, _⟩ => simp | ⟨1, _⟩ => simp
  · rw [if_neg h]
    simp only [updateSlice]
    rw [dif_neg]
    intro hh
    have := hh 0
    simp at this
    exact h (Fin.ext (by omega))

/-! ## The trips -/

/-- What the loop holds after `k` trips. -/
structure Held (V : Valuation τ sig (Elt Ideal)) (S : Valuation τ sig (Elt Ideal)) (k : ℕ) : Prop where
  xyz : S (Proc.devRef .tc main_v38_0) = V (Proc.devRef .tc main_arg0)
  mask : ∀ b n, S (Proc.devRef .tc main_v38_1) (ix2 b n) = 1#1 ↔ (input V).mask b n
  ctr : S (Proc.devRef .tc main_v38_2) = fun _ => BitVec.ofNat 32 k
  d : ∀ b n, S (Proc.devRef .tc main_v38_3) (ix2 b n) = (fps ((input V).xyz b) ((input V).mask b) k).1 n
  last : ∀ b, S (Proc.devRef .tc main_v38_4) (ix1 b) = BitVec.ofNat 32 ((input V).ind b k).val
  inds : ∀ (b : Fin 4) (i : Fin 1024), i.val < k →
    S (Proc.devRef .tc main_v38_5) (ix2 i b) = BitVec.ofNat 32 ((input V).ind b i).val

/-- One trip takes one sampling step. -/
theorem held_step (V S : Valuation τ sig (Elt Ideal)) (k : Fin 1024) (h : Held V S k) : Held V (STEP S) (k + 1) := by
  have h146 (b : Fin 4) (n : Fin 20000) : res_main_while0b_v146 S (ix2 b n)
      = nearer ((input V).xyz b) (fps ((input V).xyz b) ((input V).mask b) k).1 ((input V).ind b k) n := by
    rw [v146_eq S b n ((input V).ind b k) (h.last b) (S (Proc.devRef .tc main_v38_0)) rfl (S (Proc.devRef .tc main_v38_3)) rfl]
    rw [h.xyz]
    simp only [h.d]
    rfl
  refine ⟨?_, ?_, ?_, ?_, ?_, ?_⟩
  · rw [STEP_main_v38_0, h.xyz]
  · intro b n; rw [STEP_main_v38_1, h.mask]
  · rw [STEP_main_v38_2]; unfold step_main_v38_2
    rw [h.ctr]
    funext i
    show BitVec.ofNat 32 k.val + 1#32 = BitVec.ofNat 32 (k.val + 1)
    rw [BitVec.ofNat_add]
  · intro b n
    rw [STEP_main_v38_3]; unfold step_main_v38_3
    exact h146 b n
  · intro b
    rw [STEP_main_v38_4, last_eq]
    refine congrArg (fun f : Fin 20000 → EReal => BitVec.ofNat 32 (firstMax f).val) (funext fun n => ?_)
    rw [v147_eq S b n _ (h.mask b)]
    simp only [h146]
    rfl
  · intro b i hi
    rw [STEP_main_v38_5, inds_eq S k i b h.ctr]
    by_cases e : i = k
    · rw [if_pos e, h.last, e]
    · rw [if_neg e, h.inds b i (by have := fun h' => e (Fin.ext h'); omega)]

/-- After `k` trips the loop holds `k` sampling steps' values. -/
theorem held (V E : Valuation τ sig (Elt Ideal)) (hE : Entry V E) : ∀ k : ℕ, k ≤ 1024 → Held V (STEP^[k] E) k
  | 0, _ => ⟨hE.xyz, hE.mask, hE.ctr, hE.d, hE.last, fun _ _ h => absurd h (Nat.not_lt_zero _)⟩
  | k + 1, hk => by
    rw [Function.iterate_succ_apply']
    exact held_step V _ ⟨k, hk⟩ (held V E hE k (by omega))

end Cert.Proof.Ref

end
-- ==== Proof.RefGather.lean ====
/-
  The reference's sampled points: their indices, coordinates, features and graspness.
-/
module

public import proofs.«01_k».proof.Proof.RefLoop

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe Idealize.SL.Sem
open Cert.Proof.Spec

theorem gather_xyz (x : S4x20000x3.Idx → EReal) (idx : IVec S4x1024x1 32) (b : Fin 4) (k : Fin 1024) (j : Fin 3) (i : Fin 20000)
    (h : idx (ix3 b k 0) = BitVec.ofNat 32 i.val) :
    Host.gather gather_S4x20000x3_S4x1024x1_S4x1024x3_2_1_0_0_1_2_113 x idx (ix3 b k j) = x (ix3 b i j) := by
  refine congrArg x (funext fun a => Fin.ext ?_)
  match a with
  | ⟨0, _⟩ => show 0 + b.val + 0 = b.val; omega
  | ⟨1, _⟩ =>
    show min (idx _).toInt.toNat (20000 - 1) + 0 + 0 = i.val
    rw [show (idx _) = idx (ix3 b k 0) from congrArg idx (by funext a; match a with | ⟨0, _⟩ => rfl | ⟨1, _⟩ => rfl | ⟨2, _⟩ => rfl), h,
      row_word]
    rfl
  | ⟨2, _⟩ => show 0 + 0 + j.val = j.val; omega

theorem gather_feat (x : S4x20000x256.Idx → EReal) (idx : IVec S4x1024x1 32) (b : Fin 4) (k : Fin 1024) (j : Fin 256) (i : Fin 20000)
    (h : idx (ix3 b k 0) = BitVec.ofNat 32 i.val) :
    Host.gather gather_S4x20000x256_S4x1024x1_S4x1024x256_2_1_0_0_1_2_11256 x idx (ix3 b k j) = x (ix3 b i j) := by
  refine congrArg x (funext fun a => Fin.ext ?_)
  match a with
  | ⟨0, _⟩ => show 0 + b.val + 0 = b.val; omega
  | ⟨1, _⟩ =>
    show min (idx _).toInt.toNat (20000 - 1) + 0 + 0 = i.val
    rw [show (idx _) = idx (ix3 b k 0) from congrArg idx (by funext a; match a with | ⟨0, _⟩ => rfl | ⟨1, _⟩ => rfl | ⟨2, _⟩ => rfl), h,
      row_word]
    rfl
  | ⟨2, _⟩ => show 0 + 0 + j.val = j.val; omega

theorem gather_grasp (x : S4x20000.Idx → EReal) (idx : IVec S4x1024x1 32) (b : Fin 4) (k : Fin 1024) (i : Fin 20000)
    (h : idx (ix3 b k 0) = BitVec.ofNat 32 i.val) :
    Host.gather gather_S4x20000_S4x1024x1_S4x1024_n_1_0_0_1_2_11 x idx (ix2 b k) = x (ix2 b i) := by
  refine congrArg x (funext fun a => Fin.ext ?_)
  match a with
  | ⟨0, _⟩ => show 0 + b.val + 0 = b.val; omega
  | ⟨1, _⟩ =>
    show min (idx _).toInt.toNat (20000 - 1) + 0 + 0 = i.val
    rw [show (idx _) = idx (ix3 b k 0) from congrArg idx (by funext a; match a with | ⟨0, _⟩ => rfl | ⟨1, _⟩ => rfl | ⟨2, _⟩ => rfl), h,
      row_word]
    rfl

/-- The table of points by batch, and as a column of start indices. -/
theorem v39_eq (V : Valuation τ sig (Elt Ideal)) (b : Fin 4) (k : Fin 1024) :
    after hostOps0_7 V (Proc.devRef .tc main_v39) (ix2 b k) = V (Proc.devRef .tc main_v38_5) (ix2 k b)
      ∧ after hostOps0_7 V (Proc.devRef .tc main_v40) (ix3 b k 0) = V (Proc.devRef .tc main_v38_5) (ix2 k b) := by
  constructor <;> after_reads_simp <;> pointwise

/-- The sampled coordinates. -/
theorem v41_eq (V : Valuation τ sig (Elt Ideal)) (b : Fin 4) (k : Fin 1024) (j : Fin 3) (i : Fin 20000)
    (h : V (Proc.devRef .tc main_v40) (ix3 b k 0) = BitVec.ofNat 32 i.val) :
    after hostOps0_8 V (Proc.devRef .tc main_v41) (ix3 b k j) = V (Proc.devRef .tc main_arg0) (ix3 b i j) := by
  after_reads_simp
  simp -implicitDefEqProofs only [TRef.toBuf, TRef.ofBuf, cast_cast, cast_eq]
  rw [gather_xyz _ _ b k j i]
  pointwise
  exact wrap_word i _ h _

theorem v43_eq (V : Valuation τ sig (Elt Ideal)) (b : Fin 4) (k : Fin 1024) :
    after hostOps0_9 V (Proc.devRef .tc main_v43) (ix3 b k 0) = V (Proc.devRef .tc main_v39) (ix2 b k) := by
  after_reads_simp; pointwise

theorem v42_eq (V : Valuation τ sig (Elt Ideal)) (b : Fin 4) (n : Fin 20000) (c : Fin 256) :
    after hostOps0_9 V (Proc.devRef .tc main_v42) (ix3 b n c) = V (Proc.devRef .tc main_arg1) (ix3 b c n) := by
  after_reads_simp; pointwise

theorem v44_eq (V : Valuation τ sig (Elt Ideal)) (b : Fin 4) (k : Fin 1024) (j : Fin 256) (i : Fin 20000)
    (h : V (Proc.devRef .tc main_v43) (ix3 b k 0) = BitVec.ofNat 32 i.val) :
    after hostOps0_10 V (Proc.devRef .tc main_v44) (ix3 b k j) = V (Proc.devRef .tc main_v42) (ix3 b i j) := by
  after_reads_simp
  simp -implicitDefEqProofs only [TRef.toBuf, TRef.ofBuf, cast_cast, cast_eq]
  rw [gather_feat _ _ b k j i]
  pointwise
  exact wrap_word i _ h _

/-- The sampled features. -/
theorem v45_eq (V : Valuation τ sig (Elt Ideal)) (b : Fin 4) (c : Fin 256) (k : Fin 1024) :
    after hostOps0_11 V (Proc.devRef .tc main_v45) (ix3 b c k) = V (Proc.devRef .tc main_v44) (ix3 b k c) := by
  after_reads_simp; pointwise

/-- The sampled graspness. -/
theorem v46_eq (V : Valuation τ sig (Elt Ideal)) (b : Fin 4) (k : Fin 1024) (i : Fin 20000)
    (h : V (Proc.devRef .tc main_v39) (ix2 b k) = BitVec.ofNat 32 i.val) :
    after hostOps0_12 V (Proc.devRef .tc main_v46) (ix2 b k) = V (Proc.devRef .tc main_v28) (ix2 b i) := by
  after_reads_simp
  simp -implicitDefEqProofs only [TRef.toBuf, TRef.ofBuf, cast_cast, cast_eq]
  rw [gather_grasp _ _ b k i]
  pointwise
  exact wrap_word i _ h _

/-! ## All of them -/

/-- What the gathers leave. -/
structure Sampled (I : Input) (G : Valuation τ sig (Elt Ideal)) : Prop where
  inds : ∀ b (k : Fin 1024), G (Proc.devRef .tc main_v39) (ix2 b k) = BitVec.ofNat 32 (I.ind b k).val
  xyz : ∀ b (k : Fin 1024) j, G (Proc.devRef .tc main_v41) (ix3 b k j) = I.xyz b (I.ind b k) j
  feat : ∀ b c (k : Fin 1024), G (Proc.devRef .tc main_v45) (ix3 b c k) = I.feat b c (I.ind b k)
  grasp : ∀ b (k : Fin 1024), G (Proc.devRef .tc main_v46) (ix2 b k) = I.g b (I.ind b k) 2

theorem sampled (V S : Valuation τ sig (Elt Ideal)) (h5 : ∀ (b : Fin 4) (i : Fin 1024),
      S (Proc.devRef .tc main_v38_5) (ix2 i b) = BitVec.ofNat 32 ((input V).ind b i).val)
    (h0 : S (Proc.devRef .tc main_arg0) = V (Proc.devRef .tc main_arg0)) (h1 : S (Proc.devRef .tc main_arg1) = V (Proc.devRef .tc main_arg1))
    (h28 : ∀ b n, S (Proc.devRef .tc main_v28) (ix2 b n) = (input V).g b n 2) : Sampled (input V) (afterL gathers S) := by
  simp only [afterL_cons, afterL_nil]
  have e39 (b : Fin 4) (k : Fin 1024) := (v39_eq S b k).1.trans (h5 b k)
  have e40 (b : Fin 4) (k : Fin 1024) := (v39_eq S b k).2.trans (h5 b k)
  have k7 (r : Ref sig .tc) (h : r ∉ hostOps0_7_W) : after hostOps0_7 S (Proc.devRef .tc r) = S (Proc.devRef .tc r) :=
    after_of_writes_sub _ _ hostOps0_7_writes h
  revert e39 e40 k7
  generalize after hostOps0_7 S = W7
  intro e39 e40 k7
  have e41 (b : Fin 4) (k : Fin 1024) (j : Fin 3) := v41_eq W7 b k j _ (e40 b k)
  have k8 (r : Ref sig .tc) (h : r ∉ hostOps0_8_W) : after hostOps0_8 W7 (Proc.devRef .tc r) = W7 (Proc.devRef .tc r) :=
    after_of_writes_sub _ _ hostOps0_8_writes h
  revert e41 k8
  generalize after hostOps0_8 W7 = W8
  intro e41 k8
  have e42 := v42_eq W8
  have e43 := v43_eq W8
  have k9 (r : Ref sig .tc) (h : r ∉ hostOps0_9_W) : after hostOps0_9 W8 (Proc.devRef .tc r) = W8 (Proc.devRef .tc r) :=
    after_of_writes_sub _ _ hostOps0_9_writes h
  revert e42 e43 k9
  generalize after hostOps0_9 W8 = W9
  intro e42 e43 k9
  have e44 (b : Fin 4) (k : Fin 1024) (j : Fin 256) := v44_eq W9 b k j ((input V).ind b k) (by rw [e43, k8 _ (by decide), e39])
  have k10 (r : Ref sig .tc) (h : r ∉ hostOps0_10_W) : after hostOps0_10 W9 (Proc.devRef .tc r) = W9 (Proc.devRef .tc r) :=
    after_of_writes_sub _ _ hostOps0_10_writes h
  revert e44 k10
  generalize after hostOps0_10 W9 = W10
  intro e44 k10
  have e45 := v45_eq W10
  have k11 (r : Ref sig .tc) (h : r ∉ hostOps0_11_W) : after hostOps0_11 W10 (Proc.devRef .tc r) = W10 (Proc.devRef .tc r) :=
    after_of_writes_sub _ _ hostOps0_11_writes h
  revert e45 k11
  generalize after hostOps0_11 W10 = W11
  intro e45 k11
  have f39 (b : Fin 4) (k : Fin 1024) : W11 (Proc.devRef .tc main_v39) (ix2 b k) = BitVec.ofNat 32 ((input V).ind b k).val := by
    rw [k11 _ (by decide), k10 _ (by decide), k9 _ (by decide), k8 _ (by decide), e39]
  have e46 (b : Fin 4) (k : Fin 1024) := v46_eq W11 b k _ (f39 b k)
  have k12 (r : Ref sig .tc) (h : r ∉ hostOps0_12_W) : after hostOps0_12 W11 (Proc.devRef .tc r) = W11 (Proc.devRef .tc r) :=
    after_of_writes_sub _ _ hostOps0_12_writes h
  refine ⟨?_, ?_, ?_, ?_⟩
  · intro b k; rw [k12 _ (by decide), f39]
  · intro b k j
    rw [k12 _ (by decide), k11 _ (by decide), k10 _ (by decide), k9 _ (by decide), e41, k7 _ (by decide), h0]; rfl
  · intro b c k
    rw [k12 _ (by decide), e45, e44, e42, k8 _ (by decide), k7 _ (by decide), h1]; rfl
  · intro b k
    rw [e46, k11 _ (by decide), k10 _ (by decide), k9 _ (by decide), k8 _ (by decide), k7 _ (by decide), h28]

end Cert.Proof.Ref

end
-- ==== Proof.RefHead.lean ====
/-
  The reference's head: predicted directions, their similarities to the template, the most similar view.
-/
module

public import proofs.«01_k».proof.Proof.RefGather

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe Idealize.SL.Sem
open Cert.Proof.Spec

/-- The first layer of the head, normalised. -/
theorem v66_eq (V : Valuation τ sig (Elt Ideal)) (b : Fin 4) (i : Fin 256) (k : Fin 1024) (x : Fin 256 → EReal)
    (hx : ∀ c, V (Proc.devRef .tc main_v45) (ix3 b c k) = x c) :
    after hostOps0_13 V (Proc.devRef .tc main_v66) (ix3 b i k) = (input V).head.norm x i := by
  obtain rfl : (fun c => V (Proc.devRef .tc main_v45) (ix3 b c k)) = x := funext hx
  after_reads_simp
  pointwise
  rfl

theorem v67_eq (V : Valuation τ sig (Elt Ideal)) (b : Fin 4) (i : Fin 256) (k : Fin 1024) (x : EReal)
    (hx : V (Proc.devRef .tc main_v66) (ix3 b i k) = x) :
    after hostOps0_14 V (Proc.devRef .tc main_v67) (ix3 b i k) = max x 0 := by
  subst hx
  after_reads_simp
  simp -implicitDefEqProofs only [TRef.toBuf, TRef.ofBuf, cast_cast, cast_eq]
  pointwise

theorem v73_eq (V : Valuation τ sig (Elt Ideal)) (b : Fin 4) (o : Fin 3) (k : Fin 1024) (h : Fin 256 → EReal)
    (hh : ∀ i, V (Proc.devRef .tc main_v67) (ix3 b i k) = h i) (w : Fin 3 → Fin 256 → EReal)
    (hw : ∀ o i, V (Proc.devRef .tc main_arg16) (ix2 o i) = w o i) (b2 : Fin 3 → EReal)
    (hb : ∀ o, V (Proc.devRef .tc main_arg17) (ix1 o) = b2 o) :
    after hostOps0_15 V (Proc.devRef .tc main_v73) (ix3 b k o) = (∑ i, h i * w o i) + b2 o := by
  after_reads_simp
  pointwise
  simp only [hh, hw, hb]

/-- The predicted direction and the template, with an axis added to each. -/
theorem v75_eq (V : Valuation τ sig (Elt Ideal)) (b : Fin 4) (k : Fin 1024) (o : Fin 3) :
    after hostOps0_15 V (Proc.devRef .tc main_v75) (ix4 b k 0 o) = after hostOps0_15 V (Proc.devRef .tc main_v73) (ix3 b k o) := by
  after_reads_simp; pointwise

theorem v74_eq (V : Valuation τ sig (Elt Ideal)) (t : Fin 300) (o : Fin 3) :
    after hostOps0_15 V (Proc.devRef .tc main_v74) (ix4 0 0 t o) = V (Proc.devRef .tc main_cst) (ix2 t o) := by
  after_reads_simp; pointwise

/-- The norms of the template's directions. -/
theorem v76_eq (V : Valuation τ sig (Elt Ideal)) (t : Fin 300) (T : Fin 3 → EReal)
    (hT : ∀ j, V (Proc.devRef .tc main_v74) (ix4 0 0 t j) = T j) :
    after hostOps0_16 V (Proc.devRef .tc main_v76) (ix3 0 0 t) = norm3 (T 0) (T 1) (T 2) := by
  after_reads_simp
  simp -implicitDefEqProofs only [TRef.toBuf, TRef.ofBuf, cast_cast, cast_eq]
  pointwise
  rw [Fin.sum_univ_three, hT, hT, hT]
  rfl

theorem v78_eq (V : Valuation τ sig (Elt Ideal)) (t : Fin 300) (x : EReal)
    (hx : V (Proc.devRef .tc main_v76) (ix3 0 0 t) = x) :
    after hostOps0_17 V (Proc.devRef .tc main_v78) (ix3 0 0 t) = max x (Ideal.ofBits .f32 841731191#32) := by
  subst hx
  after_reads_simp; pointwise

theorem v79_eq (V : Valuation τ sig (Elt Ideal)) (b : Fin 4) (k : Fin 1024) (T : Fin 3 → EReal)
    (hT : ∀ j, V (Proc.devRef .tc main_v75) (ix4 b k 0 j) = T j) :
    after hostOps0_18 V (Proc.devRef .tc main_v79) (ix3 b k 0) = norm3 (T 0) (T 1) (T 2) := by
  after_reads_simp
  simp -implicitDefEqProofs only [TRef.toBuf, TRef.ofBuf, cast_cast, cast_eq]
  pointwise
  rw [Fin.sum_univ_three, hT, hT, hT]
  rfl

/-- The similarities. -/
theorem v89_eq (V : Valuation τ sig (Elt Ideal)) (b : Fin 4) (k : Fin 1024) (t : Fin 300) (T D : Fin 3 → EReal)
    (hT : ∀ j, V (Proc.devRef .tc main_v74) (ix4 0 0 t j) = T j) (hD : ∀ j, V (Proc.devRef .tc main_v75) (ix4 b k 0 j) = D j)
    (h78 : V (Proc.devRef .tc main_v78) (ix3 0 0 t) = max (norm3 (T 0) (T 1) (T 2)) (Ideal.ofBits .f32 841731191#32))
    (h79 : V (Proc.devRef .tc main_v79) (ix3 b k 0) = norm3 (D 0) (D 1) (D 2)) :
    after hostOps0_19 V (Proc.devRef .tc main_v89) (ix3 b k t) = cosine T D := by
  after_reads_simp
  pointwise
  simp only [hT, hD, h78, h79]
  rw [Fin.sum_univ_three]
  rfl

/-- The most similar view. -/
theorem v90_eq (V : Valuation τ sig (Elt Ideal)) (b : Fin 4) (k : Fin 1024) :
    after hostOps0_20 V (Proc.devRef .tc main_v90) (ix2 b k)
      = BitVec.ofNat 32 (firstMax fun t : Fin 300 => V (Proc.devRef .tc main_v89) (ix3 b k t)).val := by
  after_reads_simp
  simp -implicitDefEqProofs only [TRef.toBuf, TRef.ofBuf, cast_cast, cast_eq]
  exact argmax_sim _ _ _ b k

/-! ## All of it -/

/-- What the head leaves: the predicted directions and the most similar views. -/
structure Predicted (I : Input) (tmpl : Fin 300 → Fin 3 → EReal) (G : Valuation τ sig (Elt Ideal)) : Prop where
  dir : ∀ b (k : Fin 1024) j, G (Proc.devRef .tc main_v73) (ix3 b k j) = I.dir b k j
  view : ∀ b (k : Fin 1024), G (Proc.devRef .tc main_v90) (ix2 b k) = BitVec.ofNat 32 (I.view tmpl b k).val

theorem predicted (I : Input) (tmpl : Fin 300 → Fin 3 → EReal) (G : Valuation τ sig (Elt Ideal)) (hG : Sampled I G)
    (hI : (input G).head = I.head) (hT : ∀ t j, G (Proc.devRef .tc main_cst) (ix2 t j) = tmpl t j) :
    Predicted I tmpl (afterL simOps (afterL headOps G)) := by
  simp only [afterL_cons, afterL_nil]
  have e66 (b : Fin 4) (i : Fin 256) (k : Fin 1024) := v66_eq G b i k _ (fun c => hG.feat b c k)
  rw [hI] at e66
  have k13 (r : Ref sig .tc) (h : r ∉ hostOps0_13_W) : after hostOps0_13 G (Proc.devRef .tc r) = G (Proc.devRef .tc r) :=
    after_of_writes_sub _ _ hostOps0_13_writes h
  revert e66 k13
  generalize after hostOps0_13 G = W13
  intro e66 k13
  have e67 (b : Fin 4) (i : Fin 256) (k : Fin 1024) := v67_eq W13 b i k _ (e66 b i k)
  have k14 (r : Ref sig .tc) (h : r ∉ hostOps0_14_W) : after hostOps0_14 W13 (Proc.devRef .tc r) = W13 (Proc.devRef .tc r) :=
    after_of_writes_sub _ _ hostOps0_14_writes h
  revert e67 k14
  generalize after hostOps0_14 W13 = W14
  intro e67 k14
  have e73 (b : Fin 4) (k : Fin 1024) (o : Fin 3) : after hostOps0_15 W14 (Proc.devRef .tc main_v73) (ix3 b k o) = I.dir b k o :=
    v73_eq W14 b o k _ (fun i => e67 b i k) I.head.w2
      (fun o i => by rw [k14 _ (by decide), k13 _ (by decide), ← hI]; rfl) I.head.b2
      (fun o => by rw [k14 _ (by decide), k13 _ (by decide), ← hI]; rfl)
  have e75 (b : Fin 4) (k : Fin 1024) (o : Fin 3) := (v75_eq W14 b k o).trans (e73 b k o)
  have e74 (t : Fin 300) (o : Fin 3) : after hostOps0_15 W14 (Proc.devRef .tc main_v74) (ix4 0 0 t o) = tmpl t o := by
    rw [v74_eq, k14 _ (by decide), k13 _ (by decide), hT]
  revert e73 e75 e74
  generalize after hostOps0_15 W14 = W15
  intro e73 e75 e74
  have e76 (t : Fin 300) := v76_eq W15 t (tmpl t) (e74 t)
  have k16 (r : Ref sig .tc) (h : r ∉ hostOps0_16_W) : after hostOps0_16 W15 (Proc.devRef .tc r) = W15 (Proc.devRef .tc r) :=
    after_of_writes_sub _ _ hostOps0_16_writes h
  revert e76 k16
  generalize after hostOps0_16 W15 = W16
  intro e76 k16
  have e78 (t : Fin 300) := v78_eq W16 t _ (e76 t)
  have k17 (r : Ref sig .tc) (h : r ∉ hostOps0_17_W) : after hostOps0_17 W16 (Proc.devRef .tc r) = W16 (Proc.devRef .tc r) :=
    after_of_writes_sub _ _ hostOps0_17_writes h
  revert e78 k17
  generalize after hostOps0_17 W16 = W17
  intro e78 k17
  have e79 (b : Fin 4) (k : Fin 1024) := v79_eq W17 b k (fun j => I.dir b k j)
    (fun j => by rw [k17 _ (by decide), k16 _ (by decide), e75])
  have k18 (r : Ref sig .tc) (h : r ∉ hostOps0_18_W) : after hostOps0_18 W17 (Proc.devRef .tc r) = W17 (Proc.devRef .tc r) :=
    after_of_writes_sub _ _ hostOps0_18_writes h
  revert e79 k18
  generalize after hostOps0_18 W17 = W18
  intro e79 k18
  have e89 (b : Fin 4) (k : Fin 1024) (t : Fin 300) := v89_eq W18 b k t (tmpl t) (fun j => I.dir b k j)
    (fun j => by rw [k18 _ (by decide), k17 _ (by decide), k16 _ (by decide), e74])
    (fun j => by rw [k18 _ (by decide), k17 _ (by decide), k16 _ (by decide), e75])
    (by rw [k18 _ (by decide), e78]) (e79 b k)
  have k19 (r : Ref sig .tc) (h : r ∉ hostOps0_19_W) : after hostOps0_19 W18 (Proc.devRef .tc r) = W18 (Proc.devRef .tc r) :=
    after_of_writes_sub _ _ hostOps0_19_writes h
  revert e89 k19
  generalize after hostOps0_19 W18 = W19
  intro e89 k19
  have e90 := v90_eq W19
  have k20 (r : Ref sig .tc) (h : r ∉ hostOps0_20_W) : after hostOps0_20 W19 (Proc.devRef .tc r) = W19 (Proc.devRef .tc r) :=
    after_of_writes_sub _ _ hostOps0_20_writes h
  refine ⟨?_, ?_⟩
  · intro b k j
    rw [k20 _ (by decide), k19 _ (by decide), k18 _ (by decide), k17 _ (by decide), k16 _ (by decide), e73]
  · intro b k
    rw [e90]
    simp only [e89]
    rfl

end Cert.Proof.Ref

end
-- ==== Proof.RefRot.lean ====
/-
  The reference's rotations: the three axes at every predicted direction, side by side.
-/
module

public import proofs.«01_k».proof.Proof.RefHead

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe Idealize.SL.Sem
open Cert.Proof.Spec

/-- The row of the flattened table for point `k` of batch `b`. -/
def row (b : Fin 4) (k : Fin 1024) : Fin 4096 := ⟨b.val * 1024 + k.val, by have := b.isLt; have := k.isLt; omega⟩

/-- The opposite of a predicted direction. -/
theorem v93_eq (V : Valuation τ sig (Elt Ideal)) (b : Fin 4) (k : Fin 1024) (j : Fin 3) (D : Fin 3 → EReal)
    (hD : ∀ j, V (Proc.devRef .tc main_v73) (ix3 b k j) = D j) :
    after hostOps0_21 V (Proc.devRef .tc main_v93) (ix2 (row b k) j) = -(D j) := by
  rw [← hD]
  after_reads_simp
  pointwise
  have e : (⟨(row b k).val / 1024, by have := (row b k).isLt; omega⟩ : Fin 4) = b := Fin.ext (by simp only [row]; omega)
  have f : (⟨(row b k).val % 1024, by omega⟩ : Fin 1024) = k := Fin.ext (by simp only [row]; omega)
  rw [e, f]

theorem v92_eq (V : Valuation τ sig (Elt Ideal)) (n : Fin 4096) :
    after hostOps0_21 V (Proc.devRef .tc main_v92) (ix1 n) = (0 : EReal) := by
  after_reads_simp
  pointwise

theorem v96_eq (V : Valuation τ sig (Elt Ideal)) (n : Fin 4096) :
    after hostOps0_21 V (Proc.devRef .tc main_v96) (ix1 n) = (0 : EReal) := by
  after_reads_simp
  pointwise

theorem v97_eq (V : Valuation τ sig (Elt Ideal)) (n : Fin 4096) :
    after hostOps0_21 V (Proc.devRef .tc main_v97) (ix1 n) = (1 : EReal) := by
  after_reads_simp
  pointwise

theorem v106_eq (V : Valuation τ sig (Elt Ideal)) (n : Fin 4096) (j : Fin 3) (D : Fin 3 → EReal)
    (hD : ∀ j, after hostOps0_21 V (Proc.devRef .tc main_v93) (ix2 n j) = D j) :
    after hostOps0_21 V (Proc.devRef .tc main_v106) (ix2 n j) = ![-(D 1), D 0, 0] j := by
  rw [← hD, ← hD]
  fin_cases j
  · after_reads_simp; pointwise; after_reads_simp; pointwise
  · after_reads_simp; pointwise; after_reads_simp; pointwise
  · after_reads_simp; pointwise; after_reads_simp; pointwise

theorem v107_eq (V : Valuation τ sig (Elt Ideal)) (n : Fin 4096) (D : Fin 3 → EReal)
    (hD : ∀ j, V (Proc.devRef .tc main_v106) (ix2 n j) = D j) :
    after hostOps0_22 V (Proc.devRef .tc main_v107) (ix1 n) = norm3 (D 0) (D 1) (D 2) := by
  after_reads_simp
  simp -implicitDefEqProofs only [TRef.toBuf, TRef.ofBuf, cast_cast, cast_eq]
  pointwise
  rw [Fin.sum_univ_three, hD, hD, hD]
  rfl

theorem v110_eq (V : Valuation τ sig (Elt Ideal)) (n : Fin 4096) (x : EReal) (hx : V (Proc.devRef .tc main_v107) (ix1 n) = x) :
    after hostOps0_23 V (Proc.devRef .tc main_v110) (ix2 n 0) = if x = 0 then 1#1 else 0#1 := by
  subst hx
  after_reads_simp
  pointwise
  split <;> simp_all

theorem v111_eq (V : Valuation τ sig (Elt Ideal)) (n : Fin 4096) (j : Fin 3) :
    after hostOps0_24 V (Proc.devRef .tc main_v111) (ix2 n j)
      = if V (Proc.devRef .tc main_v110) (ix2 n 0) = 1#1 then V (Proc.devRef .tc main_cst_0) (ix1 j)
        else V (Proc.devRef .tc main_v106) (ix2 n j) := by
  after_reads_simp
  simp -implicitDefEqProofs only [TRef.toBuf, TRef.ofBuf, cast_cast, cast_eq]
  pointwise
  rfl

theorem v112_eq (V : Valuation τ sig (Elt Ideal)) (n : Fin 4096) (D : Fin 3 → EReal)
    (hD : ∀ j, V (Proc.devRef .tc main_v93) (ix2 n j) = D j) :
    after hostOps0_25 V (Proc.devRef .tc main_v112) (ix2 n 0) = norm3 (D 0) (D 1) (D 2) := by
  after_reads_simp
  simp -implicitDefEqProofs only [TRef.toBuf, TRef.ofBuf, cast_cast, cast_eq]
  pointwise
  rw [Fin.sum_univ_three, hD, hD, hD]
  rfl

theorem v114_eq (V : Valuation τ sig (Elt Ideal)) (n : Fin 4096) (j : Fin 3) (x y : EReal)
    (hx : V (Proc.devRef .tc main_v93) (ix2 n j) = x) (hy : V (Proc.devRef .tc main_v112) (ix2 n 0) = y) :
    after hostOps0_26 V (Proc.devRef .tc main_v114) (ix2 n j) = Ideal.div x y := by
  subst hx; subst hy
  after_reads_simp
  pointwise

theorem v115_eq (V : Valuation τ sig (Elt Ideal)) (n : Fin 4096) (D : Fin 3 → EReal)
    (hD : ∀ j, V (Proc.devRef .tc main_v111) (ix2 n j) = D j) :
    after hostOps0_27 V (Proc.devRef .tc main_v115) (ix2 n 0) = norm3 (D 0) (D 1) (D 2) := by
  after_reads_simp
  simp -implicitDefEqProofs only [TRef.toBuf, TRef.ofBuf, cast_cast, cast_eq]
  pointwise
  rw [Fin.sum_univ_three, hD, hD, hD]
  rfl

theorem v117_eq (V : Valuation τ sig (Elt Ideal)) (n : Fin 4096) (j : Fin 3) (x y : EReal)
    (hx : V (Proc.devRef .tc main_v111) (ix2 n j) = x) (hy : V (Proc.devRef .tc main_v115) (ix2 n 0) = y) :
    after hostOps0_28 V (Proc.devRef .tc main_v117) (ix2 n j) = Ideal.div x y := by
  subst hx; subst hy
  after_reads_simp
  pointwise

theorem v118_eq (V : Valuation τ sig (Elt Ideal)) (n : Fin 4096) (j : Fin 3) (X Y : Fin 3 → EReal)
    (hX : ∀ j, V (Proc.devRef .tc main_v114) (ix2 n j) = X j) (hY : ∀ j, V (Proc.devRef .tc main_v117) (ix2 n j) = Y j) :
    after hostOps0_29 V (Proc.devRef .tc main_v118) (ix2 n j)
      = ![X 1 * Y 2 - X 2 * Y 1, X 2 * Y 0 - X 0 * Y 2, X 0 * Y 1 - X 1 * Y 0] j := by
  simp only [← hX, ← hY]
  fin_cases j
  · after_reads_simp; simp -implicitDefEqProofs only [TRef.toBuf, TRef.ofBuf, cast_cast, cast_eq]; pointwise; after_reads_simp; simp -implicitDefEqProofs only [TRef.toBuf, TRef.ofBuf, cast_cast, cast_eq]; pointwise; rfl
  · after_reads_simp; simp -implicitDefEqProofs only [TRef.toBuf, TRef.ofBuf, cast_cast, cast_eq]; pointwise; after_reads_simp; simp -implicitDefEqProofs only [TRef.toBuf, TRef.ofBuf, cast_cast, cast_eq]; pointwise; rfl
  · after_reads_simp; simp -implicitDefEqProofs only [TRef.toBuf, TRef.ofBuf, cast_cast, cast_eq]; pointwise; after_reads_simp; simp -implicitDefEqProofs only [TRef.toBuf, TRef.ofBuf, cast_cast, cast_eq]; pointwise; rfl

/-- The sine of zero. -/
theorem sin_zero : Ideal.sin 0 = 0 := by
  show ((Real.sin 0 : ℝ) : EReal) = 0
  rw [Real.sin_zero]; rfl

/-- The cosine of zero. -/
theorem cos_zero : Ideal.cos 0 = 1 := by
  show ((Real.cos 0 : ℝ) : EReal) = 1
  rw [Real.cos_zero]; rfl

/-- Column 0 of the product of the axes with the rotation by the angle zero. -/
theorem v138_eq_0 (V : Valuation τ sig (Elt Ideal)) (n : Fin 4096) (r : Fin 3) (x y z : EReal)
    (h0 : V (Proc.devRef .tc main_v92) (ix1 n) = (0 : EReal)) (h1 : V (Proc.devRef .tc main_v97) (ix1 n) = (1 : EReal))
    (h2 : V (Proc.devRef .tc main_v96) (ix1 n) = (0 : EReal))
    (hx : V (Proc.devRef .tc main_v114) (ix2 n r) = x) (hy : V (Proc.devRef .tc main_v117) (ix2 n r) = y)
    (hz : V (Proc.devRef .tc main_v118) (ix2 n r) = z) :
    after hostOps0_30 V (Proc.devRef .tc main_v138) (ix3 n r 0) = x := by
  after_reads_simp; pointwise; rw [Fin.sum_univ_three]; simp; after_reads_simp; pointwise
  simp [h0, h1, h2, hx, hy, hz, sin_zero, cos_zero]

/-- Column 1 of the product of the axes with the rotation by the angle zero. -/
theorem v138_eq_1 (V : Valuation τ sig (Elt Ideal)) (n : Fin 4096) (r : Fin 3) (x y z : EReal)
    (h0 : V (Proc.devRef .tc main_v92) (ix1 n) = (0 : EReal)) (h1 : V (Proc.devRef .tc main_v97) (ix1 n) = (1 : EReal))
    (h2 : V (Proc.devRef .tc main_v96) (ix1 n) = (0 : EReal))
    (hx : V (Proc.devRef .tc main_v114) (ix2 n r) = x) (hy : V (Proc.devRef .tc main_v117) (ix2 n r) = y)
    (hz : V (Proc.devRef .tc main_v118) (ix2 n r) = z) :
    after hostOps0_30 V (Proc.devRef .tc main_v138) (ix3 n r 1) = y := by
  after_reads_simp; pointwise; rw [Fin.sum_univ_three]; simp; after_reads_simp; pointwise
  simp [h0, h1, h2, hx, hy, hz, sin_zero, cos_zero]

/-- Column 2 of the product of the axes with the rotation by the angle zero. -/
theorem v138_eq_2 (V : Valuation τ sig (Elt Ideal)) (n : Fin 4096) (r : Fin 3) (x y z : EReal)
    (h0 : V (Proc.devRef .tc main_v92) (ix1 n) = (0 : EReal)) (h1 : V (Proc.devRef .tc main_v97) (ix1 n) = (1 : EReal))
    (h2 : V (Proc.devRef .tc main_v96) (ix1 n) = (0 : EReal))
    (hx : V (Proc.devRef .tc main_v114) (ix2 n r) = x) (hy : V (Proc.devRef .tc main_v117) (ix2 n r) = y)
    (hz : V (Proc.devRef .tc main_v118) (ix2 n r) = z) :
    after hostOps0_30 V (Proc.devRef .tc main_v138) (ix3 n r 2) = z := by
  after_reads_simp; pointwise; rw [Fin.sum_univ_three]; simp; after_reads_simp; pointwise
  simp [h0, h1, h2, hx, hy, hz, sin_zero, cos_zero]

/-- The product of the axes with the rotation by the angle zero is the axes. -/
theorem v138_eq (V : Valuation τ sig (Elt Ideal)) (n : Fin 4096) (r j : Fin 3) (x y z : EReal)
    (h0 : V (Proc.devRef .tc main_v92) (ix1 n) = (0 : EReal)) (h1 : V (Proc.devRef .tc main_v97) (ix1 n) = (1 : EReal))
    (h2 : V (Proc.devRef .tc main_v96) (ix1 n) = (0 : EReal))
    (hx : V (Proc.devRef .tc main_v114) (ix2 n r) = x) (hy : V (Proc.devRef .tc main_v117) (ix2 n r) = y)
    (hz : V (Proc.devRef .tc main_v118) (ix2 n r) = z) :
    after hostOps0_30 V (Proc.devRef .tc main_v138) (ix3 n r j) = (![x, y, z] : Fin 3 → EReal) j := by
  fin_cases j
  · exact v138_eq_0 V n r x y z h0 h1 h2 hx hy hz
  · exact v138_eq_1 V n r x y z h0 h1 h2 hx hy hz
  · exact v138_eq_2 V n r x y z h0 h1 h2 hx hy hz

theorem v139_eq (V : Valuation τ sig (Elt Ideal)) (b : Fin 4) (k : Fin 1024) (r j : Fin 3)  :
    after hostOps0_30 V (Proc.devRef .tc main_v139) (ix4 b k r j)
      = after hostOps0_30 V (Proc.devRef .tc main_v138) (ix3 (row b k) r j) := by
  have e : after hostOps0_30 V (Proc.devRef .tc main_v139)
      = shapeCast S4x1024x3x3 (after hostOps0_30 V (Proc.devRef .tc main_v138)) shapeCasts_S4096x3x3_S4x1024x3x3 := by
    after_reads_simp
    rfl
  rw [e]
  generalize after hostOps0_30 V (Proc.devRef .tc main_v138) = T
  pointwise
  rfl

/-! ## All of it -/

/-- The rotation at every predicted direction. -/
theorem rotated (V : Valuation τ sig (Elt Ideal)) (b : Fin 4) (k : Fin 1024) (D : Fin 3 → EReal)
    (hD : ∀ j, V (Proc.devRef .tc main_v73) (ix3 b k j) = D j)
    (hc : ∀ j, V (Proc.devRef .tc main_cst_0) (ix1 j) = (![0, 1, 0] : Fin 3 → EReal) j) (r j : Fin 3) :
    afterL rotOps V (Proc.devRef .tc main_v139) (ix4 b k r j) = rot D r j := by
  simp only [afterL_cons, afterL_nil]
  rw [v139_eq]
  have e93 (j : Fin 3) := v93_eq V b k j D hD
  have e106 (j : Fin 3) := v106_eq V (row b k) j _ e93
  have e92 := v92_eq V (row b k)
  have e96 := v96_eq V (row b k)
  have e97 := v97_eq V (row b k)
  have k21 (r : Ref sig .tc) (h : r ∉ hostOps0_21_W) : after hostOps0_21 V (Proc.devRef .tc r) = V (Proc.devRef .tc r) :=
    after_of_writes_sub _ _ hostOps0_21_writes h
  rw [← k21 _ (by decide)] at hc
  revert e93 e106 e92 e96 e97 hc
  generalize after hostOps0_21 V = W21
  intro hc e93 e106 e92 e96 e97
  have e107 := v107_eq W21 (row b k) _ e106
  have k22 (r : Ref sig .tc) (h : r ∉ hostOps0_22_W) : after hostOps0_22 W21 (Proc.devRef .tc r) = W21 (Proc.devRef .tc r) :=
    after_of_writes_sub _ _ hostOps0_22_writes h
  revert e107 k22
  generalize after hostOps0_22 W21 = W22
  intro e107 k22
  have e110 := v110_eq W22 (row b k) _ e107
  have k23 (r : Ref sig .tc) (h : r ∉ hostOps0_23_W) : after hostOps0_23 W22 (Proc.devRef .tc r) = W22 (Proc.devRef .tc r) :=
    after_of_writes_sub _ _ hostOps0_23_writes h
  revert e110 k23
  generalize after hostOps0_23 W22 = W23
  intro e110 k23
  have e111 (j : Fin 3) : after hostOps0_24 W23 (Proc.devRef .tc main_v111) (ix2 (row b k) j) = axisY₀ D j := by
    rw [v111_eq, e110, k23 main_cst_0 (by decide), k22 main_cst_0 (by decide), hc, k23 main_v106 (by decide),
      k22 main_v106 (by decide), e106]
    show (if (if norm3 (-(-(D 1))) (-(D 0)) 0 = 0 then 1#1 else 0#1) = 1#1 then _ else _) = (axisY₀ D : Fin 3 → EReal) j
    unfold axisY₀
    by_cases h : norm3 (-(-(D 1))) (-(D 0)) 0 = 0
    · rw [if_pos h, if_pos h, if_pos rfl]
    · rw [if_neg h, if_neg h, if_neg (by decide)]
  have k24 (r : Ref sig .tc) (h : r ∉ hostOps0_24_W) : after hostOps0_24 W23 (Proc.devRef .tc r) = W23 (Proc.devRef .tc r) :=
    after_of_writes_sub _ _ hostOps0_24_writes h
  revert e111 k24
  generalize after hostOps0_24 W23 = W24
  intro e111 k24
  have f93 (j : Fin 3) : W24 (Proc.devRef .tc main_v93) (ix2 (row b k) j) = -(D j) := by
    rw [k24 _ (by decide), k23 _ (by decide), k22 _ (by decide), e93]
  have e112 := v112_eq W24 (row b k) _ f93
  have k25 (r : Ref sig .tc) (h : r ∉ hostOps0_25_W) : after hostOps0_25 W24 (Proc.devRef .tc r) = W24 (Proc.devRef .tc r) :=
    after_of_writes_sub _ _ hostOps0_25_writes h
  revert e112 k25
  generalize after hostOps0_25 W24 = W25
  intro e112 k25
  have e114 (j : Fin 3) := v114_eq W25 (row b k) j _ _ ((congrFun (k25 _ (by decide)) _).trans (f93 j)) e112
  have k26 (r : Ref sig .tc) (h : r ∉ hostOps0_26_W) : after hostOps0_26 W25 (Proc.devRef .tc r) = W25 (Proc.devRef .tc r) :=
    after_of_writes_sub _ _ hostOps0_26_writes h
  revert e114 k26
  generalize after hostOps0_26 W25 = W26
  intro e114 k26
  have f111 (j : Fin 3) : W26 (Proc.devRef .tc main_v111) (ix2 (row b k) j) = axisY₀ D j := by
    rw [k26 _ (by decide), k25 _ (by decide), e111]
  have e115 := v115_eq W26 (row b k) _ f111
  have k27 (r : Ref sig .tc) (h : r ∉ hostOps0_27_W) : after hostOps0_27 W26 (Proc.devRef .tc r) = W26 (Proc.devRef .tc r) :=
    after_of_writes_sub _ _ hostOps0_27_writes h
  revert e115 k27
  generalize after hostOps0_27 W26 = W27
  intro e115 k27
  have e117 (j : Fin 3) := v117_eq W27 (row b k) j _ _ ((congrFun (k27 _ (by decide)) _).trans (f111 j)) e115
  have k28 (r : Ref sig .tc) (h : r ∉ hostOps0_28_W) : after hostOps0_28 W27 (Proc.devRef .tc r) = W27 (Proc.devRef .tc r) :=
    after_of_writes_sub _ _ hostOps0_28_writes h
  revert e117 k28
  generalize after hostOps0_28 W27 = W28
  intro e117 k28
  have f114 (j : Fin 3) : W28 (Proc.devRef .tc main_v114) (ix2 (row b k) j) = axisX D j := by
    rw [k28 _ (by decide), k27 _ (by decide), e114]
    rfl
  have f117 (j : Fin 3) : W28 (Proc.devRef .tc main_v117) (ix2 (row b k) j) = axisY D j := e117 j
  have e118 (j : Fin 3) : after hostOps0_29 W28 (Proc.devRef .tc main_v118) (ix2 (row b k) j) = axisZ D j :=
    v118_eq W28 (row b k) j _ _ f114 f117
  have k29 (r : Ref sig .tc) (h : r ∉ hostOps0_29_W) : after hostOps0_29 W28 (Proc.devRef .tc r) = W28 (Proc.devRef .tc r) :=
    after_of_writes_sub _ _ hostOps0_29_writes h
  revert e118 k29
  generalize after hostOps0_29 W28 = W29
  intro e118 k29
  have keep (r : Ref sig .tc) (h : r ∉ hostOps0_22_W ++ hostOps0_23_W ++ hostOps0_24_W ++ hostOps0_25_W ++ hostOps0_26_W ++ hostOps0_27_W ++ hostOps0_28_W ++ hostOps0_29_W) :
      W29 (Proc.devRef .tc r) = W21 (Proc.devRef .tc r) := by
    simp only [List.mem_append, not_or] at h
    rw [k29 _ (by tauto), k28 _ (by tauto), k27 _ (by tauto), k26 _ (by tauto), k25 _ (by tauto), k24 _ (by tauto),
      k23 _ (by tauto), k22 _ (by tauto)]
  exact v138_eq W29 (row b k) r j _ _ _ (by rw [keep _ (by decide), e92]) (by rw [keep _ (by decide), e97])
    (by rw [keep _ (by decide), e96]) (by rw [k29 _ (by decide), f114]) (by rw [k29 _ (by decide), f117]) (e118 r)

end Cert.Proof.Ref

end
-- ==== Proof.RefRun.lean ====
/-
  The reference's run: it ends with its arguments as launched and with the nine results of the specification.
-/
module

public import proofs.«01_k».proof.Proof.RefRot

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe Idealize.SL.Sem
open Cert.Proof.Spec

/-- The table of template directions. -/
def template (t : Fin 300) (j : Fin 3) : EReal := Ideal.ofBits .f32 (lit0 (S300x3.rowMajor (ix2 t j)))

theorem cst_eq (V : Valuation τ sig (Elt Ideal)) (t : Fin 300) (j : Fin 3) :
    after hostOps0 V (Proc.devRef .tc main_cst) (ix2 t j) = template t j := by
  after_reads_simp
  rfl

theorem cst_0_eq (V : Valuation τ sig (Elt Ideal)) (j : Fin 3) :
    after hostOps0 V (Proc.devRef .tc main_cst_0) (ix1 j) = (![0, 1, 0] : Fin 3 → EReal) j := by
  have e : after hostOps0 V (Proc.devRef .tc main_cst_0) (ix1 j) = Ideal.ofBits .f32 (lit1 (S3.rowMajor (ix1 j))) := by
    after_reads_simp
    rfl
  rw [e]
  have z : Ideal.ofBits .f32 0#32 = 0 := by pointwise
  have o : Ideal.ofBits .f32 1065353216#32 = 1 := by pointwise
  fin_cases j
  · exact z
  · exact o
  · exact z

/-- What the specification says of the nine results, as the reference lays them out. -/
structure Results (I : Input) (W : Valuation τ sig (Elt Ideal)) : Prop where
  object : ∀ b k n, W (Proc.devRef .tc main_v26) (ix3 b k n) = I.g b n (Fin.castLE (by decide) k)
  grasp : ∀ b n, W (Proc.devRef .tc main_v28) (ix2 b n) = I.g b n 2
  xyz : ∀ b (k : Fin 1024) j, W (Proc.devRef .tc main_v41) (ix3 b k j) = I.xyz b (I.ind b k) j
  inds : ∀ b (k : Fin 1024), W (Proc.devRef .tc main_v39) (ix2 b k) = BitVec.ofNat 32 (I.ind b k).val
  feat : ∀ b c (k : Fin 1024), W (Proc.devRef .tc main_v45) (ix3 b c k) = I.feat b c (I.ind b k)
  grasp2 : ∀ b (k : Fin 1024), W (Proc.devRef .tc main_v46) (ix2 b k) = I.g b (I.ind b k) 2
  dir : ∀ b (k : Fin 1024) j, W (Proc.devRef .tc main_v73) (ix3 b k j) = I.dir b k j
  view : ∀ b (k : Fin 1024), W (Proc.devRef .tc main_v90) (ix2 b k) = BitVec.ofNat 32 (I.view template b k).val
  rot : ∀ b (k : Fin 1024) r j, W (Proc.devRef .tc main_v139) (ix4 b k r j) = rot (I.dir b k) r j

/-- The specification's input depends on the arguments alone. -/
theorem input_congr (V W : Valuation τ sig (Elt Ideal)) (h : ∀ a ∈ args, W (Proc.devRef .tc a) = V (Proc.devRef .tc a)) :
    input W = input V := by
  unfold input
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide)]

theorem inds_agree (m : (ℓ : Loc nD τ sig) → Buf (Elt Ideal) ℓ) (c : Dev nD) (b : Fin 4) (i : Fin 1024) :
    atK m 1024 c (Proc.devRef .tc main_v38_5) (ix2 i b)
      = BitVec.ofNat 32 ((input (fun r => m ((c.tc : Thread nD τ).1, r))).ind b i).val := by
  rw [atK_agree m c 1024 main_v38_5 (by decide)]
  exact (held _ _ (entry _) 1024 le_rfl).inds b i i.isLt

theorem results (m : (ℓ : Loc nD τ sig) → Buf (Elt Ideal) ℓ) (c : Dev nD) :
    Results (input (fun r => m ((c.tc : Thread nD τ).1, r))) (finalContents condOps preI bodyI postI 1024 m c) := by
  set V : Valuation τ sig (Elt Ideal) := fun r => m ((c.tc : Thread nD τ).1, r) with hV
  have hE : Entry V (entryContents preI m c) := entry V
  have hi := inds_agree m c
  unfold finalContents
  rw [post_eq]
  have loop {r : Ref sig .tc} (hc : r ∉ condOps_W) (h0 : r ∉ while0Ops0_W) (h1 : r ∉ while0Ops0_1_W)
      (h2 : r ∉ while0Ops0_2_W) (h3 : r ∉ while0Ops0_3_W) (h4 : r ∉ while0Ops0_4_W) (h5 : r ∉ while0Ops0_5_W)
      (h6 : r ∉ while0Ops0_6_W) : after condOps (atTrip condOps bodyI (entryContents preI m) 1024 c) (Proc.devRef .tc r)
        = entryContents preI m c (Proc.devRef .tc r) :=
    (after_of_writes_sub _ _ condOps_writes hc).trans
      (loop_keep hc (fun V => body_keep V h0 h1 h2 h3 h4 h5 h6) (entryContents preI m) c 1024)
  have hi' (b : Fin 4) (i : Fin 1024) : after condOps (atTrip condOps bodyI (entryContents preI m) 1024 c) (Proc.devRef .tc main_v38_5) (ix2 i b)
      = BitVec.ofNat 32 ((input V).ind b i).val := by
    rw [after_of_writes_sub _ _ condOps_writes (by decide)]
    exact hi b i
  generalize after condOps (atTrip condOps bodyI (entryContents preI m) 1024 c) = S at loop hi'
  have hS (a : Ref sig .tc) (h : a ∈ args) : S (Proc.devRef .tc a) = V (Proc.devRef .tc a) := by
    have hw := args_not_written a h
    simp only [written, List.mem_append, not_or] at hw
    obtain ⟨⟨⟨⟨⟨⟨⟨⟨a0, a1⟩, a2⟩, a3⟩, a4⟩, a5⟩, a6⟩, ⟨⟨⟨⟨⟨⟨⟨c0, b0⟩, b1⟩, b2⟩, b3⟩, b4⟩, b5⟩, b6⟩⟩, -⟩ := hw
    rw [loop c0 b0 b1 b2 b3 b4 b5 b6]
    exact pre_keep V a0 a1 a2 a3 a4 a5 a6
  have hcst : ∀ t j, S (Proc.devRef .tc main_cst) (ix2 t j) = template t j := fun t j => by
    rw [loop (by decide) (by decide) (by decide) (by decide) (by decide) (by decide) (by decide) (by decide)]
    unfold entryContents
    simp only [afterL_cons, afterL_nil]
    rw [after_of_writes_sub _ _ hostOps0_6_writes (by decide), after_of_writes_sub _ _ hostOps0_5_writes (by decide),
      after_of_writes_sub _ _ hostOps0_4_writes (by decide), after_of_writes_sub _ _ hostOps0_3_writes (by decide),
      after_of_writes_sub _ _ hostOps0_2_writes (by decide), after_of_writes_sub _ _ hostOps0_1_writes (by decide)]
    exact cst_eq _ t j
  have hcst0 : ∀ j, S (Proc.devRef .tc main_cst_0) (ix1 j) = (![0, 1, 0] : Fin 3 → EReal) j := fun j => by
    rw [loop (by decide) (by decide) (by decide) (by decide) (by decide) (by decide) (by decide) (by decide)]
    unfold entryContents
    simp only [afterL_cons, afterL_nil]
    rw [after_of_writes_sub _ _ hostOps0_6_writes (by decide), after_of_writes_sub _ _ hostOps0_5_writes (by decide),
      after_of_writes_sub _ _ hostOps0_4_writes (by decide), after_of_writes_sub _ _ hostOps0_3_writes (by decide),
      after_of_writes_sub _ _ hostOps0_2_writes (by decide), after_of_writes_sub _ _ hostOps0_1_writes (by decide)]
    exact cst_0_eq _ j
  have h28 : ∀ b n, S (Proc.devRef .tc main_v28) (ix2 b n) = (input V).g b n 2 := fun b n => by
    rw [loop (by decide) (by decide) (by decide) (by decide) (by decide) (by decide) (by decide) (by decide)]
    exact hE.grasp b n
  have h26 : ∀ b k n, S (Proc.devRef .tc main_v26) (ix3 b k n) = (input V).g b n (Fin.castLE (by decide) k) := fun b k n => by
    rw [loop (by decide) (by decide) (by decide) (by decide) (by decide) (by decide) (by decide) (by decide)]
    exact hE.object b k n
  clear hE hi loop
  clear_value V
  have hG := sampled V S hi' (hS main_arg0 (by decide)) (hS main_arg1 (by decide)) h28
  have kG (r : Ref sig .tc) (h : r ∉ gathersW) : afterL gathers S (Proc.devRef .tc r) = S (Proc.devRef .tc r) := gathers_keep S h
  have hI : input (afterL gathers S) = input V := input_congr V _ fun a h => by
    have hw := args_not_written a h
    simp only [written, List.mem_append, not_or] at hw
    rw [kG a hw.2.1.1.1, hS a h]
  generalize afterL gathers S = G at hG kG hI
  have hP := predicted (input V) template G hG (congrArg Input.head hI) fun t j => by rw [kG _ (by decide), hcst]
  have kP (r : Ref sig .tc) (h : r ∉ headOpsW) (h' : r ∉ simOpsW) :
      afterL simOps (afterL headOps G) (Proc.devRef .tc r) = G (Proc.devRef .tc r) :=
    (simOps_keep _ h').trans (headOps_keep _ h)
  generalize afterL simOps (afterL headOps G) = P at hP kP
  have kR (r : Ref sig .tc) (h : r ∉ rotOpsW) : afterL rotOps P (Proc.devRef .tc r) = P (Proc.devRef .tc r) := rotOps_keep P h
  have hR (b : Fin 4) (k : Fin 1024) (r j : Fin 3) := rotated P b k _ (fun j => hP.dir b k j)
    (fun j => by rw [kP _ (by decide) (by decide), kG _ (by decide), hcst0]) r j
  generalize afterL rotOps P = R at kR hR
  exact
    { object := fun b k n => by rw [kR _ (by decide), kP _ (by decide) (by decide), kG _ (by decide), h26]
      grasp := fun b n => by rw [kR _ (by decide), kP _ (by decide) (by decide), kG _ (by decide), h28]
      xyz := fun b k j => by rw [kR _ (by decide), kP _ (by decide) (by decide), hG.xyz]
      inds := fun b k => by rw [kR _ (by decide), kP _ (by decide) (by decide), hG.inds]
      feat := fun b c k => by rw [kR _ (by decide), kP _ (by decide) (by decide), hG.feat]
      grasp2 := fun b k => by rw [kR _ (by decide), kP _ (by decide) (by decide), hG.grasp]
      dir := fun b k j => by rw [kR _ (by decide), hP.dir]
      view := fun b k => by rw [kR _ (by decide), hP.view]
      rot := hR }

/-- The reference ends with its arguments as launched and the nine results of the specification. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      (∀ b : Ref sig .tc, (Proc.devRef .tc b : DevRef τ sig).isScoped = false → r.2.mem ((c.tc : Thread nD τ).loc b)
        = finalContents condOps preI bodyI postI 1024 m c (Proc.devRef .tc b))
      ∧ ∀ a ∈ args, r.2.mem ((c.tc : Thread nD τ).loc a) = m ((c.tc : Thread nD τ).loc a)) :=
  (θ_run _ _ _).mono (fun r h c => ⟨h c, fun a ha => args_end m r.2.mem h c a ha⟩) (run_fold (F := Ideal) m g)

end Cert.Proof.Ref

end
-- ==== Proof.Agree.lean ====
/-
  Kernel and reference: equal arguments make equal results.
-/
module

public import proofs.«01_k».proof.Proof.KResults
public import proofs.«01_k».proof.Proof.RefRun

@[expose] public section

set_option maxRecDepth 16384

noncomputable section

namespace Cert.Proof

open Idealize.ShloMosaic Idealize.ShloMosaic.TcCoe Idealize.SL.Sem
open Cert.Proof.Spec

/-- Both programs carry the same table of template directions. -/
theorem tables_eq : Cert.ReferenceIdeal.lit0 = Cert.KernelIdeal.lit0 := by
  funext i
  revert i
  decide +kernel

theorem templates_eq : Ref.template = Kern.tmpl := by
  unfold Ref.template Kern.tmpl
  rw [tables_eq]

/-- Arguments that agree are one input of the specification. -/
theorem input_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Ref.input (fun r => m' ((c.tc : Thread Cert.ReferenceIdeal.nD Cert.ReferenceIdeal.τ).1, r)) = Kern.input (Cert.KernelIdeal.Gen.W0 m g c) := by
  unfold Ref.input Kern.input
  rw [Input.mk.injEq, Net.mk.injEq, Net.mk.injEq]
  exact ⟨funext fun b => funext fun n => funext fun j => congrFun e0 (ix3 b n j),
    funext fun b => funext fun ch => funext fun n => congrFun e1 (ix3 b ch n),
    ⟨funext fun i => funext fun k => congrFun e2 (ix2 i k),
      funext fun i => congrFun e3 (ix1 i),
      funext fun i => congrFun e4 (ix1 i),
      funext fun i => congrFun e5 (ix1 i),
      funext fun i => congrFun e6 (ix1 i),
      funext fun i => congrFun e7 (ix1 i),
      funext fun i => funext fun k => congrFun e8 (ix2 i k),
      funext fun i => congrFun e9 (ix1 i)⟩,
    ⟨funext fun i => funext fun k => congrFun e10 (ix2 i k),
      funext fun i => congrFun e11 (ix1 i),
      funext fun i => congrFun e12 (ix1 i),
      funext fun i => congrFun e13 (ix1 i),
      funext fun i => congrFun e14 (ix1 i),
      funext fun i => congrFun e15 (ix1 i),
      funext fun i => funext fun k => congrFun e16 (ix2 i k),
      funext fun i => congrFun e17 (ix1 i)⟩⟩

section Same

variable {I : Input} {W : Valuation Cert.KernelIdeal.τ Cert.KernelIdeal.sig (Elt Ideal)}
  {W' : Valuation Cert.ReferenceIdeal.τ Cert.ReferenceIdeal.sig (Elt Ideal)} (h : Kern.Results I W) (h' : Ref.Results I W')

include h h'

/-- The objectness scores agree. -/
theorem same_object : W' (Proc.devRef .tc Cert.ReferenceIdeal.main_v26) = W (Proc.devRef .tc Cert.KernelIdeal.main_v7) := by
  funext i
  obtain ⟨i0, i1, i2, rfl⟩ : ∃ i0 i1 i2, i = ix3 i0 i1 i2 := ⟨_, _, _, eq_ix3 i⟩
  exact (h'.object i0 i1 i2).trans (h.object i0 i1 i2).symm

/-- The graspness scores agree. -/
theorem same_grasp : W' (Proc.devRef .tc Cert.ReferenceIdeal.main_v28) = W (Proc.devRef .tc Cert.KernelIdeal.main_v9) := by
  funext i
  obtain ⟨i0, i1, rfl⟩ : ∃ i0 i1, i = ix2 i0 i1 := ⟨_, _, eq_ix2 i⟩
  exact (h'.grasp i0 i1).trans (h.grasp i0 i1).symm

/-- The sampled points agree. -/
theorem same_xyz : W' (Proc.devRef .tc Cert.ReferenceIdeal.main_v41) = W (Proc.devRef .tc Cert.KernelIdeal.main_v46) := by
  funext i
  obtain ⟨i0, i1, i2, rfl⟩ : ∃ i0 i1 i2, i = ix3 i0 i1 i2 := ⟨_, _, _, eq_ix3 i⟩
  exact (h'.xyz i0 i1 i2).trans (h.xyz i0 i1 i2).symm

/-- The sampled indices agree. -/
theorem same_inds : W' (Proc.devRef .tc Cert.ReferenceIdeal.main_v39) = W (Proc.devRef .tc Cert.KernelIdeal.main_v39) := by
  funext i
  obtain ⟨i0, i1, rfl⟩ : ∃ i0 i1, i = ix2 i0 i1 := ⟨_, _, eq_ix2 i⟩
  exact (h'.inds i0 i1).trans (h.inds i0 i1).symm

/-- The gathered features agree. -/
theorem same_feat : W' (Proc.devRef .tc Cert.ReferenceIdeal.main_v45) = W (Proc.devRef .tc Cert.KernelIdeal.main_v49) := by
  funext i
  obtain ⟨i0, i1, i2, rfl⟩ : ∃ i0 i1 i2, i = ix3 i0 i1 i2 := ⟨_, _, _, eq_ix3 i⟩
  exact (h'.feat i0 i1 i2).trans (h.feat i0 i1 i2).symm

/-- The gathered graspness agree. -/
theorem same_grasp2 : W' (Proc.devRef .tc Cert.ReferenceIdeal.main_v46) = W (Proc.devRef .tc Cert.KernelIdeal.main_v47) := by
  funext i
  obtain ⟨i0, i1, rfl⟩ : ∃ i0 i1, i = ix2 i0 i1 := ⟨_, _, eq_ix2 i⟩
  exact (h'.grasp2 i0 i1).trans (h.grasp2 i0 i1).symm

/-- The approach directions agree. -/
theorem same_dir : W' (Proc.devRef .tc Cert.ReferenceIdeal.main_v73) = W (Proc.devRef .tc Cert.KernelIdeal.main_v57) := by
  funext i
  obtain ⟨i0, i1, i2, rfl⟩ : ∃ i0 i1 i2, i = ix3 i0 i1 i2 := ⟨_, _, _, eq_ix3 i⟩
  exact (h'.dir i0 i1 i2).trans (h.dir i0 i1 i2).symm

/-- The nearest template directions agree. -/
theorem same_view : W' (Proc.devRef .tc Cert.ReferenceIdeal.main_v90) = W (Proc.devRef .tc Cert.KernelIdeal.main_v58) := by
  funext i
  obtain ⟨i0, i1, rfl⟩ : ∃ i0 i1, i = ix2 i0 i1 := ⟨_, _, eq_ix2 i⟩
  have t := h'.view i0 i1
  rw [templates_eq] at t
  exact t.trans (h.view i0 i1).symm

/-- The rotations agree. -/
theorem same_rot : W' (Proc.devRef .tc Cert.ReferenceIdeal.main_v139) = W (Proc.devRef .tc Cert.KernelIdeal.main_v60) := by
  funext i
  obtain ⟨i0, i1, i2, i3, rfl⟩ : ∃ i0 i1 i2 i3, i = ix4 i0 i1 i2 i3 := ⟨_, _, _, _, eq_ix4 i⟩
  exact (h'.rot i0 i1 i2 i3).trans (h.rot i0 i1 i2 i3).symm

end Same

end Cert.Proof

end
-- ==== Proof.lean ====
/-
  The certificate: the kernel, its ideal form and the reference run, leave their arguments as they were and every
  counter at zero; the ideal form is the kernel's; and from equal arguments kernel and reference end with the same nine
  results over the extended reals. What the kernel leaves is `Kern.results` (KResults), what the reference leaves is
  `Ref.results` (RefRun); both are the functions of Spec, and Agree puts the two side by side.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.KRun
public import proofs.«01_k».proof.Proof.Agree
public import Idealize.ShloMosaic.Lib.Quiescent
public import Idealize.ShloMosaic.Init

@[expose] public section

noncomputable section

namespace Cert.Proof

open Idealize.ShloMosaic Idealize.ShloMosaic.TcCoe Idealize.SL.Sem

/-- The reference runs, leaves its arguments as they were, and ends with every counter at zero. -/
theorem reference_runs : quiescent_ReferenceIdeal (hReferenceIdeal := Cert.ReferenceIdeal.Gen.facts) := fun m g _ =>
  (θ_run _ _ _).mono (fun r h => ⟨fun c =>
    ⟨(h c).2 Cert.ReferenceIdeal.main_arg0 (by decide),
      (h c).2 Cert.ReferenceIdeal.main_arg1 (by decide),
      (h c).2 Cert.ReferenceIdeal.main_arg2 (by decide),
      (h c).2 Cert.ReferenceIdeal.main_arg3 (by decide),
      (h c).2 Cert.ReferenceIdeal.main_arg4 (by decide),
      (h c).2 Cert.ReferenceIdeal.main_arg5 (by decide),
      (h c).2 Cert.ReferenceIdeal.main_arg6 (by decide),
      (h c).2 Cert.ReferenceIdeal.main_arg7 (by decide),
      (h c).2 Cert.ReferenceIdeal.main_arg8 (by decide),
      (h c).2 Cert.ReferenceIdeal.main_arg9 (by decide),
      (h c).2 Cert.ReferenceIdeal.main_arg10 (by decide),
      (h c).2 Cert.ReferenceIdeal.main_arg11 (by decide),
      (h c).2 Cert.ReferenceIdeal.main_arg12 (by decide),
      (h c).2 Cert.ReferenceIdeal.main_arg13 (by decide),
      (h c).2 Cert.ReferenceIdeal.main_arg14 (by decide),
      (h c).2 Cert.ReferenceIdeal.main_arg15 (by decide),
      (h c).2 Cert.ReferenceIdeal.main_arg16 (by decide),
      (h c).2 Cert.ReferenceIdeal.main_arg17 (by decide)⟩,
    sem_eq_zero_of_no_sems (by decide) r.2⟩) (Ref.run m g)

open Cert.KernelIdeal.Gen in
/-- From equal arguments the kernel and the reference end with the same nine results, as extended reals. -/
theorem same_results : algebraic_KernelIdeal_ReferenceIdeal (hKernelIdeal := Cert.KernelIdeal.Gen.facts)
    (hReferenceIdeal := Cert.ReferenceIdeal.Gen.facts) := by
  intro m g m' g' _ ha
  have hr (c : Dev Cert.KernelIdeal.nD) : Ref.Results (Kern.input (W0 m g c))
      (StableHlo.finalContents Cert.ReferenceIdeal.Value.condOps Cert.ReferenceIdeal.Value.preI Cert.ReferenceIdeal.Value.bodyI
        Cert.ReferenceIdeal.Value.postI 1024 m' c) := by
    obtain ⟨e0, e1, e2, e3, e4, e5, e6, e7, e8, e9, e10, e11, e12, e13, e14, e15, e16, e17⟩ := ha c
    rw [← input_eq m g m' c e0 e1 e2 e3 e4 e5 e6 e7 e8 e9 e10 e11 e12 e13 e14 e15 e16 e17]
    exact Ref.results m' c
  refine ⟨fun c => W19 m g c (Proc.devRef .tc Cert.KernelIdeal.main_v7), fun c => W19 m g c (Proc.devRef .tc Cert.KernelIdeal.main_v9), fun c => W19 m g c (Proc.devRef .tc Cert.KernelIdeal.main_v46), fun c => W19 m g c (Proc.devRef .tc Cert.KernelIdeal.main_v39), fun c => W19 m g c (Proc.devRef .tc Cert.KernelIdeal.main_v49), fun c => W19 m g c (Proc.devRef .tc Cert.KernelIdeal.main_v47), fun c => W19 m g c (Proc.devRef .tc Cert.KernelIdeal.main_v57), fun c => W19 m g c (Proc.devRef .tc Cert.KernelIdeal.main_v58), fun c => W19 m g c (Proc.devRef .tc Cert.KernelIdeal.main_v60), ?_, ?_⟩
  · refine (θ_run _ _ _).mono (fun r h c => ?_) (run_contents m g)
    exact ⟨h c _ (mem_uc Cert.KernelIdeal.main_v7 (by decide)),
      h c _ (mem_uc Cert.KernelIdeal.main_v9 (by decide)),
      h c _ (mem_uc Cert.KernelIdeal.main_v46 (by decide)),
      h c _ (mem_uc Cert.KernelIdeal.main_v39 (by decide)),
      h c _ (mem_uc Cert.KernelIdeal.main_v49 (by decide)),
      h c _ (mem_uc Cert.KernelIdeal.main_v47 (by decide)),
      h c _ (mem_uc Cert.KernelIdeal.main_v57 (by decide)),
      h c _ (mem_uc Cert.KernelIdeal.main_v58 (by decide)),
      h c _ (mem_uc Cert.KernelIdeal.main_v60 (by decide)),
      (h c _ (mem_uc Cert.KernelIdeal.main_arg0 (by decide))).trans (W19_args m g c Cert.KernelIdeal.main_arg0 (by decide)),
      (h c _ (mem_uc Cert.KernelIdeal.main_arg1 (by decide))).trans (W19_args m g c Cert.KernelIdeal.main_arg1 (by decide)),
      (h c _ (mem_uc Cert.KernelIdeal.main_arg2 (by decide))).trans (W19_args m g c Cert.KernelIdeal.main_arg2 (by decide)),
      (h c _ (mem_uc Cert.KernelIdeal.main_arg3 (by decide))).trans (W19_args m g c Cert.KernelIdeal.main_arg3 (by decide)),
      (h c _ (mem_uc Cert.KernelIdeal.main_arg4 (by decide))).trans (W19_args m g c Cert.KernelIdeal.main_arg4 (by decide)),
      (h c _ (mem_uc Cert.KernelIdeal.main_arg5 (by decide))).trans (W19_args m g c Cert.KernelIdeal.main_arg5 (by decide)),
      (h c _ (mem_uc Cert.KernelIdeal.main_arg6 (by decide))).trans (W19_args m g c Cert.KernelIdeal.main_arg6 (by decide)),
      (h c _ (mem_uc Cert.KernelIdeal.main_arg7 (by decide))).trans (W19_args m g c Cert.KernelIdeal.main_arg7 (by decide)),
      (h c _ (mem_uc Cert.KernelIdeal.main_arg8 (by decide))).trans (W19_args m g c Cert.KernelIdeal.main_arg8 (by decide)),
      (h c _ (mem_uc Cert.KernelIdeal.main_arg9 (by decide))).trans (W19_args m g c Cert.KernelIdeal.main_arg9 (by decide)),
      (h c _ (mem_uc Cert.KernelIdeal.main_arg10 (by decide))).trans (W19_args m g c Cert.KernelIdeal.main_arg10 (by decide)),
      (h c _ (mem_uc Cert.KernelIdeal.main_arg11 (by decide))).trans (W19_args m g c Cert.KernelIdeal.main_arg11 (by decide)),
      (h c _ (mem_uc Cert.KernelIdeal.main_arg12 (by decide))).trans (W19_args m g c Cert.KernelIdeal.main_arg12 (by decide)),
      (h c _ (mem_uc Cert.KernelIdeal.main_arg13 (by decide))).trans (W19_args m g c Cert.KernelIdeal.main_arg13 (by decide)),
      (h c _ (mem_uc Cert.KernelIdeal.main_arg14 (by decide))).trans (W19_args m g c Cert.KernelIdeal.main_arg14 (by decide)),
      (h c _ (mem_uc Cert.KernelIdeal.main_arg15 (by decide))).trans (W19_args m g c Cert.KernelIdeal.main_arg15 (by decide)),
      (h c _ (mem_uc Cert.KernelIdeal.main_arg16 (by decide))).trans (W19_args m g c Cert.KernelIdeal.main_arg16 (by decide)),
      (h c _ (mem_uc Cert.KernelIdeal.main_arg17 (by decide))).trans (W19_args m g c Cert.KernelIdeal.main_arg17 (by decide))⟩
  · refine (θ_run _ _ _).mono (fun r h c => ?_) (Ref.run m' g')
    have hk := Kern.results m g c
    exact ⟨((h c).1 Cert.ReferenceIdeal.main_v26 (by decide)).trans (same_object hk (hr c)),
      ((h c).1 Cert.ReferenceIdeal.main_v28 (by decide)).trans (same_grasp hk (hr c)),
      ((h c).1 Cert.ReferenceIdeal.main_v41 (by decide)).trans (same_xyz hk (hr c)),
      ((h c).1 Cert.ReferenceIdeal.main_v39 (by decide)).trans (same_inds hk (hr c)),
      ((h c).1 Cert.ReferenceIdeal.main_v45 (by decide)).trans (same_feat hk (hr c)),
      ((h c).1 Cert.ReferenceIdeal.main_v46 (by decide)).trans (same_grasp2 hk (hr c)),
      ((h c).1 Cert.ReferenceIdeal.main_v73 (by decide)).trans (same_dir hk (hr c)),
      ((h c).1 Cert.ReferenceIdeal.main_v90 (by decide)).trans (same_view hk (hr c)),
      ((h c).1 Cert.ReferenceIdeal.main_v139 (by decide)).trans (same_rot hk (hr c)),
      (h c).2 Cert.ReferenceIdeal.main_arg0 (by decide),
      (h c).2 Cert.ReferenceIdeal.main_arg1 (by decide),
      (h c).2 Cert.ReferenceIdeal.main_arg2 (by decide),
      (h c).2 Cert.ReferenceIdeal.main_arg3 (by decide),
      (h c).2 Cert.ReferenceIdeal.main_arg4 (by decide),
      (h c).2 Cert.ReferenceIdeal.main_arg5 (by decide),
      (h c).2 Cert.ReferenceIdeal.main_arg6 (by decide),
      (h c).2 Cert.ReferenceIdeal.main_arg7 (by decide),
      (h c).2 Cert.ReferenceIdeal.main_arg8 (by decide),
      (h c).2 Cert.ReferenceIdeal.main_arg9 (by decide),
      (h c).2 Cert.ReferenceIdeal.main_arg10 (by decide),
      (h c).2 Cert.ReferenceIdeal.main_arg11 (by decide),
      (h c).2 Cert.ReferenceIdeal.main_arg12 (by decide),
      (h c).2 Cert.ReferenceIdeal.main_arg13 (by decide),
      (h c).2 Cert.ReferenceIdeal.main_arg14 (by decide),
      (h c).2 Cert.ReferenceIdeal.main_arg15 (by decide),
      (h c).2 Cert.ReferenceIdeal.main_arg16 (by decide),
      (h c).2 Cert.ReferenceIdeal.main_arg17 (by decide)⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_runs, trivial, same_results⟩

end Cert.Proof

end
